-- ==== Defs.lean ====
def Pre_Kernel [hPre_captions_in_range : Cert.Pre_captions_in_range.Facts] (m : (ℓ : Loc Cert.Kernel.nD Cert.Kernel.τ Cert.Kernel.sig) → Buf (Elt Bits) ℓ) : Prop :=
  ∀ c : Dev Cert.Kernel.nD,
    (Cert.Pre_captions_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_captions_in_range : Cert.Pre_captions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_captions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_captions_in_range [hPre_captions_in_range : Cert.Pre_captions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_captions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] [hPre_captions_in_range : Cert.Pre_captions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] [hPre_captions_in_range : Cert.Pre_captions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_captions_in_range [hReferenceIdeal : Cert.ReferenceIdeal.Facts] [hPre_captions_in_range : Cert.Pre_captions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_captions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "inv196" .f32 0x3BA72F05#32 ((1 / 196 : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_captions_in_range : Cert.Pre_captions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v1)) (v3 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_v38) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_captions_in_range : Cert.Pre_captions_in_range.Facts),
    quiescent_Kernel (hKernel := hKernel) (hPre_captions_in_range := hPre_captions_in_range)
    ∧ quiescent_KernelIdeal (hKernelIdeal := hKernelIdeal) (hPre_captions_in_range := hPre_captions_in_range)
    ∧ quiescent_ReferenceIdeal (hReferenceIdeal := hReferenceIdeal)
    ∧ quiescent_ReferenceIdeal_pre_captions_in_range (hReferenceIdeal := hReferenceIdeal) (hPre_captions_in_range := hPre_captions_in_range)
    ∧ preserves_Kernel_KernelIdeal
    ∧ algebraic_KernelIdeal_ReferenceIdeal (hKernelIdeal := hKernelIdeal) (hReferenceIdeal := hReferenceIdeal) (hPre_captions_in_range := hPre_captions_in_range)
-- ==== Pre_captions_in_range.lean ====
abbrev S64x196x2048 : Shape := ⟨3, ![64, 196, 2048]⟩
abbrev S64x22 : Shape := ⟨2, ![64, 22]⟩
abbrev S64 : Shape := ⟨1, ![64]⟩
abbrev S10000x512 : Shape := ⟨2, ![10000, 512]⟩
abbrev S2048x512 : Shape := ⟨2, ![2048, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S512x2048 : Shape := ⟨2, ![512, 2048]⟩
abbrev S2048 : Shape := ⟨1, ![2048]⟩
abbrev S2560x2048 : Shape := ⟨2, ![2560, 2048]⟩
abbrev S512x10000 : Shape := ⟨2, ![512, 10000]⟩
abbrev S10000 : Shape := ⟨1, ![10000]⟩
abbrev S_ : Shape := ⟨0, ![]⟩

class Facts : Prop where
  bcast_S_S64x22 : S_.BroadcastsInDim S64x22 (![] : Fin 0 → Fin S64x22.rank)

variable [Facts]

def fn {F : FTy → Type} [FloatOps F] (main_arg0 : FVec F S64x196x2048 .f32) (main_arg1 : IVec S64x22 32) (main_arg2 : IVec S64 32) (main_arg3 : FVec F S10000x512 .f32) (main_arg4 : FVec F S2048x512 .f32) (main_arg5 : FVec F S512 .f32) (main_arg6 : FVec F S512x512 .f32) (main_arg7 : FVec F S512 .f32) (main_arg8 : FVec F S512x1 .f32) (main_arg9 : FVec F S1 .f32) (main_arg10 : FVec F S2048x512 .f32) (main_arg11 : FVec F S512 .f32) (main_arg12 : FVec F S2048x512 .f32) (main_arg13 : FVec F S512 .f32) (main_arg14 : FVec F S512x2048 .f32) (main_arg15 : FVec F S2048 .f32) (main_arg16 : FVec F S2560x2048 .f32) (main_arg17 : FVec F S512x2048 .f32) (main_arg18 : FVec F S2048 .f32) (main_arg19 : FVec F S2048 .f32) (main_arg20 : FVec F S512x10000 .f32) (main_arg21 : FVec F S10000 .f32) : IVec S64x22 1 :=
  let main_c : IVec S_ 32 := constantI S_ 32 0#32
  let main_v0 : IVec S64x22 32 := broadcastInDim S64x22 ![] bcast_S_S64x22 main_c
  let main_v1 : IVec S64x22 1 := cmpi .sge main_arg1 main_v0
  let main_c_0 : IVec S_ 32 := constantI S_ 32 10000#32
  let main_v2 : IVec S64x22 32 := broadcastInDim S64x22 ![] bcast_S_S64x22 main_c_0
  let main_v3 : IVec S64x22 1 := cmpi .slt main_arg1 main_v2
  let main_v4 : IVec S64x22 1 := andi main_v1 main_v3
  main_v4
-- ==== Kernel.lean ====
abbrev S64x196x2048 : Shape := ⟨3, ![64, 196, 2048]⟩
abbrev S64x22 : Shape := ⟨2, ![64, 22]⟩
abbrev S64 : Shape := ⟨1, ![64]⟩
abbrev S10000x512 : Shape := ⟨2, ![10000, 512]⟩
abbrev S2048x512 : Shape := ⟨2, ![2048, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S512x2048 : Shape := ⟨2, ![512, 2048]⟩
abbrev S2048 : Shape := ⟨1, ![2048]⟩
abbrev S2560x2048 : Shape := ⟨2, ![2560, 2048]⟩
abbrev S512x10000 : Shape := ⟨2, ![512, 10000]⟩
abbrev S10000 : Shape := ⟨1, ![10000]⟩
abbrev S_ : Shape := ⟨0, ![]⟩
abbrev S64x21 : Shape := ⟨2, ![64, 21]⟩
abbrev S21x64 : Shape := ⟨2, ![21, 64]⟩
abbrev S1344 : Shape := ⟨1, ![1344]⟩
abbrev S1x2048 : Shape := ⟨2, ![1, 2048]⟩
abbrev S1344x2048 : Shape := ⟨2, ![1344, 2048]⟩
abbrev S168x2048 : Shape := ⟨2, ![168, 2048]⟩
abbrev S168x512 : Shape := ⟨2, ![168, 512]⟩
abbrev S1x512 : Shape := ⟨2, ![1, 512]⟩
abbrev S21x64x2048 : Shape := ⟨3, ![21, 64, 2048]⟩
abbrev S13312x512 : Shape := ⟨2, ![13312, 512]⟩
abbrev S13312x2048 : Shape := ⟨2, ![13312, 2048]⟩
abbrev S64x512 : Shape := ⟨2, ![64, 512]⟩
abbrev S8x196x2048 : Shape := ⟨3, ![8, 196, 2048]⟩
abbrev S1664x512 : Shape := ⟨2, ![1664, 512]⟩
abbrev S1664x2048 : Shape := ⟨2, ![1664, 2048]⟩
abbrev S8x512 : Shape := ⟨2, ![8, 512]⟩
abbrev S1x196 : Shape := ⟨2, ![1, 196]⟩
abbrev S1x196x2048 : Shape := ⟨3, ![1, 196, 2048]⟩
abbrev S196x2048 : Shape := ⟨2, ![196, 2048]⟩
abbrev S196x512 : Shape := ⟨2, ![196, 512]⟩
abbrev S12x512 : Shape := ⟨2, ![12, 512]⟩
abbrev S12x2048 : Shape := ⟨2, ![12, 2048]⟩
abbrev S8x2048 : Shape := ⟨2, ![8, 2048]⟩
abbrev S21 : Shape := ⟨1, ![21]⟩
abbrev S21x1 : Shape := ⟨2, ![21, 1]⟩
abbrev S1x64 : Shape := ⟨2, ![1, 64]⟩
abbrev S21x64x1 : Shape := ⟨3, ![21, 64, 1]⟩
abbrev S512x4608 : Shape := ⟨2, ![512, 4608]⟩
abbrev S1x1 : Shape := ⟨2, ![1, 1]⟩
abbrev S2048x2048 : Shape := ⟨2, ![2048, 2048]⟩
abbrev S21x64x512 : Shape := ⟨3, ![21, 64, 512]⟩
abbrev S21x64x196 : Shape := ⟨3, ![21, 64, 196]⟩
abbrev S3328x2048 : Shape := ⟨2, ![3328, 2048]⟩
abbrev S3328x512 : Shape := ⟨2, ![3328, 512]⟩
abbrev S21x16x2048 : Shape := ⟨3, ![21, 16, 2048]⟩
abbrev S16x512 : Shape := ⟨2, ![16, 512]⟩
abbrev S21x16x1 : Shape := ⟨3, ![21, 16, 1]⟩
abbrev S21x16x512 : Shape := ⟨3, ![21, 16, 512]⟩
abbrev S21x16x196 : Shape := ⟨3, ![21, 16, 196]⟩
abbrev S16x3328 : Shape := ⟨2, ![16, 3328]⟩
abbrev S16x208 : Shape := ⟨2, ![16, 208]⟩
abbrev S16x4608 : Shape := ⟨2, ![16, 4608]⟩
abbrev S16x2048 : Shape := ⟨2, ![16, 2048]⟩
abbrev S208x512 : Shape := ⟨2, ![208, 512]⟩
abbrev S1x208 : Shape := ⟨2, ![1, 208]⟩
abbrev S16 : Shape := ⟨1, ![16]⟩
abbrev S16x1 : Shape := ⟨2, ![16, 1]⟩
abbrev S1x16x2048 : Shape := ⟨3, ![1, 16, 2048]⟩
abbrev S1x16x1 : Shape := ⟨3, ![1, 16, 1]⟩
abbrev S1x16x512 : Shape := ⟨3, ![1, 16, 512]⟩
abbrev S16x196 : Shape := ⟨2, ![16, 196]⟩
abbrev S1x16x196 : Shape := ⟨3, ![1, 16, 196]⟩
abbrev S1344x512 : Shape := ⟨2, ![1344, 512]⟩
abbrev S1x10000 : Shape := ⟨2, ![1, 10000]⟩
abbrev S1344x1 : Shape := ⟨2, ![1344, 1]⟩
abbrev S1344x10000 : Shape := ⟨2, ![1344, 10000]⟩
abbrev S336x512 : Shape := ⟨2, ![336, 512]⟩
abbrev S512x1280 : Shape := ⟨2, ![512, 1280]⟩
abbrev S1x1280 : Shape := ⟨2, ![1, 1280]⟩
abbrev S336x1 : Shape := ⟨2, ![336, 1]⟩
abbrev S336x1280 : Shape := ⟨2, ![336, 1280]⟩
abbrev S21x64x10000 : Shape := ⟨3, ![21, 64, 10000]⟩
abbrev S64x21x10000 : Shape := ⟨3, ![64, 21, 10000]⟩
abbrev S64x21x196 : Shape := ⟨3, ![64, 21, 196]⟩

abbrev nBuf : Space → Nat
  | .hbm => 65
  | .vmem => 54
  | .smem => 1
  | _ => 0

abbrev bufTy : (tb : Table) → Fin (tcTables nBuf tb) → BufTy
  | .hbm, ⟨0, _⟩ => ⟨S64x196x2048, .f32⟩
  | .hbm, ⟨1, _⟩ => ⟨S64x22, .i32⟩
  | .hbm, ⟨2, _⟩ => ⟨S64, .i32⟩
  | .hbm, ⟨3, _⟩ => ⟨S10000x512, .f32⟩
  | .hbm, ⟨4, _⟩ => ⟨S2048x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S2048x512, .f32⟩
  | .hbm, ⟨11, _⟩ => ⟨S512, .f32⟩
  | .hbm, ⟨12, _⟩ => ⟨S2048x512, .f32⟩
  | .hbm, ⟨13, _⟩ => ⟨S512, .f32⟩
  | .hbm, ⟨14, _⟩ => ⟨S512x2048, .f32⟩
  | .hbm, ⟨15, _⟩ => ⟨S2048, .f32⟩
  | .hbm, ⟨16, _⟩ => ⟨S2560x2048, .f32⟩
  | .hbm, ⟨17, _⟩ => ⟨S512x2048, .f32⟩
  | .hbm, ⟨18, _⟩ => ⟨S2048, .f32⟩
  | .hbm, ⟨19, _⟩ => ⟨S2048, .f32⟩
  | .hbm, ⟨20, _⟩ => ⟨S512x10000, .f32⟩
  | .hbm, ⟨21, _⟩ => ⟨S10000, .f32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64x21, .i32⟩
  | .hbm, ⟨26, _⟩ => ⟨S21x64, .i32⟩
  | .hbm, ⟨27, _⟩ => ⟨S512x2048, .f32⟩
  | .hbm, ⟨28, _⟩ => ⟨S2048, .f32⟩
  | .hbm, ⟨29, _⟩ => ⟨S1x2048, .f32⟩
  | .hbm, ⟨30, _⟩ => ⟨S1344x2048, .f32⟩
  | .hbm, ⟨31, _⟩ => ⟨S21x64x2048, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S13312x512, .bf16⟩
  | .hbm, ⟨36, _⟩ => ⟨S13312x2048, .bf16⟩
  | .hbm, ⟨37, _⟩ => ⟨S64x512, .f32⟩
  | .hbm, ⟨38, _⟩ => ⟨S64x512, .f32⟩
  | .hbm, ⟨39, _⟩ => ⟨S21, .i32⟩
  | .hbm, ⟨40, _⟩ => ⟨S21x1, .i32⟩
  | .hbm, ⟨41, _⟩ => ⟨S1x64, .i32⟩
  | .hbm, ⟨42, _⟩ => ⟨S21x64, .i32⟩
  | .hbm, ⟨43, _⟩ => ⟨S21x64, .i32⟩
  | .hbm, ⟨44, _⟩ => ⟨S21x64, .i1⟩
  | .hbm, ⟨45, _⟩ => ⟨S21x64, .f32⟩
  | .hbm, ⟨46, _⟩ => ⟨S21x64x1, .f32⟩
  | .hbm, ⟨47, _⟩ => ⟨S512x4608, .f32⟩
  | .hbm, ⟨48, _⟩ => ⟨S512x4608, .bf16⟩
  | .hbm, ⟨49, _⟩ => ⟨S1x512, .f32⟩
  | .hbm, ⟨50, _⟩ => ⟨S1x512, .f32⟩
  | .hbm, ⟨51, _⟩ => ⟨S1x512, .bf16⟩
  | .hbm, ⟨52, _⟩ => ⟨S1x1, .f32⟩
  | .hbm, ⟨53, _⟩ => ⟨S1x2048, .f32⟩
  | .hbm, ⟨54, _⟩ => ⟨S2048x2048, .f32⟩
  | .hbm, ⟨55, _⟩ => ⟨S2048x2048, .bf16⟩
  | .hbm, ⟨56, _⟩ => ⟨S21x64x512, .f32⟩
  | .hbm, ⟨57, _⟩ => ⟨S21x64x196, .f32⟩
  | .hbm, ⟨58, _⟩ => ⟨S1344x512, .f32⟩
  | .hbm, ⟨59, _⟩ => ⟨S1x10000, .f32⟩
  | .hbm, ⟨60, _⟩ => ⟨S1344x1, .f32⟩
  | .hbm, ⟨61, _⟩ => ⟨S1344x10000, .f32⟩
  | .hbm, ⟨62, _⟩ => ⟨S21x64x10000, .f32⟩
  | .hbm, ⟨63, _⟩ => ⟨S64x21x10000, .f32⟩
  | .hbm, ⟨64, _⟩ => ⟨S64x21x196, .f32⟩
  | .local _ .vmem, ⟨0, _⟩ => ⟨S10000x512, .f32⟩
  | .local _ .vmem, ⟨1, _⟩ => ⟨S512x2048, .f32⟩
  | .local _ .vmem, ⟨2, _⟩ => ⟨S1x2048, .f32⟩
  | .local _ .vmem, ⟨3, _⟩ => ⟨S168x2048, .f32⟩
  | .local _ .vmem, ⟨4, _⟩ => ⟨S168x2048, .f32⟩
  | .local _ .vmem, ⟨5, _⟩ => ⟨S168x512, .f32⟩
  | .local _ .vmem, ⟨6, _⟩ => ⟨S8x196x2048, .f32⟩
  | .local _ .vmem, ⟨7, _⟩ => ⟨S8x196x2048, .f32⟩
  | .local _ .vmem, ⟨8, _⟩ => ⟨S2048x512, .f32⟩
  | .local _ .vmem, ⟨9, _⟩ => ⟨S1x512, .f32⟩
  | .local _ .vmem, ⟨10, _⟩ => ⟨S2048x512, .f32⟩
  | .local _ .vmem, ⟨11, _⟩ => ⟨S1x512, .f32⟩
  | .local _ .vmem, ⟨12, _⟩ => ⟨S2048x512, .f32⟩
  | .local _ .vmem, ⟨13, _⟩ => ⟨S1x512, .f32⟩
  | .local _ .vmem, ⟨14, _⟩ => ⟨S1664x512, .bf16⟩
  | .local _ .vmem, ⟨15, _⟩ => ⟨S1664x512, .bf16⟩
  | .local _ .vmem, ⟨16, _⟩ => ⟨S1664x2048, .bf16⟩
  | .local _ .vmem, ⟨17, _⟩ => ⟨S1664x2048, .bf16⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S3328x2048, .bf16⟩
  | .local _ .vmem, ⟨23, _⟩ => ⟨S3328x2048, .bf16⟩
  | .local _ .vmem, ⟨24, _⟩ => ⟨S3328x512, .bf16⟩
  | .local _ .vmem, ⟨25, _⟩ => ⟨S3328x512, .bf16⟩
  | .local _ .vmem, ⟨26, _⟩ => ⟨S21x16x2048, .f32⟩
  | .local _ .vmem, ⟨27, _⟩ => ⟨S21x16x2048, .f32⟩
  | .local _ .vmem, ⟨28, _⟩ => ⟨S16x512, .f32⟩
  | .local _ .vmem, ⟨29, _⟩ => ⟨S16x512, .f32⟩
  | .local _ .vmem, ⟨30, _⟩ => ⟨S16x512, .f32⟩
  | .local _ .vmem, ⟨31, _⟩ => ⟨S16x512, .f32⟩
  | .local _ .vmem, ⟨32, _⟩ => ⟨S21x16x1, .f32⟩
  | .local _ .vmem, ⟨33, _⟩ => ⟨S21x16x1, .f32⟩
  | .local _ .vmem, ⟨34, _⟩ => ⟨S512x4608, .bf16⟩
  | .local _ .vmem, ⟨35, _⟩ => ⟨S1x512, .f32⟩
  | .local _ .vmem, ⟨36, _⟩ => ⟨S1x512, .bf16⟩
  | .local _ .vmem, ⟨37, _⟩ => ⟨S1x1, .f32⟩
  | .local _ .vmem, ⟨38, _⟩ => ⟨S1x2048, .f32⟩
  | .local _ .vmem, ⟨39, _⟩ => ⟨S2048x2048, .bf16⟩
  | .local _ .vmem, ⟨40, _⟩ => ⟨S21x16x512, .f32⟩
  | .local _ .vmem, ⟨41, _⟩ => ⟨S21x16x512, .f32⟩
  | .local _ .vmem, ⟨42, _⟩ => ⟨S21x16x196, .f32⟩
  | .local _ .vmem, ⟨43, _⟩ => ⟨S21x16x196, .f32⟩
  | .local _ .vmem, ⟨44, _⟩ => ⟨S336x512, .f32⟩
  | .local _ .vmem, ⟨45, _⟩ => ⟨S336x512, .f32⟩
  | .local _ .vmem, ⟨46, _⟩ => ⟨S512x1280, .f32⟩
  | .local _ .vmem, ⟨47, _⟩ => ⟨S512x1280, .f32⟩
  | .local _ .vmem, ⟨48, _⟩ => ⟨S1x1280, .f32⟩
  | .local _ .vmem, ⟨49, _⟩ => ⟨S1x1280, .f32⟩
  | .local _ .vmem, ⟨50, _⟩ => ⟨S336x1, .f32⟩
  | .local _ .vmem, ⟨51, _⟩ => ⟨S336x1, .f32⟩
  | .local _ .vmem, ⟨52, _⟩ => ⟨S336x1280, .f32⟩
  | .local _ .vmem, ⟨53, _⟩ => ⟨S336x1280, .f32⟩
  | .local _ .smem, ⟨0, _⟩ => ⟨S1344, .i32⟩
  | _, _ => ⟨S64x196x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13_0 : Ref sig .tc := ⟨.hbm, 35, rfl⟩
abbrev main_v13_1 : Ref sig .tc := ⟨.hbm, 36, rfl⟩
abbrev main_v13_2 : Ref sig .tc := ⟨.hbm, 37, rfl⟩
abbrev main_v13_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31_0 : Ref sig .tc := ⟨.hbm, 56, rfl⟩
abbrev main_v31_1 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg11_0 : Ref sig .tc := ⟨.vmem, 39, rfl⟩
abbrev cc2_stg12_0 : Ref sig .tc := ⟨.vmem, 40, rfl⟩
abbrev cc2_stg12_1 : Ref sig .tc := ⟨.vmem, 41, rfl⟩
abbrev cc2_stg13_0 : Ref sig .tc := ⟨.vmem, 42, rfl⟩
abbrev cc2_stg13_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg2_1 : Ref sig .tc := ⟨.vmem, 49, rfl⟩
abbrev cc3_stg3_0 : Ref sig .tc := ⟨.vmem, 50, rfl⟩
abbrev cc3_stg3_1 : Ref sig .tc := ⟨.vmem, 51, rfl⟩
abbrev cc3_stg4_0 : Ref sig .tc := ⟨.vmem, 52, rfl⟩
abbrev cc3_stg4_1 : Ref sig .tc := ⟨.vmem, 53, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc1_sem10_0 : DmaSem sig := 19
abbrev cc1_sem10_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem10_0 : DmaSem sig := 37
abbrev cc2_sem11_0 : DmaSem sig := 38
abbrev cc2_sem12_0 : DmaSem sig := 39
abbrev cc2_sem12_1 : DmaSem sig := 40
abbrev cc2_sem13_0 : DmaSem sig := 41
abbrev cc2_sem13_1 : DmaSem sig := 42
abbrev cc3_sem0_0 : DmaSem sig := 43
abbrev cc3_sem0_1 : DmaSem sig := 44
abbrev cc3_sem1_0 : DmaSem sig := 45
abbrev cc3_sem1_1 : DmaSem sig := 46
abbrev cc3_sem2_0 : DmaSem sig := 47
abbrev cc3_sem2_1 : DmaSem sig := 48
abbrev cc3_sem3_0 : DmaSem sig := 49
abbrev cc3_sem3_1 : DmaSem sig := 50
abbrev cc3_sem4_0 : DmaSem sig := 51
abbrev cc3_sem4_1 : DmaSem sig := 52

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c168_i32 : BitVec 32 := 168#32
  let v0 : BitVec 32 := Scalar.muli arg0 c168_i32
  let c0_i32 : BitVec 32 := 0#32
  let v1 : BitVec 32 := Scalar.addi v0 c0_i32
  let v2 : Index := Scalar.indexCast v1
  ![v2.toNat]
def k0_off2 (v3 : BitVec 32) : Fin 2 → Nat :=
  let v4 : Index := Scalar.indexCast v3
  let c0 : Index := 0#32
  ![v4.toNat, 0]

def k0_chk1 (v3 : BitVec 32) : Prop :=
  (∀ a, (k0_off2 v3) a + S1x512.size a ≤ S10000x512.size a)
theorem k0_off2_inb : ∀ (v3 : BitVec 32) (k0_hw1 : k0_chk1 v3), ∀ a, (k0_off2 v3) a + S1x512.size a ≤ S10000x512.size a := fun v3 k0_hw1 => k0_hw1

def k0_off3 (i : grid0.Coords) : Fin 1 → Nat :=
  let arg0 : BitVec 32 := BitVec.ofNat 32 (i 0).val
  let c168_i32 : BitVec 32 := 168#32
  let v0 : BitVec 32 := Scalar.muli arg0 c168_i32
  let c1_i32 : BitVec 32 := 1#32
  let v9 : BitVec 32 := Scalar.addi v0 c1_i32
  let v10 : Index := Scalar.indexCast v9
  ![v10.toNat]
def k0_off4 (v11 : BitVec 32) : Fin 2 → Nat :=
  let v12 : Index := Scalar.indexCast v11
  let c0_2 : Index := 0#32
  ![v12.toNat, 0]

def k0_chk2 (v11 : BitVec 32) : Prop :=
  (∀ a, (k0_off4 v11) a + S1x512.size a ≤ S10000x512.size a)
theorem k0_off4_inb : ∀ (v11 : BitVec 32) (k0_hw2 : k0_chk2 v11), ∀ a, (k0_off4 v11) a + S1x512.size a ≤ S10000x512.size a := fun v11 k0_hw2 => k0_hw2

def k0_off5 (i : grid0.Coords) : Fin 1 → Nat :=
  let arg0 : BitVec 32 := BitVec.ofNat 32 (i 0).val
  let c168_i32 : BitVec 32 := 168#32
  let v0 : BitVec 32 := Scalar.muli arg0 c168_i32
  let c2_i32 : BitVec 32 := 2#32
  let v17 : BitVec 32 := Scalar.addi v0 c2_i32
  let v18 : Index := Scalar.indexCast v17
  ![v18.toNat]
def k0_off6 (v19 : BitVec 32) : Fin 2 → Nat :=
  let v20 : Index := Scalar.indexCast v19
  let c0_4 : Index := 0#32
  ![v20.toNat, 0]

def k0_chk3 (v19 : BitVec 32) : Prop :=
  (∀ a, (k0_off6 v19) a + S1x512.size a ≤ S10000x512.size a)
theorem k0_off6_inb : ∀ (v19 : BitVec 32) (k0_hw3 : k0_chk3 v19), ∀ a, (k0_off6 v19) a + S1x512.size a ≤ S10000x512.size a := fun v19 k0_hw3 => k0_hw3

def k0_off7 (i : grid0.Coords) : Fin 1 → Nat :=
  let arg0 : BitVec 32 := BitVec.ofNat 32 (i 0).val
  let c168_i32 : BitVec 32 := 168#32
  let v0 : BitVec 32 := Scalar.muli arg0 c168_i32
  let c3_i32 : BitVec 32 := 3#32
  let v25 : BitVec 32 := Scalar.addi v0 c3_i32
  let v26 : Index := Scalar.indexCast v25
  ![v26.toNat]
def k0_off8 (v27 : BitVec 32) : Fin 2 → Nat :=
  let v28 : Index := Scalar.indexCast v27
  let c0_6 : Index := 0#32
  ![v28.toNat, 0]

def k0_chk4 (v27 : BitVec 32) : Prop :=
  (∀ a, (k0_off8 v27) a + S1x512.size a ≤ S10000x512.size a)
theorem k0_off8_inb : ∀ (v27 : BitVec 32) (k0_hw4 : k0_chk4 v27), ∀ a, (k0_off8 v27) a + S1x512.size a ≤ S10000x512.size a := fun v27 k0_hw4 => k0_hw4

def k0_off9 (i : grid0.Coords) : Fin 1 → Nat :=
  let arg0 : BitVec 32 := BitVec.ofNat 32 (i 0).val
  let c168_i32 : BitVec 32 := 168#32
  let v0 : BitVec 32 := Scalar.muli arg0 c168_i32
  let c4_i32 : BitVec 32 := 4#32
  let v33 : BitVec 32 := Scalar.addi v0 c4_i32
  let v34 : Index := Scalar.indexCast v33
  ![v34.toNat]
def k0_off10 (v35 : BitVec 32) : Fin 2 → Nat :=
  let v36 : Index := Scalar.indexCast v35
  let c0_8 : Index := 0#32
  ![v36.toNat, 0]

def k0_chk5 (v35 : BitVec 32) : Prop :=
  (∀ a, (k0_off10 v35) a + S1x512.size a ≤ S10000x512.size a)
theorem k0_off10_inb : ∀ (v35 : BitVec 32) (k0_hw5 : k0_chk5 v35), ∀ a, (k0_off10 v35) a + S1x512.size a ≤ S10000x512.size a := fun v35 k0_hw5 => k0_hw5

def k0_off11 (i : grid0.Coords) : Fin 1 → Nat :=
  let arg0 : BitVec 32 := BitVec.ofNat 32 (i 0).val
  let c168_i32 : BitVec 32 := 168#32
  let v0 : BitVec 32 := Scalar.muli arg0 c168_i32
  let c5_i32 : BitVec 32 := 5#32
  let v41 : BitVec 32 := Scalar.addi v0 c5_i32
  let v42 : Index := Scalar.indexCast v41
  ![v42.toNat]
def k0_off12 (v43 : BitVec 32) : Fin 2 → Nat :=
  let v44 : Index := Scalar.indexCast v43
  let c0_10 : Index := 0#32
  ![v44.toNat, 0]

def k0_chk6 (v43 : BitVec 32) : Prop :=
  (∀ a, (k0_off12 v43) a + S1x512.size a ≤ S10000x512.size a)
theorem k0_off12_inb : ∀ (v43 : BitVec 32) (k0_hw6 : k0_chk6 v43), ∀ a, (k0_off12 v43) a + S1x512.size a ≤ S10000x512.size a := fun v43 k0_hw6 => k0_hw6

def k0_off13 (i : grid0.Coords) : Fin 1 → Nat :=
  let arg0 : BitVec 32 := BitVec.ofNat 32 (i 0).val
  let c168_i32 : BitVec 32 := 168#32
  let v0 : BitVec 32 := Scalar.muli arg0 c168_i32
  let c6_i32 : BitVec 32 := 6#32
  let v49 : BitVec 32 := Scalar.addi v0 c6_i32
  let v50 : Index := Scalar.indexCast v49
  ![v50.toNat]
def k0_off14 (v51 : BitVec 32) : Fin 2 → Nat :=
  let v52 : Index := Scalar.indexCast v51
  let c0_12 : Index := 0#32
  ![v52.toNat, 0]

def k0_chk7 (v51 : BitVec 32) : Prop :=
  (∀ a, (k0_off14 v51) a + S1x512.size a ≤ S10000x512.size a)
theorem k0_off14_inb : ∀ (v51 : BitVec 32) (k0_hw7 : k0_chk7 v51), ∀ a, (k0_off14 v51) a + S1x512.size a ≤ S10000x512.size a := fun v51 k0_hw7 => k0_hw7

def k0_off15 (i : grid0.Coords) : Fin 1 → Nat :=
  let arg0 : BitVec 32 := BitVec.ofNat 32 (i 0).val
  let c168_i32 : BitVec 32 := 168#32
  let v0 : BitVec 32 := Scalar.muli arg0 c168_i32
  let c7_i32 : BitVec 32 := 7#32
  let v57 : BitVec 32 := Scalar.addi v0 c7_i32
  let v58 : Index := Scalar.indexCast v57
  ![v58.toNat]
def k0_off16 (v59 : BitVec 32) : Fin 2 → Nat :=
  let v60 : Index := Scalar.indexCast v59
  let c0_14 : Index := 0#32
  ![v60.toNat, 0]

def k0_chk8 (v59 : BitVec 32) : Prop :=
  (∀ a, (k0_off16 v59) a + S1x512.size a ≤ S10000x512.size a)
theorem k0_off16_inb : ∀ (v59 : BitVec 32) (k0_hw8 : k0_chk8 v59), ∀ a, (k0_off16 v59) a + S1x512.size a ≤ S10000x512.size a := fun v59 k0_hw8 => k0_hw8

def k0_off17 (i : grid0.Coords) : Fin 1 → Nat :=
  let arg0 : BitVec 32 := BitVec.ofNat 32 (i 0).val
  let c168_i32 : BitVec 32 := 168#32
  let v0 : BitVec 32 := Scalar.muli arg0 c168_i32
  let c8_i32 : BitVec 32 := 8#32
  let v65 : BitVec 32 := Scalar.addi v0 c8_i32
  let v66 : Index := Scalar.indexCast v65
  ![v66.toNat]
def k0_off18 (v67 : BitVec 32) : Fin 2 → Nat :=
  let v68 : Index := Scalar.indexCast v67
  let c0_16 : Index := 0#32
  ![v68.toNat, 0]

def k0_chk9 (v67 : BitVec 32) : Prop :=
  (∀ a, (k0_off18 v67) a + S1x512.size a ≤ S10000x512.size a)
theorem k0_off18_inb : ∀ (v67 : BitVec 32) (k0_hw9 : k0_chk9 v67), ∀ a, (k0_off18 v67) a + S1x512.size a ≤ S10000x512.size a := fun v67 k0_hw9 => k0_hw9

def k0_off19 (i : grid0.Coords) : Fin 1 → Nat :=
  let arg0 : BitVec 32 := BitVec.ofNat 32 (i 0).val
  let c168_i32 : BitVec 32 := 168#32
  let v0 : BitVec 32 := Scalar.muli arg0 c168_i32
  let c9_i32 : BitVec 32 := 9#32
  let v73 : BitVec 32 := Scalar.addi v0 c9_i32
  let v74 : Index := Scalar.indexCast v73
  ![v74.toNat]
def k0_off20 (v75 : BitVec 32) : Fin 2 → Nat :=
  let v76 : Index := Scalar.indexCast v75
  let c0_18 : Index := 0#32
  ![v76.toNat, 0]

def k0_chk10 (v75 : BitVec 32) : Prop :=
  (∀ a, (k0_off20 v75) a + S1x512.size a ≤ S10000x512.size a)
theorem k0_off20_inb : ∀ (v75 : BitVec 32) (k0_hw10 : k0_chk10 v75), ∀ a, (k0_off20 v75) a + S1x512.size a ≤ S10000x512.size a := fun v75 k0_hw10 => k0_hw10

def k0_off21 (i : grid0.Coords) : Fin 1 → Nat :=
  let arg0 : BitVec 32 := BitVec.ofNat 32 (i 0).val
  let c168_i32 : BitVec 32 := 168#32
  let v0 : BitVec 32 := Scalar.muli arg0 c168_i32
  let c10_i32 : BitVec 32 := 10#32
  let v81 : BitVec 32 := Scalar.addi v0 c10_i32
  let v82 : Index := Scalar.indexCast v81
  ![v82.toNat]
def k0_off22 (v83 : BitVec 32) : Fin 2 → Nat :=
  let v84 : Index := Scalar.indexCast v83
  let c0_20 : Index := 0#32
  ![v84.toNat, 0]

def k0_chk11 (v83 : BitVec 32) : Prop :=
  (∀ a, (k0_off22 v83) a + S1x512.size a ≤ S10000x512.size a)
theorem k0_off22_inb : ∀ (v83 : BitVec 32) (k0_hw11 : k0_chk11 v83), ∀ a, (k0_off22 v83) a + S1x512.size a ≤ S10000x512.size a := fun v83 k0_hw11 => k0_hw11

def k0_off23 (i : grid0.Coords) : Fin 1 → Nat :=
  let arg0 : BitVec 32 := BitVec.ofNat 32 (i 0).val
  let c168_i32 : BitVec 32 := 168#32
  let v0 : BitVec 32 := Scalar.muli arg0 c168_i32
  let c11_i32 : BitVec 32 := 11#32
  let v89 : BitVec 32 := Scalar.addi v0 c11_i32
  let v90 : Index := Scalar.indexCast v89
  ![v90.toNat]
def k0_off24 (v91 : BitVec 32) : Fin 2 → Nat :=
  let v92 : Index := Scalar.indexCast v91
  let c0_22 : Index := 0#32
  ![v92.toNat, 0]

def k0_chk12 (v91 : BitVec 32) : Prop :=
  (∀ a, (k0_off24 v91) a + S1x512.size a ≤ S10000x512.size a)
theorem k0_off24_inb : ∀ (v91 : BitVec 32) (k0_hw12 : k0_chk12 v91), ∀ a, (k0_off24 v91) a + S1x512.size a ≤ S10000x512.size a := fun v91 k0_hw12 => k0_hw12

def k0_off25 (i : grid0.Coords) : Fin 1 → Nat :=
  let arg0 : BitVec 32 := BitVec.ofNat 32 (i 0).val
  let c168_i32 : BitVec 32 := 168#32
  let v0 : BitVec 32 := Scalar.muli arg0 c168_i32
  let c12_i32 : BitVec 32 := 12#32
  let v97 : BitVec 32 := Scalar.addi v0 c12_i32
  let v98 : Index := Scalar.indexCast v97
  ![v98.toNat]
def k0_off26 (v99 : BitVec 32) : Fin 2 → Nat :=
  let v100 : Index := Scalar.indexCast v99
  let c0_24 : Index := 0#32
  ![v100.toNat, 0]

def k0_chk13 (v99 : BitVec 32) : Prop :=
  (∀ a, (k0_off26 v99) a + S1x512.size a ≤ S10000x512.size a)
theorem k0_off26_inb : ∀ (v99 : BitVec 32) (k0_hw13 : k0_chk13 v99), ∀ a, (k0_off26 v99) a + S1x512.size a ≤ S10000x512.size a := fun v99 k0_hw13 => k0_hw13

def k0_off27 (i : grid0.Coords) : Fin 1 → Nat :=
  let arg0 : BitVec 32 := BitVec.ofNat 32 (i 0).val
  let c168_i32 : BitVec 32 := 168#32
  let v0 : BitVec 32 := Scalar.muli arg0 c168_i32
  let c13_i32 : BitVec 32 := 13#32
  let v105 : BitVec 32 := Scalar.addi v0 c13_i32
  let v106 : Index := Scalar.indexCast v105
  ![v106.toNat]
def k0_off28 (v107 : BitVec 32) : Fin 2 → Nat :=
  let v108 : Index := Scalar.indexCast v107
  let c0_26 : Index := 0#32
  ![v108.toNat, 0]

def k0_chk14 (v107 : BitVec 32) : Prop :=
  (∀ a, (k0_off28 v107) a + S1x512.size a ≤ S10000x512.size a)
theorem k0_off28_inb : ∀ (v107 : BitVec 32) (k0_hw14 : k0_chk14 v107), ∀ a, (k0_off28 v107) a + S1x512.size a ≤ S10000x512.size a := fun v107 k0_hw14 => k0_hw14

def k0_off29 (i : grid0.Coords) : Fin 1 → Nat :=
  let arg0 : BitVec 32 := BitVec.ofNat 32 (i 0).val
  let c168_i32 : BitVec 32 := 168#32
  let v0 : BitVec 32 := Scalar.muli arg0 c168_i32
  let c14_i32 : BitVec 32 := 14#32
  let v113 : BitVec 32 := Scalar.addi v0 c14_i32
  let v114 : Index := Scalar.indexCast v113
  ![v114.toNat]
def k0_off30 (v115 : BitVec 32) : Fin 2 → Nat :=
  let v116 : Index := Scalar.indexCast v115
  let c0_28 : Index := 0#32
  ![v116.toNat, 0]

def k0_chk15 (v115 : BitVec 32) : Prop :=
  (∀ a, (k0_off30 v115) a + S1x512.size a ≤ S10000x512.size a)
theorem k0_off30_inb : ∀ (v115 : BitVec 32) (k0_hw15 : k0_chk15 v115), ∀ a, (k0_off30 v115) a + S1x512.size a ≤ S10000x512.size a := fun v115 k0_hw15 => k0_hw15

def k0_off31 (i : grid0.Coords) : Fin 1 → Nat :=
  let arg0 : BitVec 32 := BitVec.ofNat 32 (i 0).val
  let c168_i32 : BitVec 32 := 168#32
  let v0 : BitVec 32 := Scalar.muli arg0 c168_i32
  let c15_i32 : BitVec 32 := 15#32
  let v121 : BitVec 32 := Scalar.addi v0 c15_i32
  let v122 : Index := Scalar.indexCast v121
  ![v122.toNat]
def k0_off32 (v123 : BitVec 32) : Fin 2 → Nat :=
  let v124 : Index := Scalar.indexCast v123
  let c0_30 : Index := 0#32
  ![v124.toNat, 0]

def k0_chk16 (v123 : BitVec 32) : Prop :=
  (∀ a, (k0_off32 v123) a + S1x512.size a ≤ S10000x512.size a)
theorem k0_off32_inb : ∀ (v123 : BitVec 32) (k0_hw16 : k0_chk16 v123), ∀ a, (k0_off32 v123) a + S1x512.size a ≤ S10000x512.size a := fun v123 k0_hw16 => k0_hw16

def k0_off33 (i : grid0.Coords) : Fin 1 → Nat :=
  let arg0 : BitVec 32 := BitVec.ofNat 32 (i 0).val
  let c168_i32 : BitVec 32 := 168#32
  let v0 : BitVec 32 := Scalar.muli arg0 c168_i32
  let c16_i32 : BitVec 32 := 16#32
  let v129 : BitVec 32 := Scalar.addi v0 c16_i32
  let v130 : Index := Scalar.indexCast v129
  ![v130.toNat]
def k0_off34 (v131 : BitVec 32) : Fin 2 → Nat :=
  let v132 : Index := Scalar.indexCast v131
  let c0_32 : Index := 0#32
  ![v132.toNat, 0]

def k0_chk17 (v131 : BitVec 32) : Prop :=
  (∀ a, (k0_off34 v131) a + S1x512.size a ≤ S10000x512.size a)
theorem k0_off34_inb : ∀ (v131 : BitVec 32) (k0_hw17 : k0_chk17 v131), ∀ a, (k0_off34 v131) a + S1x512.size a ≤ S10000x512.size a := fun v131 k0_hw17 => k0_hw17

def k0_off35 (i : grid0.Coords) : Fin 1 → Nat :=
  let arg0 : BitVec 32 := BitVec.ofNat 32 (i 0).val
  let c168_i32 : BitVec 32 := 168#32
  let v0 : BitVec 32 := Scalar.muli arg0 c168_i32
  let c17_i32 : BitVec 32 := 17#32
  let v137 : BitVec 32 := Scalar.addi v0 c17_i32
  let v138 : Index := Scalar.indexCast v137
  ![v138.toNat]
def k0_off36 (v139 : BitVec 32) : Fin 2 → Nat :=
  let v140 : Index := Scalar.indexCast v139
  let c0_34 : Index := 0#32
  ![v140.toNat, 0]

def k0_chk18 (v139 : BitVec 32) : Prop :=
  (∀ a, (k0_off36 v139) a + S1x512.size a ≤ S10000x512.size a)
theorem k0_off36_inb : ∀ (v139 : BitVec 32) (k0_hw18 : k0_chk18 v139), ∀ a, (k0_off36 v139) a + S1x512.size a ≤ S10000x512.size a := fun v139 k0_hw18 => k0_hw18

def k0_off37 (i : grid0.Coords) : Fin 1 → Nat :=
  let arg0 : BitVec 32 := BitVec.ofNat 32 (i 0).val
  let c168_i32 : BitVec 32 := 168#32
  let v0 : BitVec 32 := Scalar.muli arg0 c168_i32
  let c18_i32 : BitVec 32 := 18#32
  let v145 : BitVec 32 := Scalar.addi v0 c18_i32
  let v146 : Index := Scalar.indexCast v145
  ![v146.toNat]
def k0_off38 (v147 : BitVec 32) : Fin 2 → Nat :=
  let v148 : Index := Scalar.indexCast v147
  let c0_36 : Index := 0#32
  ![v148.toNat, 0]

def k0_chk19 (v147 : BitVec 32) : Prop :=
  (∀ a, (k0_off38 v147) a + S1x512.size a ≤ S10000x512.size a)
theorem k0_off38_inb : ∀ (v147 : BitVec 32) (k0_hw19 : k0_chk19 v147), ∀ a, (k0_off38 v147) a + S1x512.size a ≤ S10000x512.size a := fun v147 k0_hw19 => k0_hw19

def k0_off39 (i : grid0.Coords) : Fin 1 → Nat :=
  let arg0 : BitVec 32 := BitVec.ofNat 32 (i 0).val
  let c168_i32 : BitVec 32 := 168#32
  let v0 : BitVec 32 := Scalar.muli arg0 c168_i32
  let c19_i32 : BitVec 32 := 19#32
  let v153 : BitVec 32 := Scalar.addi v0 c19_i32
  let v154 : Index := Scalar.indexCast v153
  ![v154.toNat]
def k0_off40 (v155 : BitVec 32) : Fin 2 → Nat :=
  let v156 : Index := Scalar.indexCast v155
  let c0_38 : Index := 0#32
  ![v156.toNat, 0]

def k0_chk20 (v155 : BitVec 32) : Prop :=
  (∀ a, (k0_off40 v155) a + S1x512.size a ≤ S10000x512.size a)
theorem k0_off40_inb : ∀ (v155 : BitVec 32) (k0_hw20 : k0_chk20 v155), ∀ a, (k0_off40 v155) a + S1x512.size a ≤ S10000x512.size a := fun v155 k0_hw20 => k0_hw20

def k0_off41 (i : grid0.Coords) : Fin 1 → Nat :=
  let arg0 : BitVec 32 := BitVec.ofNat 32 (i 0).val
  let c168_i32 : BitVec 32 := 168#32
  let v0 : BitVec 32 := Scalar.muli arg0 c168_i32
  let c20_i32 : BitVec 32 := 20#32
  let v161 : BitVec 32 := Scalar.addi v0 c20_i32
  let v162 : Index := Scalar.indexCast v161
  ![v162.toNat]
def k0_off42 (v163 : BitVec 32) : Fin 2 → Nat :=
  let v164 : Index := Scalar.indexCast v163
  let c0_40 : Index := 0#32
  ![v164.toNat, 0]

def k0_chk21 (v163 : BitVec 32) : Prop :=
  (∀ a, (k0_off42 v163) a + S1x512.size a ≤ S10000x512.size a)
theorem k0_off42_inb : ∀ (v163 : BitVec 32) (k0_hw21 : k0_chk21 v163), ∀ a, (k0_off42 v163) a + S1x512.size a ≤ S10000x512.size a := fun v163 k0_hw21 => k0_hw21

def k0_off43 (i : grid0.Coords) : Fin 1 → Nat :=
  let arg0 : BitVec 32 := BitVec.ofNat 32 (i 0).val
  let c168_i32 : BitVec 32 := 168#32
  let v0 : BitVec 32 := Scalar.muli arg0 c168_i32
  let c21_i32 : BitVec 32 := 21#32
  let v169 : BitVec 32 := Scalar.addi v0 c21_i32
  let v170 : Index := Scalar.indexCast v169
  ![v170.toNat]
def k0_off44 (v171 : BitVec 32) : Fin 2 → Nat :=
  let v172 : Index := Scalar.indexCast v171
  let c0_42 : Index := 0#32
  ![v172.toNat, 0]

def k0_chk22 (v171 : BitVec 32) : Prop :=
  (∀ a, (k0_off44 v171) a + S1x512.size a ≤ S10000x512.size a)
theorem k0_off44_inb : ∀ (v171 : BitVec 32) (k0_hw22 : k0_chk22 v171), ∀ a, (k0_off44 v171) a + S1x512.size a ≤ S10000x512.size a := fun v171 k0_hw22 => k0_hw22

def k0_off45 (i : grid0.Coords) : Fin 1 → Nat :=
  let arg0 : BitVec 32 := BitVec.ofNat 32 (i 0).val
  let c168_i32 : BitVec 32 := 168#32
  let v0 : BitVec 32 := Scalar.muli arg0 c168_i32
  let c22_i32 : BitVec 32 := 22#32
  let v177 : BitVec 32 := Scalar.addi v0 c22_i32
  let v178 : Index := Scalar.indexCast v177
  ![v178.toNat]
def k0_off46 (v179 : BitVec 32) : Fin 2 → Nat :=
  let v180 : Index := Scalar.indexCast v179
  let c0_44 : Index := 0#32
  ![v180.toNat, 0]

def k0_chk23 (v179 : BitVec 32) : Prop :=
  (∀ a, (k0_off46 v179) a + S1x512.size a ≤ S10000x512.size a)
theorem k0_off46_inb : ∀ (v179 : BitVec 32) (k0_hw23 : k0_chk23 v179), ∀ a, (k0_off46 v179) a + S1x512.size a ≤ S10000x512.size a := fun v179 k0_hw23 => k0_hw23

def k0_off47 (i : grid0.Coords) : Fin 1 → Nat :=
  let arg0 : BitVec 32 := BitVec.ofNat 32 (i 0).val
  let c168_i32 : BitVec 32 := 168#32
  let v0 : BitVec 32 := Scalar.muli arg0 c168_i32
  let c23_i32 : BitVec 32 := 23#32
  let v185 : BitVec 32 := Scalar.addi v0 c23_i32
  let v186 : Index := Scalar.indexCast v185
  ![v186.toNat]
def k0_off48 (v187 : BitVec 32) : Fin 2 → Nat :=
  let v188 : Index := Scalar.indexCast v187
  let c0_46 : Index := 0#32
  ![v188.toNat, 0]

def k0_chk24 (v187 : BitVec 32) : Prop :=
  (∀ a, (k0_off48 v187) a + S1x512.size a ≤ S10000x512.size a)
theorem k0_off48_inb : ∀ (v187 : BitVec 32) (k0_hw24 : k0_chk24 v187), ∀ a, (k0_off48 v187) a + S1x512.size a ≤ S10000x512.size a := fun v187 k0_hw24 => k0_hw24

def k0_off49 (i : grid0.Coords) : Fin 1 → Nat :=
  let arg0 : BitVec 32 := BitVec.ofNat 32 (i 0).val
  let c168_i32 : BitVec 32 := 168#32
  let v0 : BitVec 32 := Scalar.muli arg0 c168_i32
  let c24_i32 : BitVec 32 := 24#32
  let v193 : BitVec 32 := Scalar.addi v0 c24_i32
  let v194 : Index := Scalar.indexCast v193
  ![v194.toNat]
def k0_off50 (v195 : BitVec 32) : Fin 2 → Nat :=
  let v196 : Index := Scalar.indexCast v195
  let c0_48 : Index := 0#32
  ![v196.toNat, 0]

def k0_chk25 (v195 : BitVec 32) : Prop :=
  (∀ a, (k0_off50 v195) a + S1x512.size a ≤ S10000x512.size a)
theorem k0_off50_inb : ∀ (v195 : BitVec 32) (k0_hw25 : k0_chk25 v195), ∀ a, (k0_off50 v195) a + S1x512.size a ≤ S10000x512.size a := fun v195 k0_hw25 => k0_hw25

def k0_off51 (i : grid0.Coords) : Fin 1 → Nat :=
  let arg0 : BitVec 32 := BitVec.ofNat 32 (i 0).val
  let c168_i32 : BitVec 32 := 168#32
  let v0 : BitVec 32 := Scalar.muli arg0 c168_i32
  let c25_i32 : BitVec 32 := 25#32
  let v201 : BitVec 32 := Scalar.addi v0 c25_i32
  let v202 : Index := Scalar.indexCast v201
  ![v202.toNat]
def k0_off52 (v203 : BitVec 32) : Fin 2 → Nat :=
  let v204 : Index := Scalar.indexCast v203
  let c0_50 : Index := 0#32
  ![v204.toNat, 0]

def k0_chk26 (v203 : BitVec 32) : Prop :=
  (∀ a, (k0_off52 v203) a + S1x512.size a ≤ S10000x512.size a)
theorem k0_off52_inb : ∀ (v203 : BitVec 32) (k0_hw26 : k0_chk26 v203), ∀ a, (k0_off52 v203) a + S1x512.size a ≤ S10000x512.size a := fun v203 k0_hw26 => k0_hw26

def k0_off53 (i : grid0.Coords) : Fin 1 → Nat :=
  let arg0 : BitVec 32 := BitVec.ofNat 32 (i 0).val
  let c168_i32 : BitVec 32 := 168#32
  let v0 : BitVec 32 := Scalar.muli arg0 c168_i32
  let c26_i32 : BitVec 32 := 26#32
  let v209 : BitVec 32 := Scalar.addi v0 c26_i32
  let v210 : Index := Scalar.indexCast v209
  ![v210.toNat]
def k0_off54 (v211 : BitVec 32) : Fin 2 → Nat :=
  let v212 : Index := Scalar.indexCast v211
  let c0_52 : Index := 0#32
  ![v212.toNat, 0]

def k0_chk27 (v211 : BitVec 32) : Prop :=
  (∀ a, (k0_off54 v211) a + S1x512.size a ≤ S10000x512.size a)
theorem k0_off54_inb : ∀ (v211 : BitVec 32) (k0_hw27 : k0_chk27 v211), ∀ a, (k0_off54 v211) a + S1x512.size a ≤ S10000x512.size a := fun v211 k0_hw27 => k0_hw27

def k0_off55 (i : grid0.Coords) : Fin 1 → Nat :=
  let arg0 : BitVec 32 := BitVec.ofNat 32 (i 0).val
  let c168_i32 : BitVec 32 := 168#32
  let v0 : BitVec 32 := Scalar.muli arg0 c168_i32
  let c27_i32 : BitVec 32 := 27#32
  let v217 : BitVec 32 := Scalar.addi v0 c27_i32
  let v218 : Index := Scalar.indexCast v217
  ![v218.toNat]
def k0_off56 (v219 : BitVec 32) : Fin 2 → Nat :=
  let v220 : Index := Scalar.indexCast v219
  let c0_54 : Index := 0#32
  ![v220.toNat, 0]

def k0_chk28 (v219 : BitVec 32) : Prop :=
  (∀ a, (k0_off56 v219) a + S1x512.size a ≤ S10000x512.size a)
theorem k0_off56_inb : ∀ (v219 : BitVec 32) (k0_hw28 : k0_chk28 v219), ∀ a, (k0_off56 v219) a + S1x512.size a ≤ S10000x512.size a := fun v219 k0_hw28 => k0_hw28

def k0_off57 (i : grid0.Coords) : Fin 1 → Nat :=
  let arg0 : BitVec 32 := BitVec.ofNat 32 (i 0).val
  let c168_i32 : BitVec 32 := 168#32
  let v0 : BitVec 32 := Scalar.muli arg0 c168_i32
  let c28_i32 : BitVec 32 := 28#32
  let v225 : BitVec 32 := Scalar.addi v0 c28_i32
  let v226 : Index := Scalar.indexCast v225
  ![v226.toNat]
def k0_off58 (v227 : BitVec 32) : Fin 2 → Nat :=
  let v228 : Index := Scalar.indexCast v227
  let c0_56 : Index := 0#32
  ![v228.toNat, 0]

def k0_chk29 (v227 : BitVec 32) : Prop :=
  (∀ a, (k0_off58 v227) a + S1x512.size a ≤ S10000x512.size a)
theorem k0_off58_inb : ∀ (v227 : BitVec 32) (k0_hw29 : k0_chk29 v227), ∀ a, (k0_off58 v227) a + S1x512.size a ≤ S10000x512.size a := fun v227 k0_hw29 => k0_hw29

def k0_off59 (i : grid0.Coords) : Fin 1 → Nat :=
  let arg0 : BitVec 32 := BitVec.ofNat 32 (i 0).val
  let c168_i32 : BitVec 32 := 168#32
  let v0 : BitVec 32 := Scalar.muli arg0 c168_i32
  let c29_i32 : BitVec 32 := 29#32
  let v233 : BitVec 32 := Scalar.addi v0 c29_i32
  let v234 : Index := Scalar.indexCast v233
  ![v234.toNat]
def k0_off60 (v235 : BitVec 32) : Fin 2 → Nat :=
  let v236 : Index := Scalar.indexCast v235
  let c0_58 : Index := 0#32
  ![v236.toNat, 0]

def k0_chk30 (v235 : BitVec 32) : Prop :=
  (∀ a, (k0_off60 v235) a + S1x512.size a ≤ S10000x512.size a)
theorem k0_off60_inb : ∀ (v235 : BitVec 32) (k0_hw30 : k0_chk30 v235), ∀ a, (k0_off60 v235) a + S1x512.size a ≤ S10000x512.size a := fun v235 k0_hw30 => k0_hw30

def k0_off61 (i : grid0.Coords) : Fin 1 → Nat :=
  let arg0 : BitVec 32 := BitVec.ofNat 32 (i 0).val
  let c168_i32 : BitVec 32 := 168#32
  let v0 : BitVec 32 := Scalar.muli arg0 c168_i32
  let c30_i32 : BitVec 32 := 30#32
  let v241 : BitVec 32 := Scalar.addi v0 c30_i32
  let v242 : Index := Scalar.indexCast v241
  ![v242.toNat]
def k0_off62 (v243 : BitVec 32) : Fin 2 → Nat :=
  let v244 : Index := Scalar.indexCast v243
  let c0_60 : Index := 0#32
  ![v244.toNat, 0]

def k0_chk31 (v243 : BitVec 32) : Prop :=
  (∀ a, (k0_off62 v243) a + S1x512.size a ≤ S10000x512.size a)
theorem k0_off62_inb : ∀ (v243 : BitVec 32) (k0_hw31 : k0_chk31 v243), ∀ a, (k0_off62 v243) a + S1x512.size a ≤ S10000x512.size a := fun v243 k0_hw31 => k0_hw31

def k0_off63 (i : grid0.Coords) : Fin 1 → Nat :=
  let arg0 : BitVec 32 := BitVec.ofNat 32 (i 0).val
  let c168_i32 : BitVec 32 := 168#32
  let v0 : BitVec 32 := Scalar.muli arg0 c168_i32
  let c31_i32 : BitVec 32 := 31#32
  let v249 : BitVec 32 := Scalar.addi v0 c31_i32
  let v250 : Index := Scalar.indexCast v249
  ![v250.toNat]
def k0_off64 (v251 : BitVec 32) : Fin 2 → Nat :=
  let v252 : Index := Scalar.indexCast v251
  let c0_62 : Index := 0#32
  ![v252.toNat, 0]

def k0_chk32 (v251 : BitVec 32) : Prop :=
  (∀ a, (k0_off64 v251) a + S1x512.size a ≤ S10000x512.size a)
theorem k0_off64_inb : ∀ (v251 : BitVec 32) (k0_hw32 : k0_chk32 v251), ∀ a, (k0_off64 v251) a + S1x512.size a ≤ S10000x512.size a := fun v251 k0_hw32 => k0_hw32

def k0_off65 (i : grid0.Coords) : Fin 1 → Nat :=
  let arg0 : BitVec 32 := BitVec.ofNat 32 (i 0).val
  let c168_i32 : BitVec 32 := 168#32
  let v0 : BitVec 32 := Scalar.muli arg0 c168_i32
  let c32_i32 : BitVec 32 := 32#32
  let v257 : BitVec 32 := Scalar.addi v0 c32_i32
  let v258 : Index := Scalar.indexCast v257
  ![v258.toNat]
def k0_off66 (v259 : BitVec 32) : Fin 2 → Nat :=
  let v260 : Index := Scalar.indexCast v259
  let c0_64 : Index := 0#32
  ![v260.toNat, 0]

def k0_chk33 (v259 : BitVec 32) : Prop :=
  (∀ a, (k0_off66 v259) a + S1x512.size a ≤ S10000x512.size a)
theorem k0_off66_inb : ∀ (v259 : BitVec 32) (k0_hw33 : k0_chk33 v259), ∀ a, (k0_off66 v259) a + S1x512.size a ≤ S10000x512.size a := fun v259 k0_hw33 => k0_hw33

def k0_off67 (i : grid0.Coords) : Fin 1 → Nat :=
  let arg0 : BitVec 32 := BitVec.ofNat 32 (i 0).val
  let c168_i32 : BitVec 32 := 168#32
  let v0 : BitVec 32 := Scalar.muli arg0 c168_i32
  let c33_i32 : BitVec 32 := 33#32
  let v265 : BitVec 32 := Scalar.addi v0 c33_i32
  let v266 : Index := Scalar.indexCast v265
  ![v266.toNat]
def k0_off68 (v267 : BitVec 32) : Fin 2 → Nat :=
  let v268 : Index := Scalar.indexCast v267
  let c0_66 : Index := 0#32
  ![v268.toNat, 0]

def k0_chk34 (v267 : BitVec 32) : Prop :=
  (∀ a, (k0_off68 v267) a + S1x512.size a ≤ S10000x512.size a)
theorem k0_off68_inb : ∀ (v267 : BitVec 32) (k0_hw34 : k0_chk34 v267), ∀ a, (k0_off68 v267) a + S1x512.size a ≤ S10000x512.size a := fun v267 k0_hw34 => k0_hw34

def k0_off69 (i : grid0.Coords) : Fin 1 → Nat :=
  let arg0 : BitVec 32 := BitVec.ofNat 32 (i 0).val
  let c168_i32 : BitVec 32 := 168#32
  let v0 : BitVec 32 := Scalar.muli arg0 c168_i32
  let c34_i32 : BitVec 32 := 34#32
  let v273 : BitVec 32 := Scalar.addi v0 c34_i32
  let v274 : Index := Scalar.indexCast v273
  ![v274.toNat]
def k0_off70 (v275 : BitVec 32) : Fin 2 → Nat :=
  let v276 : Index := Scalar.indexCast v275
  let c0_68 : Index := 0#32
  ![v276.toNat, 0]

def k0_chk35 (v275 : BitVec 32) : Prop :=
  (∀ a, (k0_off70 v275) a + S1x512.size a ≤ S10000x512.size a)
theorem k0_off70_inb : ∀ (v275 : BitVec 32) (k0_hw35 : k0_chk35 v275), ∀ a, (k0_off70 v275) a + S1x512.size a ≤ S10000x512.size a := fun v275 k0_hw35 => k0_hw35

def k0_off71 (i : grid0.Coords) : Fin 1 → Nat :=
  let arg0 : BitVec 32 := BitVec.ofNat 32 (i 0).val
  let c168_i32 : BitVec 32 := 168#32
  let v0 : BitVec 32 := Scalar.muli arg0 c168_i32
  let c35_i32 : BitVec 32 := 35#32
  let v281 : BitVec 32 := Scalar.addi v0 c35_i32
  let v282 : Index := Scalar.indexCast v281
  ![v282.toNat]
def k0_off72 (v283 : BitVec 32) : Fin 2 → Nat :=
  let v284 : Index := Scalar.indexCast v283
  let c0_70 : Index := 0#32
  ![v284.toNat, 0]

def k0_chk36 (v283 : BitVec 32) : Prop :=
  (∀ a, (k0_off72 v283) a + S1x512.size a ≤ S10000x512.size a)
theorem k0_off72_inb : ∀ (v283 : BitVec 32) (k0_hw36 : k0_chk36 v283), ∀ a, (k0_off72 v283) a + S1x512.size a ≤ S10000x512.size a := fun v283 k0_hw36 => k0_hw36

def k0_off73 (i : grid0.Coords) : Fin 1 → Nat :=
  let arg0 : BitVec 32 := BitVec.ofNat 32 (i 0).val
  let c168_i32 : BitVec 32 := 168#32
  let v0 : BitVec 32 := Scalar.muli arg0 c168_i32
  let c36_i32 : BitVec 32 := 36#32
  let v289 : BitVec 32 := Scalar.addi v0 c36_i32
  let v290 : Index := Scalar.indexCast v289
  ![v290.toNat]
def k0_off74 (v291 : BitVec 32) : Fin 2 → Nat :=
  let v292 : Index := Scalar.indexCast v291
  let c0_72 : Index := 0#32
  ![v292.toNat, 0]

def k0_chk37 (v291 : BitVec 32) : Prop :=
  (∀ a, (k0_off74 v291) a + S1x512.size a ≤ S10000x512.size a)
theorem k0_off74_inb : ∀ (v291 : BitVec 32) (k0_hw37 : k0_chk37 v291), ∀ a, (k0_off74 v291) a + S1x512.size a ≤ S10000x512.size a := fun v291 k0_hw37 => k0_hw37

def k0_off75 (i : grid0.Coords) : Fin 1 → Nat :=
  let arg0 : BitVec 32 := BitVec.ofNat 32 (i 0).val
  let c168_i32 : BitVec 32 := 168#32
  let v0 : BitVec 32 := Scalar.muli arg0 c168_i32
  let c37_i32 : BitVec 32 := 37#32
  let v297 : BitVec 32 := Scalar.addi v0 c37_i32
  let v298 : Index := Scalar.indexCast v297
  ![v298.toNat]
def k0_off76 (v299 : BitVec 32) : Fin 2 → Nat :=
  let v300 : Index := Scalar.indexCast v299
  let c0_74 : Index := 0#32
  ![v300.toNat, 0]

def k0_chk38 (v299 : BitVec 32) : Prop :=
  (∀ a, (k0_off76 v299) a + S1x512.size a ≤ S10000x512.size a)
theorem k0_off76_inb : ∀ (v299 : BitVec 32) (k0_hw38 : k0_chk38 v299), ∀ a, (k0_off76 v299) a + S1x512.size a ≤ S10000x512.size a := fun v299 k0_hw38 => k0_hw38

def k0_off77 (i : grid0.Coords) : Fin 1 → Nat :=
  let arg0 : BitVec 32 := BitVec.ofNat 32 (i 0).val
  let c168_i32 : BitVec 32 := 168#32
  let v0 : BitVec 32 := Scalar.muli arg0 c168_i32
  let c38_i32 : BitVec 32 := 38#32
  let v305 : BitVec 32 := Scalar.addi v0 c38_i32
  let v306 : Index := Scalar.indexCast v305
  ![v306.toNat]
def k0_off78 (v307 : BitVec 32) : Fin 2 → Nat :=
  let v308 : Index := Scalar.indexCast v307
  let c0_76 : Index := 0#32
  ![v308.toNat, 0]

def k0_chk39 (v307 : BitVec 32) : Prop :=
  (∀ a, (k0_off78 v307) a + S1x512.size a ≤ S10000x512.size a)
theorem k0_off78_inb : ∀ (v307 : BitVec 32) (k0_hw39 : k0_chk39 v307), ∀ a, (k0_off78 v307) a + S1x512.size a ≤ S10000x512.size a := fun v307 k0_hw39 => k0_hw39

def k0_off79 (i : grid0.Coords) : Fin 1 → Nat :=
  let arg0 : BitVec 32 := BitVec.ofNat 32 (i 0).val
  let c168_i32 : BitVec 32 := 168#32
  let v0 : BitVec 32 := Scalar.muli arg0 c168_i32
  let c39_i32 : BitVec 32 := 39#32
  let v313 : BitVec 32 := Scalar.addi v0 c39_i32
  let v314 : Index := Scalar.indexCast v313
  ![v314.toNat]
def k0_off80 (v315 : BitVec 32) : Fin 2 → Nat :=
  let v316 : Index := Scalar.indexCast v315
  let c0_78 : Index := 0#32
  ![v316.toNat, 0]

def k0_chk40 (v315 : BitVec 32) : Prop :=
  (∀ a, (k0_off80 v315) a + S1x512.size a ≤ S10000x512.size a)
theorem k0_off80_inb : ∀ (v315 : BitVec 32) (k0_hw40 : k0_chk40 v315), ∀ a, (k0_off80 v315) a + S1x512.size a ≤ S10000x512.size a := fun v315 k0_hw40 => k0_hw40

def k0_off81 (i : grid0.Coords) : Fin 1 → Nat :=
  let arg0 : BitVec 32 := BitVec.ofNat 32 (i 0).val
  let c168_i32 : BitVec 32 := 168#32
  let v0 : BitVec 32 := Scalar.muli arg0 c168_i32
  let c40_i32 : BitVec 32 := 40#32
  let v321 : BitVec 32 := Scalar.addi v0 c40_i32
  let v322 : Index := Scalar.indexCast v321
  ![v322.toNat]
def k0_off82 (v323 : BitVec 32) : Fin 2 → Nat :=
  let v324 : Index := Scalar.indexCast v323
  let c0_80 : Index := 0#32
  ![v324.toNat, 0]

def k0_chk41 (v323 : BitVec 32) : Prop :=
  (∀ a, (k0_off82 v323) a + S1x512.size a ≤ S10000x512.size a)
theorem k0_off82_inb : ∀ (v323 : BitVec 32) (k0_hw41 : k0_chk41 v323), ∀ a, (k0_off82 v323) a + S1x512.size a ≤ S10000x512.size a := fun v323 k0_hw41 => k0_hw41

def k0_off83 (i : grid0.Coords) : Fin 1 → Nat :=
  let arg0 : BitVec 32 := BitVec.ofNat 32 (i 0).val
  let c168_i32 : BitVec 32 := 168#32
  let v0 : BitVec 32 := Scalar.muli arg0 c168_i32
  let c41_i32 : BitVec 32 := 41#32
  let v329 : BitVec 32 := Scalar.addi v0 c41_i32
  let v330 : Index := Scalar.indexCast v329
  ![v330.toNat]
def k0_off84 (v331 : BitVec 32) : Fin 2 → Nat :=
  let v332 : Index := Scalar.indexCast v331
  let c0_82 : Index := 0#32
  ![v332.toNat, 0]

def k0_chk42 (v331 : BitVec 32) : Prop :=
  (∀ a, (k0_off84 v331) a + S1x512.size a ≤ S10000x512.size a)
theorem k0_off84_inb : ∀ (v331 : BitVec 32) (k0_hw42 : k0_chk42 v331), ∀ a, (k0_off84 v331) a + S1x512.size a ≤ S10000x512.size a := fun v331 k0_hw42 => k0_hw42

def k0_off85 (i : grid0.Coords) : Fin 1 → Nat :=
  let arg0 : BitVec 32 := BitVec.ofNat 32 (i 0).val
  let c168_i32 : BitVec 32 := 168#32
  let v0 : BitVec 32 := Scalar.muli arg0 c168_i32
  let c42_i32 : BitVec 32 := 42#32
  let v337 : BitVec 32 := Scalar.addi v0 c42_i32
  let v338 : Index := Scalar.indexCast v337
  ![v338.toNat]
def k0_off86 (v339 : BitVec 32) : Fin 2 → Nat :=
  let v340 : Index := Scalar.indexCast v339
  let c0_84 : Index := 0#32
  ![v340.toNat, 0]

def k0_chk43 (v339 : BitVec 32) : Prop :=
  (∀ a, (k0_off86 v339) a + S1x512.size a ≤ S10000x512.size a)
theorem k0_off86_inb : ∀ (v339 : BitVec 32) (k0_hw43 : k0_chk43 v339), ∀ a, (k0_off86 v339) a + S1x512.size a ≤ S10000x512.size a := fun v339 k0_hw43 => k0_hw43

def k0_off87 (i : grid0.Coords) : Fin 1 → Nat :=
  let arg0 : BitVec 32 := BitVec.ofNat 32 (i 0).val
  let c168_i32 : BitVec 32 := 168#32
  let v0 : BitVec 32 := Scalar.muli arg0 c168_i32
  let c43_i32 : BitVec 32 := 43#32
  let v345 : BitVec 32 := Scalar.addi v0 c43_i32
  let v346 : Index := Scalar.indexCast v345
  ![v346.toNat]
def k0_off88 (v347 : BitVec 32) : Fin 2 → Nat :=
  let v348 : Index := Scalar.indexCast v347
  let c0_86 : Index := 0#32
  ![v348.toNat, 0]

def k0_chk44 (v347 : BitVec 32) : Prop :=
  (∀ a, (k0_off88 v347) a + S1x512.size a ≤ S10000x512.size a)
theorem k0_off88_inb : ∀ (v347 : BitVec 32) (k0_hw44 : k0_chk44 v347), ∀ a, (k0_off88 v347) a + S1x512.size a ≤ S10000x512.size a := fun v347 k0_hw44 => k0_hw44

def k0_off89 (i : grid0.Coords) : Fin 1 → Nat :=
  let arg0 : BitVec 32 := BitVec.ofNat 32 (i 0).val
  let c168_i32 : BitVec 32 := 168#32
  let v0 : BitVec 32 := Scalar.muli arg0 c168_i32
  let c44_i32 : BitVec 32 := 44#32
  let v353 : BitVec 32 := Scalar.addi v0 c44_i32
  let v354 : Index := Scalar.indexCast v353
  ![v354.toNat]
def k0_off90 (v355 : BitVec 32) : Fin 2 → Nat :=
  let v356 : Index := Scalar.indexCast v355
  let c0_88 : Index := 0#32
  ![v356.toNat, 0]

def k0_chk45 (v355 : BitVec 32) : Prop :=
  (∀ a, (k0_off90 v355) a + S1x512.size a ≤ S10000x512.size a)
theorem k0_off90_inb : ∀ (v355 : BitVec 32) (k0_hw45 : k0_chk45 v355), ∀ a, (k0_off90 v355) a + S1x512.size a ≤ S10000x512.size a := fun v355 k0_hw45 => k0_hw45

def k0_off91 (i : grid0.Coords) : Fin 1 → Nat :=
  let arg0 : BitVec 32 := BitVec.ofNat 32 (i 0).val
  let c168_i32 : BitVec 32 := 168#32
  let v0 : BitVec 32 := Scalar.muli arg0 c168_i32
  let c45_i32 : BitVec 32 := 45#32
  let v361 : BitVec 32 := Scalar.addi v0 c45_i32
  let v362 : Index := Scalar.indexCast v361
  ![v362.toNat]
def k0_off92 (v363 : BitVec 32) : Fin 2 → Nat :=
  let v364 : Index := Scalar.indexCast v363
  let c0_90 : Index := 0#32
  ![v364.toNat, 0]

def k0_chk46 (v363 : BitVec 32) : Prop :=
  (∀ a, (k0_off92 v363) a + S1x512.size a ≤ S10000x512.size a)
theorem k0_off92_inb : ∀ (v363 : BitVec 32) (k0_hw46 : k0_chk46 v363), ∀ a, (k0_off92 v363) a + S1x512.size a ≤ S10000x512.size a := fun v363 k0_hw46 => k0_hw46

def k0_off93 (i : grid0.Coords) : Fin 1 → Nat :=
  let arg0 : BitVec 32 := BitVec.ofNat 32 (i 0).val
  let c168_i32 : BitVec 32 := 168#32
  let v0 : BitVec 32 := Scalar.muli arg0 c168_i32
  let c46_i32 : BitVec 32 := 46#32
  let v369 : BitVec 32 := Scalar.addi v0 c46_i32
  let v370 : Index := Scalar.indexCast v369
  ![v370.toNat]
def k0_off94 (v371 : BitVec 32) : Fin 2 → Nat :=
  let v372 : Index := Scalar.indexCast v371
  let c0_92 : Index := 0#32
  ![v372.toNat, 0]

def k0_chk47 (v371 : BitVec 32) : Prop :=
  (∀ a, (k0_off94 v371) a + S1x512.size a ≤ S10000x512.size a)
theorem k0_off94_inb : ∀ (v371 : BitVec 32) (k0_hw47 : k0_chk47 v371), ∀ a, (k0_off94 v371) a + S1x512.size a ≤ S10000x512.size a := fun v371 k0_hw47 => k0_hw47

def k0_off95 (i : grid0.Coords) : Fin 1 → Nat :=
  let arg0 : BitVec 32 := BitVec.ofNat 32 (i 0).val
  let c168_i32 : BitVec 32 := 168#32
  let v0 : BitVec 32 := Scalar.muli arg0 c168_i32
  let c47_i32 : BitVec 32 := 47#32
  let v377 : BitVec 32 := Scalar.addi v0 c47_i32
  let v378 : Index := Scalar.indexCast v377
  ![v378.toNat]
def k0_off96 (v379 : BitVec 32) : Fin 2 → Nat :=
  let v380 : Index := Scalar.indexCast v379
  let c0_94 : Index := 0#32
  ![v380.toNat, 0]

def k0_chk48 (v379 : BitVec 32) : Prop :=
  (∀ a, (k0_off96 v379) a + S1x512.size a ≤ S10000x512.size a)
theorem k0_off96_inb : ∀ (v379 : BitVec 32) (k0_hw48 : k0_chk48 v379), ∀ a, (k0_off96 v379) a + S1x512.size a ≤ S10000x512.size a := fun v379 k0_hw48 => k0_hw48

def k0_off97 (i : grid0.Coords) : Fin 1 → Nat :=
  let arg0 : BitVec 32 := BitVec.ofNat 32 (i 0).val
  let c168_i32 : BitVec 32 := 168#32
  let v0 : BitVec 32 := Scalar.muli arg0 c168_i32
  let c48_i32 : BitVec 32 := 48#32
  let v385 : BitVec 32 := Scalar.addi v0 c48_i32
  let v386 : Index := Scalar.indexCast v385
  ![v386.toNat]
def k0_off98 (v387 : BitVec 32) : Fin 2 → Nat :=
  let v388 : Index := Scalar.indexCast v387
  let c0_96 : Index := 0#32
  ![v388.toNat, 0]

def k0_chk49 (v387 : BitVec 32) : Prop :=
  (∀ a, (k0_off98 v387) a + S1x512.size a ≤ S10000x512.size a)
theorem k0_off98_inb : ∀ (v387 : BitVec 32) (k0_hw49 : k0_chk49 v387), ∀ a, (k0_off98 v387) a + S1x512.size a ≤ S10000x512.size a := fun v387 k0_hw49 => k0_hw49

def k0_off99 (i : grid0.Coords) : Fin 1 → Nat :=
  let arg0 : BitVec 32 := BitVec.ofNat 32 (i 0).val
  let c168_i32 : BitVec 32 := 168#32
  let v0 : BitVec 32 := Scalar.muli arg0 c168_i32
  let c49_i32 : BitVec 32 := 49#32
  let v393 : BitVec 32 := Scalar.addi v0 c49_i32
  let v394 : Index := Scalar.indexCast v393
  ![v394.toNat]
def k0_off100 (v395 : BitVec 32) : Fin 2 → Nat :=
  let v396 : Index := Scalar.indexCast v395
  let c0_98 : Index := 0#32
  ![v396.toNat, 0]

def k0_chk50 (v395 : BitVec 32) : Prop :=
  (∀ a, (k0_off100 v395) a + S1x512.size a ≤ S10000x512.size a)
theorem k0_off100_inb : ∀ (v395 : BitVec 32) (k0_hw50 : k0_chk50 v395), ∀ a, (k0_off100 v395) a + S1x512.size a ≤ S10000x512.size a := fun v395 k0_hw50 => k0_hw50

def k0_off101 (i : grid0.Coords) : Fin 1 → Nat :=
  let arg0 : BitVec 32 := BitVec.ofNat 32 (i 0).val
  let c168_i32 : BitVec 32 := 168#32
  let v0 : BitVec 32 := Scalar.muli arg0 c168_i32
  let c50_i32 : BitVec 32 := 50#32
  let v401 : BitVec 32 := Scalar.addi v0 c50_i32
  let v402 : Index := Scalar.indexCast v401
  ![v402.toNat]
def k0_off102 (v403 : BitVec 32) : Fin 2 → Nat :=
  let v404 : Index := Scalar.indexCast v403
  let c0_100 : Index := 0#32
  ![v404.toNat, 0]

def k0_chk51 (v403 : BitVec 32) : Prop :=
  (∀ a, (k0_off102 v403) a + S1x512.size a ≤ S10000x512.size a)
theorem k0_off102_inb : ∀ (v403 : BitVec 32) (k0_hw51 : k0_chk51 v403), ∀ a, (k0_off102 v403) a + S1x512.size a ≤ S10000x512.size a := fun v403 k0_hw51 => k0_hw51

def k0_off103 (i : grid0.Coords) : Fin 1 → Nat :=
  let arg0 : BitVec 32 := BitVec.ofNat 32 (i 0).val
  let c168_i32 : BitVec 32 := 168#32
  let v0 : BitVec 32 := Scalar.muli arg0 c168_i32
  let c51_i32 : BitVec 32 := 51#32
  let v409 : BitVec 32 := Scalar.addi v0 c51_i32
  let v410 : Index := Scalar.indexCast v409
  ![v410.toNat]
def k0_off104 (v411 : BitVec 32) : Fin 2 → Nat :=
  let v412 : Index := Scalar.indexCast v411
  let c0_102 : Index := 0#32
  ![v412.toNat, 0]

def k0_chk52 (v411 : BitVec 32) : Prop :=
  (∀ a, (k0_off104 v411) a + S1x512.size a ≤ S10000x512.size a)
theorem k0_off104_inb : ∀ (v411 : BitVec 32) (k0_hw52 : k0_chk52 v411), ∀ a, (k0_off104 v411) a + S1x512.size a ≤ S10000x512.size a := fun v411 k0_hw52 => k0_hw52

def k0_off105 (i : grid0.Coords) : Fin 1 → Nat :=
  let arg0 : BitVec 32 := BitVec.ofNat 32 (i 0).val
  let c168_i32 : BitVec 32 := 168#32
  let v0 : BitVec 32 := Scalar.muli arg0 c168_i32
  let c52_i32 : BitVec 32 := 52#32
  let v417 : BitVec 32 := Scalar.addi v0 c52_i32
  let v418 : Index := Scalar.indexCast v417
  ![v418.toNat]
def k0_off106 (v419 : BitVec 32) : Fin 2 → Nat :=
  let v420 : Index := Scalar.indexCast v419
  let c0_104 : Index := 0#32
  ![v420.toNat, 0]

def k0_chk53 (v419 : BitVec 32) : Prop :=
  (∀ a, (k0_off106 v419) a + S1x512.size a ≤ S10000x512.size a)
theorem k0_off106_inb : ∀ (v419 : BitVec 32) (k0_hw53 : k0_chk53 v419), ∀ a, (k0_off106 v419) a + S1x512.size a ≤ S10000x512.size a := fun v419 k0_hw53 => k0_hw53

def k0_off107 (i : grid0.Coords) : Fin 1 → Nat :=
  let arg0 : BitVec 32 := BitVec.ofNat 32 (i 0).val
  let c168_i32 : BitVec 32 := 168#32
  let v0 : BitVec 32 := Scalar.muli arg0 c168_i32
  let c53_i32 : BitVec 32 := 53#32
  let v425 : BitVec 32 := Scalar.addi v0 c53_i32
  let v426 : Index := Scalar.indexCast v425
  ![v426.toNat]
def k0_off108 (v427 : BitVec 32) : Fin 2 → Nat :=
  let v428 : Index := Scalar.indexCast v427
  let c0_106 : Index := 0#32
  ![v428.toNat, 0]

def k0_chk54 (v427 : BitVec 32) : Prop :=
  (∀ a, (k0_off108 v427) a + S1x512.size a ≤ S10000x512.size a)
theorem k0_off108_inb : ∀ (v427 : BitVec 32) (k0_hw54 : k0_chk54 v427), ∀ a, (k0_off108 v427) a + S1x512.size a ≤ S10000x512.size a := fun v427 k0_hw54 => k0_hw54

def k0_off109 (i : grid0.Coords) : Fin 1 → Nat :=
  let arg0 : BitVec 32 := BitVec.ofNat 32 (i 0).val
  let c168_i32 : BitVec 32 := 168#32
  let v0 : BitVec 32 := Scalar.muli arg0 c168_i32
  let c54_i32 : BitVec 32 := 54#32
  let v433 : BitVec 32 := Scalar.addi v0 c54_i32
  let v434 : Index := Scalar.indexCast v433
  ![v434.toNat]
def k0_off110 (v435 : BitVec 32) : Fin 2 → Nat :=
  let v436 : Index := Scalar.indexCast v435
  let c0_108 : Index := 0#32
  ![v436.toNat, 0]

def k0_chk55 (v435 : BitVec 32) : Prop :=
  (∀ a, (k0_off110 v435) a + S1x512.size a ≤ S10000x512.size a)
theorem k0_off110_inb : ∀ (v435 : BitVec 32) (k0_hw55 : k0_chk55 v435), ∀ a, (k0_off110 v435) a + S1x512.size a ≤ S10000x512.size a := fun v435 k0_hw55 => k0_hw55

def k0_off111 (i : grid0.Coords) : Fin 1 → Nat :=
  let arg0 : BitVec 32 := BitVec.ofNat 32 (i 0).val
  let c168_i32 : BitVec 32 := 168#32
  let v0 : BitVec 32 := Scalar.muli arg0 c168_i32
  let c55_i32 : BitVec 32 := 55#32
  let v441 : BitVec 32 := Scalar.addi v0 c55_i32
  let v442 : Index := Scalar.indexCast v441
  ![v442.toNat]
def k0_off112 (v443 : BitVec 32) : Fin 2 → Nat :=
  let v444 : Index := Scalar.indexCast v443
  let c0_110 : Index := 0#32
  ![v444.toNat, 0]

def k0_chk56 (v443 : BitVec 32) : Prop :=
  (∀ a, (k0_off112 v443) a + S1x512.size a ≤ S10000x512.size a)
theorem k0_off112_inb : ∀ (v443 : BitVec 32) (k0_hw56 : k0_chk56 v443), ∀ a, (k0_off112 v443) a + S1x512.size a ≤ S10000x512.size a := fun v443 k0_hw56 => k0_hw56

def k0_off113 (i : grid0.Coords) : Fin 1 → Nat :=
  let arg0 : BitVec 32 := BitVec.ofNat 32 (i 0).val
  let c168_i32 : BitVec 32 := 168#32
  let v0 : BitVec 32 := Scalar.muli arg0 c168_i32
  let c56_i32 : BitVec 32 := 56#32
  let v449 : BitVec 32 := Scalar.addi v0 c56_i32
  let v450 : Index := Scalar.indexCast v449
  ![v450.toNat]
def k0_off114 (v451 : BitVec 32) : Fin 2 → Nat :=
  let v452 : Index := Scalar.indexCast v451
  let c0_112 : Index := 0#32
  ![v452.toNat, 0]

def k0_chk57 (v451 : BitVec 32) : Prop :=
  (∀ a, (k0_off114 v451) a + S1x512.size a ≤ S10000x512.size a)
theorem k0_off114_inb : ∀ (v451 : BitVec 32) (k0_hw57 : k0_chk57 v451), ∀ a, (k0_off114 v451) a + S1x512.size a ≤ S10000x512.size a := fun v451 k0_hw57 => k0_hw57

def k0_off115 (i : grid0.Coords) : Fin 1 → Nat :=
  let arg0 : BitVec 32 := BitVec.ofNat 32 (i 0).val
  let c168_i32 : BitVec 32 := 168#32
  let v0 : BitVec 32 := Scalar.muli arg0 c168_i32
  let c57_i32 : BitVec 32 := 57#32
  let v457 : BitVec 32 := Scalar.addi v0 c57_i32
  let v458 : Index := Scalar.indexCast v457
  ![v458.toNat]
def k0_off116 (v459 : BitVec 32) : Fin 2 → Nat :=
  let v460 : Index := Scalar.indexCast v459
  let c0_114 : Index := 0#32
  ![v460.toNat, 0]

def k0_chk58 (v459 : BitVec 32) : Prop :=
  (∀ a, (k0_off116 v459) a + S1x512.size a ≤ S10000x512.size a)
theorem k0_off116_inb : ∀ (v459 : BitVec 32) (k0_hw58 : k0_chk58 v459), ∀ a, (k0_off116 v459) a + S1x512.size a ≤ S10000x512.size a := fun v459 k0_hw58 => k0_hw58

def k0_off117 (i : grid0.Coords) : Fin 1 → Nat :=
  let arg0 : BitVec 32 := BitVec.ofNat 32 (i 0).val
  let c168_i32 : BitVec 32 := 168#32
  let v0 : BitVec 32 := Scalar.muli arg0 c168_i32
  let c58_i32 : BitVec 32 := 58#32
  let v465 : BitVec 32 := Scalar.addi v0 c58_i32
  let v466 : Index := Scalar.indexCast v465
  ![v466.toNat]
def k0_off118 (v467 : BitVec 32) : Fin 2 → Nat :=
  let v468 : Index := Scalar.indexCast v467
  let c0_116 : Index := 0#32
  ![v468.toNat, 0]

def k0_chk59 (v467 : BitVec 32) : Prop :=
  (∀ a, (k0_off118 v467) a + S1x512.size a ≤ S10000x512.size a)
theorem k0_off118_inb : ∀ (v467 : BitVec 32) (k0_hw59 : k0_chk59 v467), ∀ a, (k0_off118 v467) a + S1x512.size a ≤ S10000x512.size a := fun v467 k0_hw59 => k0_hw59

def k0_off119 (i : grid0.Coords) : Fin 1 → Nat :=
  let arg0 : BitVec 32 := BitVec.ofNat 32 (i 0).val
  let c168_i32 : BitVec 32 := 168#32
  let v0 : BitVec 32 := Scalar.muli arg0 c168_i32
  let c59_i32 : BitVec 32 := 59#32
  let v473 : BitVec 32 := Scalar.addi v0 c59_i32
  let v474 : Index := Scalar.indexCast v473
  ![v474.toNat]
def k0_off120 (v475 : BitVec 32) : Fin 2 → Nat :=
  let v476 : Index := Scalar.indexCast v475
  let c0_118 : Index := 0#32
  ![v476.toNat, 0]

def k0_chk60 (v475 : BitVec 32) : Prop :=
  (∀ a, (k0_off120 v475) a + S1x512.size a ≤ S10000x512.size a)
theorem k0_off120_inb : ∀ (v475 : BitVec 32) (k0_hw60 : k0_chk60 v475), ∀ a, (k0_off120 v475) a + S1x512.size a ≤ S10000x512.size a := fun v475 k0_hw60 => k0_hw60

def k0_off121 (i : grid0.Coords) : Fin 1 → Nat :=
  let arg0 : BitVec 32 := BitVec.ofNat 32 (i 0).val
  let c168_i32 : BitVec 32 := 168#32
  let v0 : BitVec 32 := Scalar.muli arg0 c168_i32
  let c60_i32 : BitVec 32 := 60#32
  let v481 : BitVec 32 := Scalar.addi v0 c60_i32
  let v482 : Index := Scalar.indexCast v481
  ![v482.toNat]
def k0_off122 (v483 : BitVec 32) : Fin 2 → Nat :=
  let v484 : Index := Scalar.indexCast v483
  let c0_120 : Index := 0#32
  ![v484.toNat, 0]

def k0_chk61 (v483 : BitVec 32) : Prop :=
  (∀ a, (k0_off122 v483) a + S1x512.size a ≤ S10000x512.size a)
theorem k0_off122_inb : ∀ (v483 : BitVec 32) (k0_hw61 : k0_chk61 v483), ∀ a, (k0_off122 v483) a + S1x512.size a ≤ S10000x512.size a := fun v483 k0_hw61 => k0_hw61

def k0_off123 (i : grid0.Coords) : Fin 1 → Nat :=
  let arg0 : BitVec 32 := BitVec.ofNat 32 (i 0).val
  let c168_i32 : BitVec 32 := 168#32
  let v0 : BitVec 32 := Scalar.muli arg0 c168_i32
  let c61_i32 : BitVec 32 := 61#32
  let v489 : BitVec 32 := Scalar.addi v0 c61_i32
  let v490 : Index := Scalar.indexCast v489
  ![v490.toNat]
def k0_off124 (v491 : BitVec 32) : Fin 2 → Nat :=
  let v492 : Index := Scalar.indexCast v491
  let c0_122 : Index := 0#32
  ![v492.toNat, 0]

def k0_chk62 (v491 : BitVec 32) : Prop :=
  (∀ a, (k0_off124 v491) a + S1x512.size a ≤ S10000x512.size a)
theorem k0_off124_inb : ∀ (v491 : BitVec 32) (k0_hw62 : k0_chk62 v491), ∀ a, (k0_off124 v491) a + S1x512.size a ≤ S10000x512.size a := fun v491 k0_hw62 => k0_hw62

def k0_off125 (i : grid0.Coords) : Fin 1 → Nat :=
  let arg0 : BitVec 32 := BitVec.ofNat 32 (i 0).val
  let c168_i32 : BitVec 32 := 168#32
  let v0 : BitVec 32 := Scalar.muli arg0 c168_i32
  let c62_i32 : BitVec 32 := 62#32
  let v497 : BitVec 32 := Scalar.addi v0 c62_i32
  let v498 : Index := Scalar.indexCast v497
  ![v498.toNat]
def k0_off126 (v499 : BitVec 32) : Fin 2 → Nat :=
  let v500 : Index := Scalar.indexCast v499
  let c0_124 : Index := 0#32
  ![v500.toNat, 0]

def k0_chk63 (v499 : BitVec 32) : Prop :=
  (∀ a, (k0_off126 v499) a + S1x512.size a ≤ S10000x512.size a)
theorem k0_off126_inb : ∀ (v499 : BitVec 32) (k0_hw63 : k0_chk63 v499), ∀ a, (k0_off126 v499) a + S1x512.size a ≤ S10000x512.size a := fun v499 k0_hw63 => k0_hw63

def k0_off127 (i : grid0.Coords) : Fin 1 → Nat :=
  let arg0 : BitVec 32 := BitVec.ofNat 32 (i 0).val
  let c168_i32 : BitVec 32 := 168#32
  let v0 : BitVec 32 := Scalar.muli arg0 c168_i32
  let c63_i32 : BitVec 32 := 63#32
  let v505 : BitVec 32 := Scalar.addi v0 c63_i32
  let v506 : Index := Scalar.indexCast v505
  ![v506.toNat]
def k0_off128 (v507 : BitVec 32) : Fin 2 → Nat :=
  let v508 : Index := Scalar.indexCast v507
  let c0_126 : Index := 0#32
  ![v508.toNat, 0]

def k0_chk64 (v507 : BitVec 32) : Prop :=
  (∀ a, (k0_off128 v507) a + S1x512.size a ≤ S10000x512.size a)
theorem k0_off128_inb : ∀ (v507 : BitVec 32) (k0_hw64 : k0_chk64 v507), ∀ a, (k0_off128 v507) a + S1x512.size a ≤ S10000x512.size a := fun v507 k0_hw64 => k0_hw64

def k0_off129 (i : grid0.Coords) : Fin 1 → Nat :=
  let arg0 : BitVec 32 := BitVec.ofNat 32 (i 0).val
  let c168_i32 : BitVec 32 := 168#32
  let v0 : BitVec 32 := Scalar.muli arg0 c168_i32
  let c64_i32 : BitVec 32 := 64#32
  let v513 : BitVec 32 := Scalar.addi v0 c64_i32
  let v514 : Index := Scalar.indexCast v513
  ![v514.toNat]
def k0_off130 (v515 : BitVec 32) : Fin 2 → Nat :=
  let v516 : Index := Scalar.indexCast v515
  let c0_128 : Index := 0#32
  ![v516.toNat, 0]

def k0_chk65 (v515 : BitVec 32) : Prop :=
  (∀ a, (k0_off130 v515) a + S1x512.size a ≤ S10000x512.size a)
theorem k0_off130_inb : ∀ (v515 : BitVec 32) (k0_hw65 : k0_chk65 v515), ∀ a, (k0_off130 v515) a + S1x512.size a ≤ S10000x512.size a := fun v515 k0_hw65 => k0_hw65

def k0_off131 (i : grid0.Coords) : Fin 1 → Nat :=
  let arg0 : BitVec 32 := BitVec.ofNat 32 (i 0).val
  let c168_i32 : BitVec 32 := 168#32
  let v0 : BitVec 32 := Scalar.muli arg0 c168_i32
  let c65_i32 : BitVec 32 := 65#32
  let v521 : BitVec 32 := Scalar.addi v0 c65_i32
  let v522 : Index := Scalar.indexCast v521
  ![v522.toNat]
def k0_off132 (v523 : BitVec 32) : Fin 2 → Nat :=
  let v524 : Index := Scalar.indexCast v523
  let c0_130 : Index := 0#32
  ![v524.toNat, 0]

def k0_chk66 (v523 : BitVec 32) : Prop :=
  (∀ a, (k0_off132 v523) a + S1x512.size a ≤ S10000x512.size a)
theorem k0_off132_inb : ∀ (v523 : BitVec 32) (k0_hw66 : k0_chk66 v523), ∀ a, (k0_off132 v523) a + S1x512.size a ≤ S10000x512.size a := fun v523 k0_hw66 => k0_hw66

def k0_off133 (i : grid0.Coords) : Fin 1 → Nat :=
  let arg0 : BitVec 32 := BitVec.ofNat 32 (i 0).val
  let c168_i32 : BitVec 32 := 168#32
  let v0 : BitVec 32 := Scalar.muli arg0 c168_i32
  let c66_i32 : BitVec 32 := 66#32
  let v529 : BitVec 32 := Scalar.addi v0 c66_i32
  let v530 : Index := Scalar.indexCast v529
  ![v530.toNat]
def k0_off134 (v531 : BitVec 32) : Fin 2 → Nat :=
  let v532 : Index := Scalar.indexCast v531
  let c0_132 : Index := 0#32
  ![v532.toNat, 0]

def k0_chk67 (v531 : BitVec 32) : Prop :=
  (∀ a, (k0_off134 v531) a + S1x512.size a ≤ S10000x512.size a)
theorem k0_off134_inb : ∀ (v531 : BitVec 32) (k0_hw67 : k0_chk67 v531), ∀ a, (k0_off134 v531) a + S1x512.size a ≤ S10000x512.size a := fun v531 k0_hw67 => k0_hw67

def k0_off135 (i : grid0.Coords) : Fin 1 → Nat :=
  let arg0 : BitVec 32 := BitVec.ofNat 32 (i 0).val
  let c168_i32 : BitVec 32 := 168#32
  let v0 : BitVec 32 := Scalar.muli arg0 c168_i32
  let c67_i32 : BitVec 32 := 67#32
  let v537 : BitVec 32 := Scalar.addi v0 c67_i32
  let v538 : Index := Scalar.indexCast v537
  ![v538.toNat]
def k0_off136 (v539 : BitVec 32) : Fin 2 → Nat :=
  let v540 : Index := Scalar.indexCast v539
  let c0_134 : Index := 0#32
  ![v540.toNat, 0]

def k0_chk68 (v539 : BitVec 32) : Prop :=
  (∀ a, (k0_off136 v539) a + S1x512.size a ≤ S10000x512.size a)
theorem k0_off136_inb : ∀ (v539 : BitVec 32) (k0_hw68 : k0_chk68 v539), ∀ a, (k0_off136 v539) a + S1x512.size a ≤ S10000x512.size a := fun v539 k0_hw68 => k0_hw68

def k0_off137 (i : grid0.Coords) : Fin 1 → Nat :=
  let arg0 : BitVec 32 := BitVec.ofNat 32 (i 0).val
  let c168_i32 : BitVec 32 := 168#32
  let v0 : BitVec 32 := Scalar.muli arg0 c168_i32
  let c68_i32 : BitVec 32 := 68#32
  let v545 : BitVec 32 := Scalar.addi v0 c68_i32
  let v546 : Index := Scalar.indexCast v545
  ![v546.toNat]
def k0_off138 (v547 : BitVec 32) : Fin 2 → Nat :=
  let v548 : Index := Scalar.indexCast v547
  let c0_136 : Index := 0#32
  ![v548.toNat, 0]

def k0_chk69 (v547 : BitVec 32) : Prop :=
  (∀ a, (k0_off138 v547) a + S1x512.size a ≤ S10000x512.size a)
theorem k0_off138_inb : ∀ (v547 : BitVec 32) (k0_hw69 : k0_chk69 v547), ∀ a, (k0_off138 v547) a + S1x512.size a ≤ S10000x512.size a := fun v547 k0_hw69 => k0_hw69

def k0_off139 (i : grid0.Coords) : Fin 1 → Nat :=
  let arg0 : BitVec 32 := BitVec.ofNat 32 (i 0).val
  let c168_i32 : BitVec 32 := 168#32
  let v0 : BitVec 32 := Scalar.muli arg0 c168_i32
  let c69_i32 : BitVec 32 := 69#32
  let v553 : BitVec 32 := Scalar.addi v0 c69_i32
  let v554 : Index := Scalar.indexCast v553
  ![v554.toNat]
def k0_off140 (v555 : BitVec 32) : Fin 2 → Nat :=
  let v556 : Index := Scalar.indexCast v555
  let c0_138 : Index := 0#32
  ![v556.toNat, 0]

def k0_chk70 (v555 : BitVec 32) : Prop :=
  (∀ a, (k0_off140 v555) a + S1x512.size a ≤ S10000x512.size a)
theorem k0_off140_inb : ∀ (v555 : BitVec 32) (k0_hw70 : k0_chk70 v555), ∀ a, (k0_off140 v555) a + S1x512.size a ≤ S10000x512.size a := fun v555 k0_hw70 => k0_hw70

def k0_off141 (i : grid0.Coords) : Fin 1 → Nat :=
  let arg0 : BitVec 32 := BitVec.ofNat 32 (i 0).val
  let c168_i32 : BitVec 32 := 168#32
  let v0 : BitVec 32 := Scalar.muli arg0 c168_i32
  let c70_i32 : BitVec 32 := 70#32
  let v561 : BitVec 32 := Scalar.addi v0 c70_i32
  let v562 : Index := Scalar.indexCast v561
  ![v562.toNat]
def k0_off142 (v563 : BitVec 32) : Fin 2 → Nat :=
  let v564 : Index := Scalar.indexCast v563
  let c0_140 : Index := 0#32
  ![v564.toNat, 0]

def k0_chk71 (v563 : BitVec 32) : Prop :=
  (∀ a, (k0_off142 v563) a + S1x512.size a ≤ S10000x512.size a)
theorem k0_off142_inb : ∀ (v563 : BitVec 32) (k0_hw71 : k0_chk71 v563), ∀ a, (k0_off142 v563) a + S1x512.size a ≤ S10000x512.size a := fun v563 k0_hw71 => k0_hw71

def k0_off143 (i : grid0.Coords) : Fin 1 → Nat :=
  let arg0 : BitVec 32 := BitVec.ofNat 32 (i 0).val
  let c168_i32 : BitVec 32 := 168#32
  let v0 : BitVec 32 := Scalar.muli arg0 c168_i32
  let c71_i32 : BitVec 32 := 71#32
  let v569 : BitVec 32 := Scalar.addi v0 c71_i32
  let v570 : Index := Scalar.indexCast v569
  ![v570.toNat]
def k0_off144 (v571 : BitVec 32) : Fin 2 → Nat :=
  let v572 : Index := Scalar.indexCast v571
  let c0_142 : Index := 0#32
  ![v572.toNat, 0]

def k0_chk72 (v571 : BitVec 32) : Prop :=
  (∀ a, (k0_off144 v571) a + S1x512.size a ≤ S10000x512.size a)
theorem k0_off144_inb : ∀ (v571 : BitVec 32) (k0_hw72 : k0_chk72 v571), ∀ a, (k0_off144 v571) a + S1x512.size a ≤ S10000x512.size a := fun v571 k0_hw72 => k0_hw72

def k0_off145 (i : grid0.Coords) : Fin 1 → Nat :=
  let arg0 : BitVec 32 := BitVec.ofNat 32 (i 0).val
  let c168_i32 : BitVec 32 := 168#32
  let v0 : BitVec 32 := Scalar.muli arg0 c168_i32
  let c72_i32 : BitVec 32 := 72#32
  let v577 : BitVec 32 := Scalar.addi v0 c72_i32
  let v578 : Index := Scalar.indexCast v577
  ![v578.toNat]
def k0_off146 (v579 : BitVec 32) : Fin 2 → Nat :=
  let v580 : Index := Scalar.indexCast v579
  let c0_144 : Index := 0#32
  ![v580.toNat, 0]

def k0_chk73 (v579 : BitVec 32) : Prop :=
  (∀ a, (k0_off146 v579) a + S1x512.size a ≤ S10000x512.size a)
theorem k0_off146_inb : ∀ (v579 : BitVec 32) (k0_hw73 : k0_chk73 v579), ∀ a, (k0_off146 v579) a + S1x512.size a ≤ S10000x512.size a := fun v579 k0_hw73 => k0_hw73

def k0_off147 (i : grid0.Coords) : Fin 1 → Nat :=
  let arg0 : BitVec 32 := BitVec.ofNat 32 (i 0).val
  let c168_i32 : BitVec 32 := 168#32
  let v0 : BitVec 32 := Scalar.muli arg0 c168_i32
  let c73_i32 : BitVec 32 := 73#32
  let v585 : BitVec 32 := Scalar.addi v0 c73_i32
  let v586 : Index := Scalar.indexCast v585
  ![v586.toNat]
def k0_off148 (v587 : BitVec 32) : Fin 2 → Nat :=
  let v588 : Index := Scalar.indexCast v587
  let c0_146 : Index := 0#32
  ![v588.toNat, 0]

def k0_chk74 (v587 : BitVec 32) : Prop :=
  (∀ a, (k0_off148 v587) a + S1x512.size a ≤ S10000x512.size a)
theorem k0_off148_inb : ∀ (v587 : BitVec 32) (k0_hw74 : k0_chk74 v587), ∀ a, (k0_off148 v587) a + S1x512.size a ≤ S10000x512.size a := fun v587 k0_hw74 => k0_hw74

def k0_off149 (i : grid0.Coords) : Fin 1 → Nat :=
  let arg0 : BitVec 32 := BitVec.ofNat 32 (i 0).val
  let c168_i32 : BitVec 32 := 168#32
  let v0 : BitVec 32 := Scalar.muli arg0 c168_i32
  let c74_i32 : BitVec 32 := 74#32
  let v593 : BitVec 32 := Scalar.addi v0 c74_i32
  let v594 : Index := Scalar.indexCast v593
  ![v594.toNat]
def k0_off150 (v595 : BitVec 32) : Fin 2 → Nat :=
  let v596 : Index := Scalar.indexCast v595
  let c0_148 : Index := 0#32
  ![v596.toNat, 0]

def k0_chk75 (v595 : BitVec 32) : Prop :=
  (∀ a, (k0_off150 v595) a + S1x512.size a ≤ S10000x512.size a)
theorem k0_off150_inb : ∀ (v595 : BitVec 32) (k0_hw75 : k0_chk75 v595), ∀ a, (k0_off150 v595) a + S1x512.size a ≤ S10000x512.size a := fun v595 k0_hw75 => k0_hw75

def k0_off151 (i : grid0.Coords) : Fin 1 → Nat :=
  let arg0 : BitVec 32 := BitVec.ofNat 32 (i 0).val
  let c168_i32 : BitVec 32 := 168#32
  let v0 : BitVec 32 := Scalar.muli arg0 c168_i32
  let c75_i32 : BitVec 32 := 75#32
  let v601 : BitVec 32 := Scalar.addi v0 c75_i32
  let v602 : Index := Scalar.indexCast v601
  ![v602.toNat]
def k0_off152 (v603 : BitVec 32) : Fin 2 → Nat :=
  let v604 : Index := Scalar.indexCast v603
  let c0_150 : Index := 0#32
  ![v604.toNat, 0]

def k0_chk76 (v603 : BitVec 32) : Prop :=
  (∀ a, (k0_off152 v603) a + S1x512.size a ≤ S10000x512.size a)
theorem k0_off152_inb : ∀ (v603 : BitVec 32) (k0_hw76 : k0_chk76 v603), ∀ a, (k0_off152 v603) a + S1x512.size a ≤ S10000x512.size a := fun v603 k0_hw76 => k0_hw76

def k0_off153 (i : grid0.Coords) : Fin 1 → Nat :=
  let arg0 : BitVec 32 := BitVec.ofNat 32 (i 0).val
  let c168_i32 : BitVec 32 := 168#32
  let v0 : BitVec 32 := Scalar.muli arg0 c168_i32
  let c76_i32 : BitVec 32 := 76#32
  let v609 : BitVec 32 := Scalar.addi v0 c76_i32
  let v610 : Index := Scalar.indexCast v609
  ![v610.toNat]
def k0_off154 (v611 : BitVec 32) : Fin 2 → Nat :=
  let v612 : Index := Scalar.indexCast v611
  let c0_152 : Index := 0#32
  ![v612.toNat, 0]

def k0_chk77 (v611 : BitVec 32) : Prop :=
  (∀ a, (k0_off154 v611) a + S1x512.size a ≤ S10000x512.size a)
theorem k0_off154_inb : ∀ (v611 : BitVec 32) (k0_hw77 : k0_chk77 v611), ∀ a, (k0_off154 v611) a + S1x512.size a ≤ S10000x512.size a := fun v611 k0_hw77 => k0_hw77

def k0_off155 (i : grid0.Coords) : Fin 1 → Nat :=
  let arg0 : BitVec 32 := BitVec.ofNat 32 (i 0).val
  let c168_i32 : BitVec 32 := 168#32
  let v0 : BitVec 32 := Scalar.muli arg0 c168_i32
  let c77_i32 : BitVec 32 := 77#32
  let v617 : BitVec 32 := Scalar.addi v0 c77_i32
  let v618 : Index := Scalar.indexCast v617
  ![v618.toNat]
def k0_off156 (v619 : BitVec 32) : Fin 2 → Nat :=
  let v620 : Index := Scalar.indexCast v619
  let c0_154 : Index := 0#32
  ![v620.toNat, 0]

def k0_chk78 (v619 : BitVec 32) : Prop :=
  (∀ a, (k0_off156 v619) a + S1x512.size a ≤ S10000x512.size a)
theorem k0_off156_inb : ∀ (v619 : BitVec 32) (k0_hw78 : k0_chk78 v619), ∀ a, (k0_off156 v619) a + S1x512.size a ≤ S10000x512.size a := fun v619 k0_hw78 => k0_hw78

def k0_off157 (i : grid0.Coords) : Fin 1 → Nat :=
  let arg0 : BitVec 32 := BitVec.ofNat 32 (i 0).val
  let c168_i32 : BitVec 32 := 168#32
  let v0 : BitVec 32 := Scalar.muli arg0 c168_i32
  let c78_i32 : BitVec 32 := 78#32
  let v625 : BitVec 32 := Scalar.addi v0 c78_i32
  let v626 : Index := Scalar.indexCast v625
  ![v626.toNat]
def k0_off158 (v627 : BitVec 32) : Fin 2 → Nat :=
  let v628 : Index := Scalar.indexCast v627
  let c0_156 : Index := 0#32
  ![v628.toNat, 0]

def k0_chk79 (v627 : BitVec 32) : Prop :=
  (∀ a, (k0_off158 v627) a + S1x512.size a ≤ S10000x512.size a)
theorem k0_off158_inb : ∀ (v627 : BitVec 32) (k0_hw79 : k0_chk79 v627), ∀ a, (k0_off158 v627) a + S1x512.size a ≤ S10000x512.size a := fun v627 k0_hw79 => k0_hw79

def k0_off159 (i : grid0.Coords) : Fin 1 → Nat :=
  let arg0 : BitVec 32 := BitVec.ofNat 32 (i 0).val
  let c168_i32 : BitVec 32 := 168#32
  let v0 : BitVec 32 := Scalar.muli arg0 c168_i32
  let c79_i32 : BitVec 32 := 79#32
  let v633 : BitVec 32 := Scalar.addi v0 c79_i32
  let v634 : Index := Scalar.indexCast v633
  ![v634.toNat]
def k0_off160 (v635 : BitVec 32) : Fin 2 → Nat :=
  let v636 : Index := Scalar.indexCast v635
  let c0_158 : Index := 0#32
  ![v636.toNat, 0]

def k0_chk80 (v635 : BitVec 32) : Prop :=
  (∀ a, (k0_off160 v635) a + S1x512.size a ≤ S10000x512.size a)
theorem k0_off160_inb : ∀ (v635 : BitVec 32) (k0_hw80 : k0_chk80 v635), ∀ a, (k0_off160 v635) a + S1x512.size a ≤ S10000x512.size a := fun v635 k0_hw80 => k0_hw80

def k0_off161 (i : grid0.Coords) : Fin 1 → Nat :=
  let arg0 : BitVec 32 := BitVec.ofNat 32 (i 0).val
  let c168_i32 : BitVec 32 := 168#32
  let v0 : BitVec 32 := Scalar.muli arg0 c168_i32
  let c80_i32 : BitVec 32 := 80#32
  let v641 : BitVec 32 := Scalar.addi v0 c80_i32
  let v642 : Index := Scalar.indexCast v641
  ![v642.toNat]
def k0_off162 (v643 : BitVec 32) : Fin 2 → Nat :=
  let v644 : Index := Scalar.indexCast v643
  let c0_160 : Index := 0#32
  ![v644.toNat, 0]

def k0_chk81 (v643 : BitVec 32) : Prop :=
  (∀ a, (k0_off162 v643) a + S1x512.size a ≤ S10000x512.size a)
theorem k0_off162_inb : ∀ (v643 : BitVec 32) (k0_hw81 : k0_chk81 v643), ∀ a, (k0_off162 v643) a + S1x512.size a ≤ S10000x512.size a := fun v643 k0_hw81 => k0_hw81

def k0_off163 (i : grid0.Coords) : Fin 1 → Nat :=
  let arg0 : BitVec 32 := BitVec.ofNat 32 (i 0).val
  let c168_i32 : BitVec 32 := 168#32
  let v0 : BitVec 32 := Scalar.muli arg0 c168_i32
  let c81_i32 : BitVec 32 := 81#32
  let v649 : BitVec 32 := Scalar.addi v0 c81_i32
  let v650 : Index := Scalar.indexCast v649
  ![v650.toNat]
def k0_off164 (v651 : BitVec 32) : Fin 2 → Nat :=
  let v652 : Index := Scalar.indexCast v651
  let c0_162 : Index := 0#32
  ![v652.toNat, 0]

def k0_chk82 (v651 : BitVec 32) : Prop :=
  (∀ a, (k0_off164 v651) a + S1x512.size a ≤ S10000x512.size a)
theorem k0_off164_inb : ∀ (v651 : BitVec 32) (k0_hw82 : k0_chk82 v651), ∀ a, (k0_off164 v651) a + S1x512.size a ≤ S10000x512.size a := fun v651 k0_hw82 => k0_hw82

def k0_off165 (i : grid0.Coords) : Fin 1 → Nat :=
  let arg0 : BitVec 32 := BitVec.ofNat 32 (i 0).val
  let c168_i32 : BitVec 32 := 168#32
  let v0 : BitVec 32 := Scalar.muli arg0 c168_i32
  let c82_i32 : BitVec 32 := 82#32
  let v657 : BitVec 32 := Scalar.addi v0 c82_i32
  let v658 : Index := Scalar.indexCast v657
  ![v658.toNat]
def k0_off166 (v659 : BitVec 32) : Fin 2 → Nat :=
  let v660 : Index := Scalar.indexCast v659
  let c0_164 : Index := 0#32
  ![v660.toNat, 0]

def k0_chk83 (v659 : BitVec 32) : Prop :=
  (∀ a, (k0_off166 v659) a + S1x512.size a ≤ S10000x512.size a)
theorem k0_off166_inb : ∀ (v659 : BitVec 32) (k0_hw83 : k0_chk83 v659), ∀ a, (k0_off166 v659) a + S1x512.size a ≤ S10000x512.size a := fun v659 k0_hw83 => k0_hw83

def k0_off167 (i : grid0.Coords) : Fin 1 → Nat :=
  let arg0 : BitVec 32 := BitVec.ofNat 32 (i 0).val
  let c168_i32 : BitVec 32 := 168#32
  let v0 : BitVec 32 := Scalar.muli arg0 c168_i32
  let c83_i32 : BitVec 32 := 83#32
  let v665 : BitVec 32 := Scalar.addi v0 c83_i32
  let v666 : Index := Scalar.indexCast v665
  ![v666.toNat]
def k0_off168 (v667 : BitVec 32) : Fin 2 → Nat :=
  let v668 : Index := Scalar.indexCast v667
  let c0_166 : Index := 0#32
  ![v668.toNat, 0]

def k0_chk84 (v667 : BitVec 32) : Prop :=
  (∀ a, (k0_off168 v667) a + S1x512.size a ≤ S10000x512.size a)
theorem k0_off168_inb : ∀ (v667 : BitVec 32) (k0_hw84 : k0_chk84 v667), ∀ a, (k0_off168 v667) a + S1x512.size a ≤ S10000x512.size a := fun v667 k0_hw84 => k0_hw84

def k0_off169 (i : grid0.Coords) : Fin 1 → Nat :=
  let arg0 : BitVec 32 := BitVec.ofNat 32 (i 0).val
  let c168_i32 : BitVec 32 := 168#32
  let v0 : BitVec 32 := Scalar.muli arg0 c168_i32
  let c84_i32 : BitVec 32 := 84#32
  let v673 : BitVec 32 := Scalar.addi v0 c84_i32
  let v674 : Index := Scalar.indexCast v673
  ![v674.toNat]
def k0_off170 (v675 : BitVec 32) : Fin 2 → Nat :=
  let v676 : Index := Scalar.indexCast v675
  let c0_168 : Index := 0#32
  ![v676.toNat, 0]

def k0_chk85 (v675 : BitVec 32) : Prop :=
  (∀ a, (k0_off170 v675) a + S1x512.size a ≤ S10000x512.size a)
theorem k0_off170_inb : ∀ (v675 : BitVec 32) (k0_hw85 : k0_chk85 v675), ∀ a, (k0_off170 v675) a + S1x512.size a ≤ S10000x512.size a := fun v675 k0_hw85 => k0_hw85

def k0_off171 (i : grid0.Coords) : Fin 1 → Nat :=
  let arg0 : BitVec 32 := BitVec.ofNat 32 (i 0).val
  let c168_i32 : BitVec 32 := 168#32
  let v0 : BitVec 32 := Scalar.muli arg0 c168_i32
  let c85_i32 : BitVec 32 := 85#32
  let v681 : BitVec 32 := Scalar.addi v0 c85_i32
  let v682 : Index := Scalar.indexCast v681
  ![v682.toNat]
def k0_off172 (v683 : BitVec 32) : Fin 2 → Nat :=
  let v684 : Index := Scalar.indexCast v683
  let c0_170 : Index := 0#32
  ![v684.toNat, 0]

def k0_chk86 (v683 : BitVec 32) : Prop :=
  (∀ a, (k0_off172 v683) a + S1x512.size a ≤ S10000x512.size a)
theorem k0_off172_inb : ∀ (v683 : BitVec 32) (k0_hw86 : k0_chk86 v683), ∀ a, (k0_off172 v683) a + S1x512.size a ≤ S10000x512.size a := fun v683 k0_hw86 => k0_hw86

def k0_off173 (i : grid0.Coords) : Fin 1 → Nat :=
  let arg0 : BitVec 32 := BitVec.ofNat 32 (i 0).val
  let c168_i32 : BitVec 32 := 168#32
  let v0 : BitVec 32 := Scalar.muli arg0 c168_i32
  let c86_i32 : BitVec 32 := 86#32
  let v689 : BitVec 32 := Scalar.addi v0 c86_i32
  let v690 : Index := Scalar.indexCast v689
  ![v690.toNat]
def k0_off174 (v691 : BitVec 32) : Fin 2 → Nat :=
  let v692 : Index := Scalar.indexCast v691
  let c0_172 : Index := 0#32
  ![v692.toNat, 0]

def k0_chk87 (v691 : BitVec 32) : Prop :=
  (∀ a, (k0_off174 v691) a + S1x512.size a ≤ S10000x512.size a)
theorem k0_off174_inb : ∀ (v691 : BitVec 32) (k0_hw87 : k0_chk87 v691), ∀ a, (k0_off174 v691) a + S1x512.size a ≤ S10000x512.size a := fun v691 k0_hw87 => k0_hw87

def k0_off175 (i : grid0.Coords) : Fin 1 → Nat :=
  let arg0 : BitVec 32 := BitVec.ofNat 32 (i 0).val
  let c168_i32 : BitVec 32 := 168#32
  let v0 : BitVec 32 := Scalar.muli arg0 c168_i32
  let c87_i32 : BitVec 32 := 87#32
  let v697 : BitVec 32 := Scalar.addi v0 c87_i32
  let v698 : Index := Scalar.indexCast v697
  ![v698.toNat]
def k0_off176 (v699 : BitVec 32) : Fin 2 → Nat :=
  let v700 : Index := Scalar.indexCast v699
  let c0_174 : Index := 0#32
  ![v700.toNat, 0]

def k0_chk88 (v699 : BitVec 32) : Prop :=
  (∀ a, (k0_off176 v699) a + S1x512.size a ≤ S10000x512.size a)
theorem k0_off176_inb : ∀ (v699 : BitVec 32) (k0_hw88 : k0_chk88 v699), ∀ a, (k0_off176 v699) a + S1x512.size a ≤ S10000x512.size a := fun v699 k0_hw88 => k0_hw88

def k0_off177 (i : grid0.Coords) : Fin 1 → Nat :=
  let arg0 : BitVec 32 := BitVec.ofNat 32 (i 0).val
  let c168_i32 : BitVec 32 := 168#32
  let v0 : BitVec 32 := Scalar.muli arg0 c168_i32
  let c88_i32 : BitVec 32 := 88#32
  let v705 : BitVec 32 := Scalar.addi v0 c88_i32
  let v706 : Index := Scalar.indexCast v705
  ![v706.toNat]
def k0_off178 (v707 : BitVec 32) : Fin 2 → Nat :=
  let v708 : Index := Scalar.indexCast v707
  let c0_176 : Index := 0#32
  ![v708.toNat, 0]

def k0_chk89 (v707 : BitVec 32) : Prop :=
  (∀ a, (k0_off178 v707) a + S1x512.size a ≤ S10000x512.size a)
theorem k0_off178_inb : ∀ (v707 : BitVec 32) (k0_hw89 : k0_chk89 v707), ∀ a, (k0_off178 v707) a + S1x512.size a ≤ S10000x512.size a := fun v707 k0_hw89 => k0_hw89

def k0_off179 (i : grid0.Coords) : Fin 1 → Nat :=
  let arg0 : BitVec 32 := BitVec.ofNat 32 (i 0).val
  let c168_i32 : BitVec 32 := 168#32
  let v0 : BitVec 32 := Scalar.muli arg0 c168_i32
  let c89_i32 : BitVec 32 := 89#32
  let v713 : BitVec 32 := Scalar.addi v0 c89_i32
  let v714 : Index := Scalar.indexCast v713
  ![v714.toNat]
def k0_off180 (v715 : BitVec 32) : Fin 2 → Nat :=
  let v716 : Index := Scalar.indexCast v715
  let c0_178 : Index := 0#32
  ![v716.toNat, 0]

def k0_chk90 (v715 : BitVec 32) : Prop :=
  (∀ a, (k0_off180 v715) a + S1x512.size a ≤ S10000x512.size a)
theorem k0_off180_inb : ∀ (v715 : BitVec 32) (k0_hw90 : k0_chk90 v715), ∀ a, (k0_off180 v715) a + S1x512.size a ≤ S10000x512.size a := fun v715 k0_hw90 => k0_hw90

def k0_off181 (i : grid0.Coords) : Fin 1 → Nat :=
  let arg0 : BitVec 32 := BitVec.ofNat 32 (i 0).val
  let c168_i32 : BitVec 32 := 168#32
  let v0 : BitVec 32 := Scalar.muli arg0 c168_i32
  let c90_i32 : BitVec 32 := 90#32
  let v721 : BitVec 32 := Scalar.addi v0 c90_i32
  let v722 : Index := Scalar.indexCast v721
  ![v722.toNat]
def k0_off182 (v723 : BitVec 32) : Fin 2 → Nat :=
  let v724 : Index := Scalar.indexCast v723
  let c0_180 : Index := 0#32
  ![v724.toNat, 0]

def k0_chk91 (v723 : BitVec 32) : Prop :=
  (∀ a, (k0_off182 v723) a + S1x512.size a ≤ S10000x512.size a)
theorem k0_off182_inb : ∀ (v723 : BitVec 32) (k0_hw91 : k0_chk91 v723), ∀ a, (k0_off182 v723) a + S1x512.size a ≤ S10000x512.size a := fun v723 k0_hw91 => k0_hw91

def k0_off183 (i : grid0.Coords) : Fin 1 → Nat :=
  let arg0 : BitVec 32 := BitVec.ofNat 32 (i 0).val
  let c168_i32 : BitVec 32 := 168#32
  let v0 : BitVec 32 := Scalar.muli arg0 c168_i32
  let c91_i32 : BitVec 32 := 91#32
  let v729 : BitVec 32 := Scalar.addi v0 c91_i32
  let v730 : Index := Scalar.indexCast v729
  ![v730.toNat]
def k0_off184 (v731 : BitVec 32) : Fin 2 → Nat :=
  let v732 : Index := Scalar.indexCast v731
  let c0_182 : Index := 0#32
  ![v732.toNat, 0]

def k0_chk92 (v731 : BitVec 32) : Prop :=
  (∀ a, (k0_off184 v731) a + S1x512.size a ≤ S10000x512.size a)
theorem k0_off184_inb : ∀ (v731 : BitVec 32) (k0_hw92 : k0_chk92 v731), ∀ a, (k0_off184 v731) a + S1x512.size a ≤ S10000x512.size a := fun v731 k0_hw92 => k0_hw92

def k0_off185 (i : grid0.Coords) : Fin 1 → Nat :=
  let arg0 : BitVec 32 := BitVec.ofNat 32 (i 0).val
  let c168_i32 : BitVec 32 := 168#32
  let v0 : BitVec 32 := Scalar.muli arg0 c168_i32
  let c92_i32 : BitVec 32 := 92#32
  let v737 : BitVec 32 := Scalar.addi v0 c92_i32
  let v738 : Index := Scalar.indexCast v737
  ![v738.toNat]
def k0_off186 (v739 : BitVec 32) : Fin 2 → Nat :=
  let v740 : Index := Scalar.indexCast v739
  let c0_184 : Index := 0#32
  ![v740.toNat, 0]

def k0_chk93 (v739 : BitVec 32) : Prop :=
  (∀ a, (k0_off186 v739) a + S1x512.size a ≤ S10000x512.size a)
theorem k0_off186_inb : ∀ (v739 : BitVec 32) (k0_hw93 : k0_chk93 v739), ∀ a, (k0_off186 v739) a + S1x512.size a ≤ S10000x512.size a := fun v739 k0_hw93 => k0_hw93

def k0_off187 (i : grid0.Coords) : Fin 1 → Nat :=
  let arg0 : BitVec 32 := BitVec.ofNat 32 (i 0).val
  let c168_i32 : BitVec 32 := 168#32
  let v0 : BitVec 32 := Scalar.muli arg0 c168_i32
  let c93_i32 : BitVec 32 := 93#32
  let v745 : BitVec 32 := Scalar.addi v0 c93_i32
  let v746 : Index := Scalar.indexCast v745
  ![v746.toNat]
def k0_off188 (v747 : BitVec 32) : Fin 2 → Nat :=
  let v748 : Index := Scalar.indexCast v747
  let c0_186 : Index := 0#32
  ![v748.toNat, 0]

def k0_chk94 (v747 : BitVec 32) : Prop :=
  (∀ a, (k0_off188 v747) a + S1x512.size a ≤ S10000x512.size a)
theorem k0_off188_inb : ∀ (v747 : BitVec 32) (k0_hw94 : k0_chk94 v747), ∀ a, (k0_off188 v747) a + S1x512.size a ≤ S10000x512.size a := fun v747 k0_hw94 => k0_hw94

def k0_off189 (i : grid0.Coords) : Fin 1 → Nat :=
  let arg0 : BitVec 32 := BitVec.ofNat 32 (i 0).val
  let c168_i32 : BitVec 32 := 168#32
  let v0 : BitVec 32 := Scalar.muli arg0 c168_i32
  let c94_i32 : BitVec 32 := 94#32
  let v753 : BitVec 32 := Scalar.addi v0 c94_i32
  let v754 : Index := Scalar.indexCast v753
  ![v754.toNat]
def k0_off190 (v755 : BitVec 32) : Fin 2 → Nat :=
  let v756 : Index := Scalar.indexCast v755
  let c0_188 : Index := 0#32
  ![v756.toNat, 0]

def k0_chk95 (v755 : BitVec 32) : Prop :=
  (∀ a, (k0_off190 v755) a + S1x512.size a ≤ S10000x512.size a)
theorem k0_off190_inb : ∀ (v755 : BitVec 32) (k0_hw95 : k0_chk95 v755), ∀ a, (k0_off190 v755) a + S1x512.size a ≤ S10000x512.size a := fun v755 k0_hw95 => k0_hw95

def k0_off191 (i : grid0.Coords) : Fin 1 → Nat :=
  let arg0 : BitVec 32 := BitVec.ofNat 32 (i 0).val
  let c168_i32 : BitVec 32 := 168#32
  let v0 : BitVec 32 := Scalar.muli arg0 c168_i32
  let c95_i32 : BitVec 32 := 95#32
  let v761 : BitVec 32 := Scalar.addi v0 c95_i32
  let v762 : Index := Scalar.indexCast v761
  ![v762.toNat]
def k0_off192 (v763 : BitVec 32) : Fin 2 → Nat :=
  let v764 : Index := Scalar.indexCast v763
  let c0_190 : Index := 0#32
  ![v764.toNat, 0]

def k0_chk96 (v763 : BitVec 32) : Prop :=
  (∀ a, (k0_off192 v763) a + S1x512.size a ≤ S10000x512.size a)
theorem k0_off192_inb : ∀ (v763 : BitVec 32) (k0_hw96 : k0_chk96 v763), ∀ a, (k0_off192 v763) a + S1x512.size a ≤ S10000x512.size a := fun v763 k0_hw96 => k0_hw96

def k0_off193 (i : grid0.Coords) : Fin 1 → Nat :=
  let arg0 : BitVec 32 := BitVec.ofNat 32 (i 0).val
  let c168_i32 : BitVec 32 := 168#32
  let v0 : BitVec 32 := Scalar.muli arg0 c168_i32
  let c96_i32 : BitVec 32 := 96#32
  let v769 : BitVec 32 := Scalar.addi v0 c96_i32
  let v770 : Index := Scalar.indexCast v769
  ![v770.toNat]
def k0_off194 (v771 : BitVec 32) : Fin 2 → Nat :=
  let v772 : Index := Scalar.indexCast v771
  let c0_192 : Index := 0#32
  ![v772.toNat, 0]

def k0_chk97 (v771 : BitVec 32) : Prop :=
  (∀ a, (k0_off194 v771) a + S1x512.size a ≤ S10000x512.size a)
theorem k0_off194_inb : ∀ (v771 : BitVec 32) (k0_hw97 : k0_chk97 v771), ∀ a, (k0_off194 v771) a + S1x512.size a ≤ S10000x512.size a := fun v771 k0_hw97 => k0_hw97

def k0_off195 (i : grid0.Coords) : Fin 1 → Nat :=
  let arg0 : BitVec 32 := BitVec.ofNat 32 (i 0).val
  let c168_i32 : BitVec 32 := 168#32
  let v0 : BitVec 32 := Scalar.muli arg0 c168_i32
  let c97_i32 : BitVec 32 := 97#32
  let v777 : BitVec 32 := Scalar.addi v0 c97_i32
  let v778 : Index := Scalar.indexCast v777
  ![v778.toNat]
def k0_off196 (v779 : BitVec 32) : Fin 2 → Nat :=
  let v780 : Index := Scalar.indexCast v779
  let c0_194 : Index := 0#32
  ![v780.toNat, 0]

def k0_chk98 (v779 : BitVec 32) : Prop :=
  (∀ a, (k0_off196 v779) a + S1x512.size a ≤ S10000x512.size a)
theorem k0_off196_inb : ∀ (v779 : BitVec 32) (k0_hw98 : k0_chk98 v779), ∀ a, (k0_off196 v779) a + S1x512.size a ≤ S10000x512.size a := fun v779 k0_hw98 => k0_hw98

def k0_off197 (i : grid0.Coords) : Fin 1 → Nat :=
  let arg0 : BitVec 32 := BitVec.ofNat 32 (i 0).val
  let c168_i32 : BitVec 32 := 168#32
  let v0 : BitVec 32 := Scalar.muli arg0 c168_i32
  let c98_i32 : BitVec 32 := 98#32
  let v785 : BitVec 32 := Scalar.addi v0 c98_i32
  let v786 : Index := Scalar.indexCast v785
  ![v786.toNat]
def k0_off198 (v787 : BitVec 32) : Fin 2 → Nat :=
  let v788 : Index := Scalar.indexCast v787
  let c0_196 : Index := 0#32
  ![v788.toNat, 0]

def k0_chk99 (v787 : BitVec 32) : Prop :=
  (∀ a, (k0_off198 v787) a + S1x512.size a ≤ S10000x512.size a)
theorem k0_off198_inb : ∀ (v787 : BitVec 32) (k0_hw99 : k0_chk99 v787), ∀ a, (k0_off198 v787) a + S1x512.size a ≤ S10000x512.size a := fun v787 k0_hw99 => k0_hw99

def k0_off199 (i : grid0.Coords) : Fin 1 → Nat :=
  let arg0 : BitVec 32 := BitVec.ofNat 32 (i 0).val
  let c168_i32 : BitVec 32 := 168#32
  let v0 : BitVec 32 := Scalar.muli arg0 c168_i32
  let c99_i32 : BitVec 32 := 99#32
  let v793 : BitVec 32 := Scalar.addi v0 c99_i32
  let v794 : Index := Scalar.indexCast v793
  ![v794.toNat]
def k0_off200 (v795 : BitVec 32) : Fin 2 → Nat :=
  let v796 : Index := Scalar.indexCast v795
  let c0_198 : Index := 0#32
  ![v796.toNat, 0]

def k0_chk100 (v795 : BitVec 32) : Prop :=
  (∀ a, (k0_off200 v795) a + S1x512.size a ≤ S10000x512.size a)
theorem k0_off200_inb : ∀ (v795 : BitVec 32) (k0_hw100 : k0_chk100 v795), ∀ a, (k0_off200 v795) a + S1x512.size a ≤ S10000x512.size a := fun v795 k0_hw100 => k0_hw100

def k0_off201 (i : grid0.Coords) : Fin 1 → Nat :=
  let arg0 : BitVec 32 := BitVec.ofNat 32 (i 0).val
  let c168_i32 : BitVec 32 := 168#32
  let v0 : BitVec 32 := Scalar.muli arg0 c168_i32
  let c100_i32 : BitVec 32 := 100#32
  let v801 : BitVec 32 := Scalar.addi v0 c100_i32
  let v802 : Index := Scalar.indexCast v801
  ![v802.toNat]
def k0_off202 (v803 : BitVec 32) : Fin 2 → Nat :=
  let v804 : Index := Scalar.indexCast v803
  let c0_200 : Index := 0#32
  ![v804.toNat, 0]

def k0_chk101 (v803 : BitVec 32) : Prop :=
  (∀ a, (k0_off202 v803) a + S1x512.size a ≤ S10000x512.size a)
theorem k0_off202_inb : ∀ (v803 : BitVec 32) (k0_hw101 : k0_chk101 v803), ∀ a, (k0_off202 v803) a + S1x512.size a ≤ S10000x512.size a := fun v803 k0_hw101 => k0_hw101

def k0_off203 (i : grid0.Coords) : Fin 1 → Nat :=
  let arg0 : BitVec 32 := BitVec.ofNat 32 (i 0).val
  let c168_i32 : BitVec 32 := 168#32
  let v0 : BitVec 32 := Scalar.muli arg0 c168_i32
  let c101_i32 : BitVec 32 := 101#32
  let v809 : BitVec 32 := Scalar.addi v0 c101_i32
  let v810 : Index := Scalar.indexCast v809
  ![v810.toNat]
def k0_off204 (v811 : BitVec 32) : Fin 2 → Nat :=
  let v812 : Index := Scalar.indexCast v811
  let c0_202 : Index := 0#32
  ![v812.toNat, 0]

def k0_chk102 (v811 : BitVec 32) : Prop :=
  (∀ a, (k0_off204 v811) a + S1x512.size a ≤ S10000x512.size a)
theorem k0_off204_inb : ∀ (v811 : BitVec 32) (k0_hw102 : k0_chk102 v811), ∀ a, (k0_off204 v811) a + S1x512.size a ≤ S10000x512.size a := fun v811 k0_hw102 => k0_hw102

def k0_off205 (i : grid0.Coords) : Fin 1 → Nat :=
  let arg0 : BitVec 32 := BitVec.ofNat 32 (i 0).val
  let c168_i32 : BitVec 32 := 168#32
  let v0 : BitVec 32 := Scalar.muli arg0 c168_i32
  let c102_i32 : BitVec 32 := 102#32
  let v817 : BitVec 32 := Scalar.addi v0 c102_i32
  let v818 : Index := Scalar.indexCast v817
  ![v818.toNat]
def k0_off206 (v819 : BitVec 32) : Fin 2 → Nat :=
  let v820 : Index := Scalar.indexCast v819
  let c0_204 : Index := 0#32
  ![v820.toNat, 0]

def k0_chk103 (v819 : BitVec 32) : Prop :=
  (∀ a, (k0_off206 v819) a + S1x512.size a ≤ S10000x512.size a)
theorem k0_off206_inb : ∀ (v819 : BitVec 32) (k0_hw103 : k0_chk103 v819), ∀ a, (k0_off206 v819) a + S1x512.size a ≤ S10000x512.size a := fun v819 k0_hw103 => k0_hw103

def k0_off207 (i : grid0.Coords) : Fin 1 → Nat :=
  let arg0 : BitVec 32 := BitVec.ofNat 32 (i 0).val
  let c168_i32 : BitVec 32 := 168#32
  let v0 : BitVec 32 := Scalar.muli arg0 c168_i32
  let c103_i32 : BitVec 32 := 103#32
  let v825 : BitVec 32 := Scalar.addi v0 c103_i32
  let v826 : Index := Scalar.indexCast v825
  ![v826.toNat]
def k0_off208 (v827 : BitVec 32) : Fin 2 → Nat :=
  let v828 : Index := Scalar.indexCast v827
  let c0_206 : Index := 0#32
  ![v828.toNat, 0]

def k0_chk104 (v827 : BitVec 32) : Prop :=
  (∀ a, (k0_off208 v827) a + S1x512.size a ≤ S10000x512.size a)
theorem k0_off208_inb : ∀ (v827 : BitVec 32) (k0_hw104 : k0_chk104 v827), ∀ a, (k0_off208 v827) a + S1x512.size a ≤ S10000x512.size a := fun v827 k0_hw104 => k0_hw104

def k0_off209 (i : grid0.Coords) : Fin 1 → Nat :=
  let arg0 : BitVec 32 := BitVec.ofNat 32 (i 0).val
  let c168_i32 : BitVec 32 := 168#32
  let v0 : BitVec 32 := Scalar.muli arg0 c168_i32
  let c104_i32 : BitVec 32 := 104#32
  let v833 : BitVec 32 := Scalar.addi v0 c104_i32
  let v834 : Index := Scalar.indexCast v833
  ![v834.toNat]
def k0_off210 (v835 : BitVec 32) : Fin 2 → Nat :=
  let v836 : Index := Scalar.indexCast v835
  let c0_208 : Index := 0#32
  ![v836.toNat, 0]

def k0_chk105 (v835 : BitVec 32) : Prop :=
  (∀ a, (k0_off210 v835) a + S1x512.size a ≤ S10000x512.size a)
theorem k0_off210_inb : ∀ (v835 : BitVec 32) (k0_hw105 : k0_chk105 v835), ∀ a, (k0_off210 v835) a + S1x512.size a ≤ S10000x512.size a := fun v835 k0_hw105 => k0_hw105

def k0_off211 (i : grid0.Coords) : Fin 1 → Nat :=
  let arg0 : BitVec 32 := BitVec.ofNat 32 (i 0).val
  let c168_i32 : BitVec 32 := 168#32
  let v0 : BitVec 32 := Scalar.muli arg0 c168_i32
  let c105_i32 : BitVec 32 := 105#32
  let v841 : BitVec 32 := Scalar.addi v0 c105_i32
  let v842 : Index := Scalar.indexCast v841
  ![v842.toNat]
def k0_off212 (v843 : BitVec 32) : Fin 2 → Nat :=
  let v844 : Index := Scalar.indexCast v843
  let c0_210 : Index := 0#32
  ![v844.toNat, 0]

def k0_chk106 (v843 : BitVec 32) : Prop :=
  (∀ a, (k0_off212 v843) a + S1x512.size a ≤ S10000x512.size a)
theorem k0_off212_inb : ∀ (v843 : BitVec 32) (k0_hw106 : k0_chk106 v843), ∀ a, (k0_off212 v843) a + S1x512.size a ≤ S10000x512.size a := fun v843 k0_hw106 => k0_hw106

def k0_off213 (i : grid0.Coords) : Fin 1 → Nat :=
  let arg0 : BitVec 32 := BitVec.ofNat 32 (i 0).val
  let c168_i32 : BitVec 32 := 168#32
  let v0 : BitVec 32 := Scalar.muli arg0 c168_i32
  let c106_i32 : BitVec 32 := 106#32
  let v849 : BitVec 32 := Scalar.addi v0 c106_i32
  let v850 : Index := Scalar.indexCast v849
  ![v850.toNat]
def k0_off214 (v851 : BitVec 32) : Fin 2 → Nat :=
  let v852 : Index := Scalar.indexCast v851
  let c0_212 : Index := 0#32
  ![v852.toNat, 0]

def k0_chk107 (v851 : BitVec 32) : Prop :=
  (∀ a, (k0_off214 v851) a + S1x512.size a ≤ S10000x512.size a)
theorem k0_off214_inb : ∀ (v851 : BitVec 32) (k0_hw107 : k0_chk107 v851), ∀ a, (k0_off214 v851) a + S1x512.size a ≤ S10000x512.size a := fun v851 k0_hw107 => k0_hw107

def k0_off215 (i : grid0.Coords) : Fin 1 → Nat :=
  let arg0 : BitVec 32 := BitVec.ofNat 32 (i 0).val
  let c168_i32 : BitVec 32 := 168#32
  let v0 : BitVec 32 := Scalar.muli arg0 c168_i32
  let c107_i32 : BitVec 32 := 107#32
  let v857 : BitVec 32 := Scalar.addi v0 c107_i32
  let v858 : Index := Scalar.indexCast v857
  ![v858.toNat]
def k0_off216 (v859 : BitVec 32) : Fin 2 → Nat :=
  let v860 : Index := Scalar.indexCast v859
  let c0_214 : Index := 0#32
  ![v860.toNat, 0]

def k0_chk108 (v859 : BitVec 32) : Prop :=
  (∀ a, (k0_off216 v859) a + S1x512.size a ≤ S10000x512.size a)
theorem k0_off216_inb : ∀ (v859 : BitVec 32) (k0_hw108 : k0_chk108 v859), ∀ a, (k0_off216 v859) a + S1x512.size a ≤ S10000x512.size a := fun v859 k0_hw108 => k0_hw108

def k0_off217 (i : grid0.Coords) : Fin 1 → Nat :=
  let arg0 : BitVec 32 := BitVec.ofNat 32 (i 0).val
  let c168_i32 : BitVec 32 := 168#32
  let v0 : BitVec 32 := Scalar.muli arg0 c168_i32
  let c108_i32 : BitVec 32 := 108#32
  let v865 : BitVec 32 := Scalar.addi v0 c108_i32
  let v866 : Index := Scalar.indexCast v865
  ![v866.toNat]
def k0_off218 (v867 : BitVec 32) : Fin 2 → Nat :=
  let v868 : Index := Scalar.indexCast v867
  let c0_216 : Index := 0#32
  ![v868.toNat, 0]

def k0_chk109 (v867 : BitVec 32) : Prop :=
  (∀ a, (k0_off218 v867) a + S1x512.size a ≤ S10000x512.size a)
theorem k0_off218_inb : ∀ (v867 : BitVec 32) (k0_hw109 : k0_chk109 v867), ∀ a, (k0_off218 v867) a + S1x512.size a ≤ S10000x512.size a := fun v867 k0_hw109 => k0_hw109

def k0_off219 (i : grid0.Coords) : Fin 1 → Nat :=
  let arg0 : BitVec 32 := BitVec.ofNat 32 (i 0).val
  let c168_i32 : BitVec 32 := 168#32
  let v0 : BitVec 32 := Scalar.muli arg0 c168_i32
  let c109_i32 : BitVec 32 := 109#32
  let v873 : BitVec 32 := Scalar.addi v0 c109_i32
  let v874 : Index := Scalar.indexCast v873
  ![v874.toNat]
def k0_off220 (v875 : BitVec 32) : Fin 2 → Nat :=
  let v876 : Index := Scalar.indexCast v875
  let c0_218 : Index := 0#32
  ![v876.toNat, 0]

def k0_chk110 (v875 : BitVec 32) : Prop :=
  (∀ a, (k0_off220 v875) a + S1x512.size a ≤ S10000x512.size a)
theorem k0_off220_inb : ∀ (v875 : BitVec 32) (k0_hw110 : k0_chk110 v875), ∀ a, (k0_off220 v875) a + S1x512.size a ≤ S10000x512.size a := fun v875 k0_hw110 => k0_hw110

def k0_off221 (i : grid0.Coords) : Fin 1 → Nat :=
  let arg0 : BitVec 32 := BitVec.ofNat 32 (i 0).val
  let c168_i32 : BitVec 32 := 168#32
  let v0 : BitVec 32 := Scalar.muli arg0 c168_i32
  let c110_i32 : BitVec 32 := 110#32
  let v881 : BitVec 32 := Scalar.addi v0 c110_i32
  let v882 : Index := Scalar.indexCast v881
  ![v882.toNat]
def k0_off222 (v883 : BitVec 32) : Fin 2 → Nat :=
  let v884 : Index := Scalar.indexCast v883
  let c0_220 : Index := 0#32
  ![v884.toNat, 0]

def k0_chk111 (v883 : BitVec 32) : Prop :=
  (∀ a, (k0_off222 v883) a + S1x512.size a ≤ S10000x512.size a)
theorem k0_off222_inb : ∀ (v883 : BitVec 32) (k0_hw111 : k0_chk111 v883), ∀ a, (k0_off222 v883) a + S1x512.size a ≤ S10000x512.size a := fun v883 k0_hw111 => k0_hw111

def k0_off223 (i : grid0.Coords) : Fin 1 → Nat :=
  let arg0 : BitVec 32 := BitVec.ofNat 32 (i 0).val
  let c168_i32 : BitVec 32 := 168#32
  let v0 : BitVec 32 := Scalar.muli arg0 c168_i32
  let c111_i32 : BitVec 32 := 111#32
  let v889 : BitVec 32 := Scalar.addi v0 c111_i32
  let v890 : Index := Scalar.indexCast v889
  ![v890.toNat]
def k0_off224 (v891 : BitVec 32) : Fin 2 → Nat :=
  let v892 : Index := Scalar.indexCast v891
  let c0_222 : Index := 0#32
  ![v892.toNat, 0]

def k0_chk112 (v891 : BitVec 32) : Prop :=
  (∀ a, (k0_off224 v891) a + S1x512.size a ≤ S10000x512.size a)
theorem k0_off224_inb : ∀ (v891 : BitVec 32) (k0_hw112 : k0_chk112 v891), ∀ a, (k0_off224 v891) a + S1x512.size a ≤ S10000x512.size a := fun v891 k0_hw112 => k0_hw112

def k0_off225 (i : grid0.Coords) : Fin 1 → Nat :=
  let arg0 : BitVec 32 := BitVec.ofNat 32 (i 0).val
  let c168_i32 : BitVec 32 := 168#32
  let v0 : BitVec 32 := Scalar.muli arg0 c168_i32
  let c112_i32 : BitVec 32 := 112#32
  let v897 : BitVec 32 := Scalar.addi v0 c112_i32
  let v898 : Index := Scalar.indexCast v897
  ![v898.toNat]
def k0_off226 (v899 : BitVec 32) : Fin 2 → Nat :=
  let v900 : Index := Scalar.indexCast v899
  let c0_224 : Index := 0#32
  ![v900.toNat, 0]

def k0_chk113 (v899 : BitVec 32) : Prop :=
  (∀ a, (k0_off226 v899) a + S1x512.size a ≤ S10000x512.size a)
theorem k0_off226_inb : ∀ (v899 : BitVec 32) (k0_hw113 : k0_chk113 v899), ∀ a, (k0_off226 v899) a + S1x512.size a ≤ S10000x512.size a := fun v899 k0_hw113 => k0_hw113

def k0_off227 (i : grid0.Coords) : Fin 1 → Nat :=
  let arg0 : BitVec 32 := BitVec.ofNat 32 (i 0).val
  let c168_i32 : BitVec 32 := 168#32
  let v0 : BitVec 32 := Scalar.muli arg0 c168_i32
  let c113_i32 : BitVec 32 := 113#32
  let v905 : BitVec 32 := Scalar.addi v0 c113_i32
  let v906 : Index := Scalar.indexCast v905
  ![v906.toNat]
def k0_off228 (v907 : BitVec 32) : Fin 2 → Nat :=
  let v908 : Index := Scalar.indexCast v907
  let c0_226 : Index := 0#32
  ![v908.toNat, 0]

def k0_chk114 (v907 : BitVec 32) : Prop :=
  (∀ a, (k0_off228 v907) a + S1x512.size a ≤ S10000x512.size a)
theorem k0_off228_inb : ∀ (v907 : BitVec 32) (k0_hw114 : k0_chk114 v907), ∀ a, (k0_off228 v907) a + S1x512.size a ≤ S10000x512.size a := fun v907 k0_hw114 => k0_hw114

def k0_off229 (i : grid0.Coords) : Fin 1 → Nat :=
  let arg0 : BitVec 32 := BitVec.ofNat 32 (i 0).val
  let c168_i32 : BitVec 32 := 168#32
  let v0 : BitVec 32 := Scalar.muli arg0 c168_i32
  let c114_i32 : BitVec 32 := 114#32
  let v913 : BitVec 32 := Scalar.addi v0 c114_i32
  let v914 : Index := Scalar.indexCast v913
  ![v914.toNat]
def k0_off230 (v915 : BitVec 32) : Fin 2 → Nat :=
  let v916 : Index := Scalar.indexCast v915
  let c0_228 : Index := 0#32
  ![v916.toNat, 0]

def k0_chk115 (v915 : BitVec 32) : Prop :=
  (∀ a, (k0_off230 v915) a + S1x512.size a ≤ S10000x512.size a)
theorem k0_off230_inb : ∀ (v915 : BitVec 32) (k0_hw115 : k0_chk115 v915), ∀ a, (k0_off230 v915) a + S1x512.size a ≤ S10000x512.size a := fun v915 k0_hw115 => k0_hw115

def k0_off231 (i : grid0.Coords) : Fin 1 → Nat :=
  let arg0 : BitVec 32 := BitVec.ofNat 32 (i 0).val
  let c168_i32 : BitVec 32 := 168#32
  let v0 : BitVec 32 := Scalar.muli arg0 c168_i32
  let c115_i32 : BitVec 32 := 115#32
  let v921 : BitVec 32 := Scalar.addi v0 c115_i32
  let v922 : Index := Scalar.indexCast v921
  ![v922.toNat]
def k0_off232 (v923 : BitVec 32) : Fin 2 → Nat :=
  let v924 : Index := Scalar.indexCast v923
  let c0_230 : Index := 0#32
  ![v924.toNat, 0]

def k0_chk116 (v923 : BitVec 32) : Prop :=
  (∀ a, (k0_off232 v923) a + S1x512.size a ≤ S10000x512.size a)
theorem k0_off232_inb : ∀ (v923 : BitVec 32) (k0_hw116 : k0_chk116 v923), ∀ a, (k0_off232 v923) a + S1x512.size a ≤ S10000x512.size a := fun v923 k0_hw116 => k0_hw116

def k0_off233 (i : grid0.Coords) : Fin 1 → Nat :=
  let arg0 : BitVec 32 := BitVec.ofNat 32 (i 0).val
  let c168_i32 : BitVec 32 := 168#32
  let v0 : BitVec 32 := Scalar.muli arg0 c168_i32
  let c116_i32 : BitVec 32 := 116#32
  let v929 : BitVec 32 := Scalar.addi v0 c116_i32
  let v930 : Index := Scalar.indexCast v929
  ![v930.toNat]
def k0_off234 (v931 : BitVec 32) : Fin 2 → Nat :=
  let v932 : Index := Scalar.indexCast v931
  let c0_232 : Index := 0#32
  ![v932.toNat, 0]

def k0_chk117 (v931 : BitVec 32) : Prop :=
  (∀ a, (k0_off234 v931) a + S1x512.size a ≤ S10000x512.size a)
theorem k0_off234_inb : ∀ (v931 : BitVec 32) (k0_hw117 : k0_chk117 v931), ∀ a, (k0_off234 v931) a + S1x512.size a ≤ S10000x512.size a := fun v931 k0_hw117 => k0_hw117

def k0_off235 (i : grid0.Coords) : Fin 1 → Nat :=
  let arg0 : BitVec 32 := BitVec.ofNat 32 (i 0).val
  let c168_i32 : BitVec 32 := 168#32
  let v0 : BitVec 32 := Scalar.muli arg0 c168_i32
  let c117_i32 : BitVec 32 := 117#32
  let v937 : BitVec 32 := Scalar.addi v0 c117_i32
  let v938 : Index := Scalar.indexCast v937
  ![v938.toNat]
def k0_off236 (v939 : BitVec 32) : Fin 2 → Nat :=
  let v940 : Index := Scalar.indexCast v939
  let c0_234 : Index := 0#32
  ![v940.toNat, 0]

def k0_chk118 (v939 : BitVec 32) : Prop :=
  (∀ a, (k0_off236 v939) a + S1x512.size a ≤ S10000x512.size a)
theorem k0_off236_inb : ∀ (v939 : BitVec 32) (k0_hw118 : k0_chk118 v939), ∀ a, (k0_off236 v939) a + S1x512.size a ≤ S10000x512.size a := fun v939 k0_hw118 => k0_hw118

def k0_off237 (i : grid0.Coords) : Fin 1 → Nat :=
  let arg0 : BitVec 32 := BitVec.ofNat 32 (i 0).val
  let c168_i32 : BitVec 32 := 168#32
  let v0 : BitVec 32 := Scalar.muli arg0 c168_i32
  let c118_i32 : BitVec 32 := 118#32
  let v945 : BitVec 32 := Scalar.addi v0 c118_i32
  let v946 : Index := Scalar.indexCast v945
  ![v946.toNat]
def k0_off238 (v947 : BitVec 32) : Fin 2 → Nat :=
  let v948 : Index := Scalar.indexCast v947
  let c0_236 : Index := 0#32
  ![v948.toNat, 0]

def k0_chk119 (v947 : BitVec 32) : Prop :=
  (∀ a, (k0_off238 v947) a + S1x512.size a ≤ S10000x512.size a)
theorem k0_off238_inb : ∀ (v947 : BitVec 32) (k0_hw119 : k0_chk119 v947), ∀ a, (k0_off238 v947) a + S1x512.size a ≤ S10000x512.size a := fun v947 k0_hw119 => k0_hw119

def k0_off239 (i : grid0.Coords) : Fin 1 → Nat :=
  let arg0 : BitVec 32 := BitVec.ofNat 32 (i 0).val
  let c168_i32 : BitVec 32 := 168#32
  let v0 : BitVec 32 := Scalar.muli arg0 c168_i32
  let c119_i32 : BitVec 32 := 119#32
  let v953 : BitVec 32 := Scalar.addi v0 c119_i32
  let v954 : Index := Scalar.indexCast v953
  ![v954.toNat]
def k0_off240 (v955 : BitVec 32) : Fin 2 → Nat :=
  let v956 : Index := Scalar.indexCast v955
  let c0_238 : Index := 0#32
  ![v956.toNat, 0]

def k0_chk120 (v955 : BitVec 32) : Prop :=
  (∀ a, (k0_off240 v955) a + S1x512.size a ≤ S10000x512.size a)
theorem k0_off240_inb : ∀ (v955 : BitVec 32) (k0_hw120 : k0_chk120 v955), ∀ a, (k0_off240 v955) a + S1x512.size a ≤ S10000x512.size a := fun v955 k0_hw120 => k0_hw120

def k0_off241 (i : grid0.Coords) : Fin 1 → Nat :=
  let arg0 : BitVec 32 := BitVec.ofNat 32 (i 0).val
  let c168_i32 : BitVec 32 := 168#32
  let v0 : BitVec 32 := Scalar.muli arg0 c168_i32
  let c120_i32 : BitVec 32 := 120#32
  let v961 : BitVec 32 := Scalar.addi v0 c120_i32
  let v962 : Index := Scalar.indexCast v961
  ![v962.toNat]
def k0_off242 (v963 : BitVec 32) : Fin 2 → Nat :=
  let v964 : Index := Scalar.indexCast v963
  let c0_240 : Index := 0#32
  ![v964.toNat, 0]

def k0_chk121 (v963 : BitVec 32) : Prop :=
  (∀ a, (k0_off242 v963) a + S1x512.size a ≤ S10000x512.size a)
theorem k0_off242_inb : ∀ (v963 : BitVec 32) (k0_hw121 : k0_chk121 v963), ∀ a, (k0_off242 v963) a + S1x512.size a ≤ S10000x512.size a := fun v963 k0_hw121 => k0_hw121

def k0_off243 (i : grid0.Coords) : Fin 1 → Nat :=
  let arg0 : BitVec 32 := BitVec.ofNat 32 (i 0).val
  let c168_i32 : BitVec 32 := 168#32
  let v0 : BitVec 32 := Scalar.muli arg0 c168_i32
  let c121_i32 : BitVec 32 := 121#32
  let v969 : BitVec 32 := Scalar.addi v0 c121_i32
  let v970 : Index := Scalar.indexCast v969
  ![v970.toNat]
def k0_off244 (v971 : BitVec 32) : Fin 2 → Nat :=
  let v972 : Index := Scalar.indexCast v971
  let c0_242 : Index := 0#32
  ![v972.toNat, 0]

def k0_chk122 (v971 : BitVec 32) : Prop :=
  (∀ a, (k0_off244 v971) a + S1x512.size a ≤ S10000x512.size a)
theorem k0_off244_inb : ∀ (v971 : BitVec 32) (k0_hw122 : k0_chk122 v971), ∀ a, (k0_off244 v971) a + S1x512.size a ≤ S10000x512.size a := fun v971 k0_hw122 => k0_hw122

def k0_off245 (i : grid0.Coords) : Fin 1 → Nat :=
  let arg0 : BitVec 32 := BitVec.ofNat 32 (i 0).val
  let c168_i32 : BitVec 32 := 168#32
  let v0 : BitVec 32 := Scalar.muli arg0 c168_i32
  let c122_i32 : BitVec 32 := 122#32
  let v977 : BitVec 32 := Scalar.addi v0 c122_i32
  let v978 : Index := Scalar.indexCast v977
  ![v978.toNat]
def k0_off246 (v979 : BitVec 32) : Fin 2 → Nat :=
  let v980 : Index := Scalar.indexCast v979
  let c0_244 : Index := 0#32
  ![v980.toNat, 0]

def k0_chk123 (v979 : BitVec 32) : Prop :=
  (∀ a, (k0_off246 v979) a + S1x512.size a ≤ S10000x512.size a)
theorem k0_off246_inb : ∀ (v979 : BitVec 32) (k0_hw123 : k0_chk123 v979), ∀ a, (k0_off246 v979) a + S1x512.size a ≤ S10000x512.size a := fun v979 k0_hw123 => k0_hw123

def k0_off247 (i : grid0.Coords) : Fin 1 → Nat :=
  let arg0 : BitVec 32 := BitVec.ofNat 32 (i 0).val
  let c168_i32 : BitVec 32 := 168#32
  let v0 : BitVec 32 := Scalar.muli arg0 c168_i32
  let c123_i32 : BitVec 32 := 123#32
  let v985 : BitVec 32 := Scalar.addi v0 c123_i32
  let v986 : Index := Scalar.indexCast v985
  ![v986.toNat]
def k0_off248 (v987 : BitVec 32) : Fin 2 → Nat :=
  let v988 : Index := Scalar.indexCast v987
  let c0_246 : Index := 0#32
  ![v988.toNat, 0]

def k0_chk124 (v987 : BitVec 32) : Prop :=
  (∀ a, (k0_off248 v987) a + S1x512.size a ≤ S10000x512.size a)
theorem k0_off248_inb : ∀ (v987 : BitVec 32) (k0_hw124 : k0_chk124 v987), ∀ a, (k0_off248 v987) a + S1x512.size a ≤ S10000x512.size a := fun v987 k0_hw124 => k0_hw124

def k0_off249 (i : grid0.Coords) : Fin 1 → Nat :=
  let arg0 : BitVec 32 := BitVec.ofNat 32 (i 0).val
  let c168_i32 : BitVec 32 := 168#32
  let v0 : BitVec 32 := Scalar.muli arg0 c168_i32
  let c124_i32 : BitVec 32 := 124#32
  let v993 : BitVec 32 := Scalar.addi v0 c124_i32
  let v994 : Index := Scalar.indexCast v993
  ![v994.toNat]
def k0_off250 (v995 : BitVec 32) : Fin 2 → Nat :=
  let v996 : Index := Scalar.indexCast v995
  let c0_248 : Index := 0#32
  ![v996.toNat, 0]

def k0_chk125 (v995 : BitVec 32) : Prop :=
  (∀ a, (k0_off250 v995) a + S1x512.size a ≤ S10000x512.size a)
theorem k0_off250_inb : ∀ (v995 : BitVec 32) (k0_hw125 : k0_chk125 v995), ∀ a, (k0_off250 v995) a + S1x512.size a ≤ S10000x512.size a := fun v995 k0_hw125 => k0_hw125

def k0_off251 (i : grid0.Coords) : Fin 1 → Nat :=
  let arg0 : BitVec 32 := BitVec.ofNat 32 (i 0).val
  let c168_i32 : BitVec 32 := 168#32
  let v0 : BitVec 32 := Scalar.muli arg0 c168_i32
  let c125_i32 : BitVec 32 := 125#32
  let v1001 : BitVec 32 := Scalar.addi v0 c125_i32
  let v1002 : Index := Scalar.indexCast v1001
  ![v1002.toNat]
def k0_off252 (v1003 : BitVec 32) : Fin 2 → Nat :=
  let v1004 : Index := Scalar.indexCast v1003
  let c0_250 : Index := 0#32
  ![v1004.toNat, 0]

def k0_chk126 (v1003 : BitVec 32) : Prop :=
  (∀ a, (k0_off252 v1003) a + S1x512.size a ≤ S10000x512.size a)
theorem k0_off252_inb : ∀ (v1003 : BitVec 32) (k0_hw126 : k0_chk126 v1003), ∀ a, (k0_off252 v1003) a + S1x512.size a ≤ S10000x512.size a := fun v1003 k0_hw126 => k0_hw126

def k0_off253 (i : grid0.Coords) : Fin 1 → Nat :=
  let arg0 : BitVec 32 := BitVec.ofNat 32 (i 0).val
  let c168_i32 : BitVec 32 := 168#32
  let v0 : BitVec 32 := Scalar.muli arg0 c168_i32
  let c126_i32 : BitVec 32 := 126#32
  let v1009 : BitVec 32 := Scalar.addi v0 c126_i32
  let v1010 : Index := Scalar.indexCast v1009
  ![v1010.toNat]
def k0_off254 (v1011 : BitVec 32) : Fin 2 → Nat :=
  let v1012 : Index := Scalar.indexCast v1011
  let c0_252 : Index := 0#32
  ![v1012.toNat, 0]

def k0_chk127 (v1011 : BitVec 32) : Prop :=
  (∀ a, (k0_off254 v1011) a + S1x512.size a ≤ S10000x512.size a)
theorem k0_off254_inb : ∀ (v1011 : BitVec 32) (k0_hw127 : k0_chk127 v1011), ∀ a, (k0_off254 v1011) a + S1x512.size a ≤ S10000x512.size a := fun v1011 k0_hw127 => k0_hw127

def k0_off255 (i : grid0.Coords) : Fin 1 → Nat :=
  let arg0 : BitVec 32 := BitVec.ofNat 32 (i 0).val
  let c168_i32 : BitVec 32 := 168#32
  let v0 : BitVec 32 := Scalar.muli arg0 c168_i32
  let c127_i32 : BitVec 32 := 127#32
  let v1017 : BitVec 32 := Scalar.addi v0 c127_i32
  let v1018 : Index := Scalar.indexCast v1017
  ![v1018.toNat]
def k0_off256 (v1019 : BitVec 32) : Fin 2 → Nat :=
  let v1020 : Index := Scalar.indexCast v1019
  let c0_254 : Index := 0#32
  ![v1020.toNat, 0]

def k0_chk128 (v1019 : BitVec 32) : Prop :=
  (∀ a, (k0_off256 v1019) a + S1x512.size a ≤ S10000x512.size a)
theorem k0_off256_inb : ∀ (v1019 : BitVec 32) (k0_hw128 : k0_chk128 v1019), ∀ a, (k0_off256 v1019) a + S1x512.size a ≤ S10000x512.size a := fun v1019 k0_hw128 => k0_hw128

def k0_off257 (i : grid0.Coords) : Fin 1 → Nat :=
  let arg0 : BitVec 32 := BitVec.ofNat 32 (i 0).val
  let c168_i32 : BitVec 32 := 168#32
  let v0 : BitVec 32 := Scalar.muli arg0 c168_i32
  let c128_i32 : BitVec 32 := 128#32
  let v1025 : BitVec 32 := Scalar.addi v0 c128_i32
  let v1026 : Index := Scalar.indexCast v1025
  ![v1026.toNat]
def k0_off258 (v1027 : BitVec 32) : Fin 2 → Nat :=
  let v1028 : Index := Scalar.indexCast v1027
  let c0_256 : Index := 0#32
  ![v1028.toNat, 0]

def k0_chk129 (v1027 : BitVec 32) : Prop :=
  (∀ a, (k0_off258 v1027) a + S1x512.size a ≤ S10000x512.size a)
theorem k0_off258_inb : ∀ (v1027 : BitVec 32) (k0_hw129 : k0_chk129 v1027), ∀ a, (k0_off258 v1027) a + S1x512.size a ≤ S10000x512.size a := fun v1027 k0_hw129 => k0_hw129

def k0_off259 (i : grid0.Coords) : Fin 1 → Nat :=
  let arg0 : BitVec 32 := BitVec.ofNat 32 (i 0).val
  let c168_i32 : BitVec 32 := 168#32
  let v0 : BitVec 32 := Scalar.muli arg0 c168_i32
  let c129_i32 : BitVec 32 := 129#32
  let v1033 : BitVec 32 := Scalar.addi v0 c129_i32
  let v1034 : Index := Scalar.indexCast v1033
  ![v1034.toNat]
def k0_off260 (v1035 : BitVec 32) : Fin 2 → Nat :=
  let v1036 : Index := Scalar.indexCast v1035
  let c0_258 : Index := 0#32
  ![v1036.toNat, 0]

def k0_chk130 (v1035 : BitVec 32) : Prop :=
  (∀ a, (k0_off260 v1035) a + S1x512.size a ≤ S10000x512.size a)
theorem k0_off260_inb : ∀ (v1035 : BitVec 32) (k0_hw130 : k0_chk130 v1035), ∀ a, (k0_off260 v1035) a + S1x512.size a ≤ S10000x512.size a := fun v1035 k0_hw130 => k0_hw130

def k0_off261 (i : grid0.Coords) : Fin 1 → Nat :=
  let arg0 : BitVec 32 := BitVec.ofNat 32 (i 0).val
  let c168_i32 : BitVec 32 := 168#32
  let v0 : BitVec 32 := Scalar.muli arg0 c168_i32
  let c130_i32 : BitVec 32 := 130#32
  let v1041 : BitVec 32 := Scalar.addi v0 c130_i32
  let v1042 : Index := Scalar.indexCast v1041
  ![v1042.toNat]
def k0_off262 (v1043 : BitVec 32) : Fin 2 → Nat :=
  let v1044 : Index := Scalar.indexCast v1043
  let c0_260 : Index := 0#32
  ![v1044.toNat, 0]

def k0_chk131 (v1043 : BitVec 32) : Prop :=
  (∀ a, (k0_off262 v1043) a + S1x512.size a ≤ S10000x512.size a)
theorem k0_off262_inb : ∀ (v1043 : BitVec 32) (k0_hw131 : k0_chk131 v1043), ∀ a, (k0_off262 v1043) a + S1x512.size a ≤ S10000x512.size a := fun v1043 k0_hw131 => k0_hw131

def k0_off263 (i : grid0.Coords) : Fin 1 → Nat :=
  let arg0 : BitVec 32 := BitVec.ofNat 32 (i 0).val
  let c168_i32 : BitVec 32 := 168#32
  let v0 : BitVec 32 := Scalar.muli arg0 c168_i32
  let c131_i32 : BitVec 32 := 131#32
  let v1049 : BitVec 32 := Scalar.addi v0 c131_i32
  let v1050 : Index := Scalar.indexCast v1049
  ![v1050.toNat]
def k0_off264 (v1051 : BitVec 32) : Fin 2 → Nat :=
  let v1052 : Index := Scalar.indexCast v1051
  let c0_262 : Index := 0#32
  ![v1052.toNat, 0]

def k0_chk132 (v1051 : BitVec 32) : Prop :=
  (∀ a, (k0_off264 v1051) a + S1x512.size a ≤ S10000x512.size a)
theorem k0_off264_inb : ∀ (v1051 : BitVec 32) (k0_hw132 : k0_chk132 v1051), ∀ a, (k0_off264 v1051) a + S1x512.size a ≤ S10000x512.size a := fun v1051 k0_hw132 => k0_hw132

def k0_off265 (i : grid0.Coords) : Fin 1 → Nat :=
  let arg0 : BitVec 32 := BitVec.ofNat 32 (i 0).val
  let c168_i32 : BitVec 32 := 168#32
  let v0 : BitVec 32 := Scalar.muli arg0 c168_i32
  let c132_i32 : BitVec 32 := 132#32
  let v1057 : BitVec 32 := Scalar.addi v0 c132_i32
  let v1058 : Index := Scalar.indexCast v1057
  ![v1058.toNat]
def k0_off266 (v1059 : BitVec 32) : Fin 2 → Nat :=
  let v1060 : Index := Scalar.indexCast v1059
  let c0_264 : Index := 0#32
  ![v1060.toNat, 0]

def k0_chk133 (v1059 : BitVec 32) : Prop :=
  (∀ a, (k0_off266 v1059) a + S1x512.size a ≤ S10000x512.size a)
theorem k0_off266_inb : ∀ (v1059 : BitVec 32) (k0_hw133 : k0_chk133 v1059), ∀ a, (k0_off266 v1059) a + S1x512.size a ≤ S10000x512.size a := fun v1059 k0_hw133 => k0_hw133

def k0_off267 (i : grid0.Coords) : Fin 1 → Nat :=
  let arg0 : BitVec 32 := BitVec.ofNat 32 (i 0).val
  let c168_i32 : BitVec 32 := 168#32
  let v0 : BitVec 32 := Scalar.muli arg0 c168_i32
  let c133_i32 : BitVec 32 := 133#32
  let v1065 : BitVec 32 := Scalar.addi v0 c133_i32
  let v1066 : Index := Scalar.indexCast v1065
  ![v1066.toNat]
def k0_off268 (v1067 : BitVec 32) : Fin 2 → Nat :=
  let v1068 : Index := Scalar.indexCast v1067
  let c0_266 : Index := 0#32
  ![v1068.toNat, 0]

def k0_chk134 (v1067 : BitVec 32) : Prop :=
  (∀ a, (k0_off268 v1067) a + S1x512.size a ≤ S10000x512.size a)
theorem k0_off268_inb : ∀ (v1067 : BitVec 32) (k0_hw134 : k0_chk134 v1067), ∀ a, (k0_off268 v1067) a + S1x512.size a ≤ S10000x512.size a := fun v1067 k0_hw134 => k0_hw134

def k0_off269 (i : grid0.Coords) : Fin 1 → Nat :=
  let arg0 : BitVec 32 := BitVec.ofNat 32 (i 0).val
  let c168_i32 : BitVec 32 := 168#32
  let v0 : BitVec 32 := Scalar.muli arg0 c168_i32
  let c134_i32 : BitVec 32 := 134#32
  let v1073 : BitVec 32 := Scalar.addi v0 c134_i32
  let v1074 : Index := Scalar.indexCast v1073
  ![v1074.toNat]
def k0_off270 (v1075 : BitVec 32) : Fin 2 → Nat :=
  let v1076 : Index := Scalar.indexCast v1075
  let c0_268 : Index := 0#32
  ![v1076.toNat, 0]

def k0_chk135 (v1075 : BitVec 32) : Prop :=
  (∀ a, (k0_off270 v1075) a + S1x512.size a ≤ S10000x512.size a)
theorem k0_off270_inb : ∀ (v1075 : BitVec 32) (k0_hw135 : k0_chk135 v1075), ∀ a, (k0_off270 v1075) a + S1x512.size a ≤ S10000x512.size a := fun v1075 k0_hw135 => k0_hw135

def k0_off271 (i : grid0.Coords) : Fin 1 → Nat :=
  let arg0 : BitVec 32 := BitVec.ofNat 32 (i 0).val
  let c168_i32 : BitVec 32 := 168#32
  let v0 : BitVec 32 := Scalar.muli arg0 c168_i32
  let c135_i32 : BitVec 32 := 135#32
  let v1081 : BitVec 32 := Scalar.addi v0 c135_i32
  let v1082 : Index := Scalar.indexCast v1081
  ![v1082.toNat]
def k0_off272 (v1083 : BitVec 32) : Fin 2 → Nat :=
  let v1084 : Index := Scalar.indexCast v1083
  let c0_270 : Index := 0#32
  ![v1084.toNat, 0]

def k0_chk136 (v1083 : BitVec 32) : Prop :=
  (∀ a, (k0_off272 v1083) a + S1x512.size a ≤ S10000x512.size a)
theorem k0_off272_inb : ∀ (v1083 : BitVec 32) (k0_hw136 : k0_chk136 v1083), ∀ a, (k0_off272 v1083) a + S1x512.size a ≤ S10000x512.size a := fun v1083 k0_hw136 => k0_hw136

def k0_off273 (i : grid0.Coords) : Fin 1 → Nat :=
  let arg0 : BitVec 32 := BitVec.ofNat 32 (i 0).val
  let c168_i32 : BitVec 32 := 168#32
  let v0 : BitVec 32 := Scalar.muli arg0 c168_i32
  let c136_i32 : BitVec 32 := 136#32
  let v1089 : BitVec 32 := Scalar.addi v0 c136_i32
  let v1090 : Index := Scalar.indexCast v1089
  ![v1090.toNat]
def k0_off274 (v1091 : BitVec 32) : Fin 2 → Nat :=
  let v1092 : Index := Scalar.indexCast v1091
  let c0_272 : Index := 0#32
  ![v1092.toNat, 0]

def k0_chk137 (v1091 : BitVec 32) : Prop :=
  (∀ a, (k0_off274 v1091) a + S1x512.size a ≤ S10000x512.size a)
theorem k0_off274_inb : ∀ (v1091 : BitVec 32) (k0_hw137 : k0_chk137 v1091), ∀ a, (k0_off274 v1091) a + S1x512.size a ≤ S10000x512.size a := fun v1091 k0_hw137 => k0_hw137

def k0_off275 (i : grid0.Coords) : Fin 1 → Nat :=
  let arg0 : BitVec 32 := BitVec.ofNat 32 (i 0).val
  let c168_i32 : BitVec 32 := 168#32
  let v0 : BitVec 32 := Scalar.muli arg0 c168_i32
  let c137_i32 : BitVec 32 := 137#32
  let v1097 : BitVec 32 := Scalar.addi v0 c137_i32
  let v1098 : Index := Scalar.indexCast v1097
  ![v1098.toNat]
def k0_off276 (v1099 : BitVec 32) : Fin 2 → Nat :=
  let v1100 : Index := Scalar.indexCast v1099
  let c0_274 : Index := 0#32
  ![v1100.toNat, 0]

def k0_chk138 (v1099 : BitVec 32) : Prop :=
  (∀ a, (k0_off276 v1099) a + S1x512.size a ≤ S10000x512.size a)
theorem k0_off276_inb : ∀ (v1099 : BitVec 32) (k0_hw138 : k0_chk138 v1099), ∀ a, (k0_off276 v1099) a + S1x512.size a ≤ S10000x512.size a := fun v1099 k0_hw138 => k0_hw138

def k0_off277 (i : grid0.Coords) : Fin 1 → Nat :=
  let arg0 : BitVec 32 := BitVec.ofNat 32 (i 0).val
  let c168_i32 : BitVec 32 := 168#32
  let v0 : BitVec 32 := Scalar.muli arg0 c168_i32
  let c138_i32 : BitVec 32 := 138#32
  let v1105 : BitVec 32 := Scalar.addi v0 c138_i32
  let v1106 : Index := Scalar.indexCast v1105
  ![v1106.toNat]
def k0_off278 (v1107 : BitVec 32) : Fin 2 → Nat :=
  let v1108 : Index := Scalar.indexCast v1107
  let c0_276 : Index := 0#32
  ![v1108.toNat, 0]

def k0_chk139 (v1107 : BitVec 32) : Prop :=
  (∀ a, (k0_off278 v1107) a + S1x512.size a ≤ S10000x512.size a)
theorem k0_off278_inb : ∀ (v1107 : BitVec 32) (k0_hw139 : k0_chk139 v1107), ∀ a, (k0_off278 v1107) a + S1x512.size a ≤ S10000x512.size a := fun v1107 k0_hw139 => k0_hw139

def k0_off279 (i : grid0.Coords) : Fin 1 → Nat :=
  let arg0 : BitVec 32 := BitVec.ofNat 32 (i 0).val
  let c168_i32 : BitVec 32 := 168#32
  let v0 : BitVec 32 := Scalar.muli arg0 c168_i32
  let c139_i32 : BitVec 32 := 139#32
  let v1113 : BitVec 32 := Scalar.addi v0 c139_i32
  let v1114 : Index := Scalar.indexCast v1113
  ![v1114.toNat]
def k0_off280 (v1115 : BitVec 32) : Fin 2 → Nat :=
  let v1116 : Index := Scalar.indexCast v1115
  let c0_278 : Index := 0#32
  ![v1116.toNat, 0]

def k0_chk140 (v1115 : BitVec 32) : Prop :=
  (∀ a, (k0_off280 v1115) a + S1x512.size a ≤ S10000x512.size a)
theorem k0_off280_inb : ∀ (v1115 : BitVec 32) (k0_hw140 : k0_chk140 v1115), ∀ a, (k0_off280 v1115) a + S1x512.size a ≤ S10000x512.size a := fun v1115 k0_hw140 => k0_hw140

def k0_off281 (i : grid0.Coords) : Fin 1 → Nat :=
  let arg0 : BitVec 32 := BitVec.ofNat 32 (i 0).val
  let c168_i32 : BitVec 32 := 168#32
  let v0 : BitVec 32 := Scalar.muli arg0 c168_i32
  let c140_i32 : BitVec 32 := 140#32
  let v1121 : BitVec 32 := Scalar.addi v0 c140_i32
  let v1122 : Index := Scalar.indexCast v1121
  ![v1122.toNat]
def k0_off282 (v1123 : BitVec 32) : Fin 2 → Nat :=
  let v1124 : Index := Scalar.indexCast v1123
  let c0_280 : Index := 0#32
  ![v1124.toNat, 0]

def k0_chk141 (v1123 : BitVec 32) : Prop :=
  (∀ a, (k0_off282 v1123) a + S1x512.size a ≤ S10000x512.size a)
theorem k0_off282_inb : ∀ (v1123 : BitVec 32) (k0_hw141 : k0_chk141 v1123), ∀ a, (k0_off282 v1123) a + S1x512.size a ≤ S10000x512.size a := fun v1123 k0_hw141 => k0_hw141

def k0_off283 (i : grid0.Coords) : Fin 1 → Nat :=
  let arg0 : BitVec 32 := BitVec.ofNat 32 (i 0).val
  let c168_i32 : BitVec 32 := 168#32
  let v0 : BitVec 32 := Scalar.muli arg0 c168_i32
  let c141_i32 : BitVec 32 := 141#32
  let v1129 : BitVec 32 := Scalar.addi v0 c141_i32
  let v1130 : Index := Scalar.indexCast v1129
  ![v1130.toNat]
def k0_off284 (v1131 : BitVec 32) : Fin 2 → Nat :=
  let v1132 : Index := Scalar.indexCast v1131
  let c0_282 : Index := 0#32
  ![v1132.toNat, 0]

def k0_chk142 (v1131 : BitVec 32) : Prop :=
  (∀ a, (k0_off284 v1131) a + S1x512.size a ≤ S10000x512.size a)
theorem k0_off284_inb : ∀ (v1131 : BitVec 32) (k0_hw142 : k0_chk142 v1131), ∀ a, (k0_off284 v1131) a + S1x512.size a ≤ S10000x512.size a := fun v1131 k0_hw142 => k0_hw142

def k0_off285 (i : grid0.Coords) : Fin 1 → Nat :=
  let arg0 : BitVec 32 := BitVec.ofNat 32 (i 0).val
  let c168_i32 : BitVec 32 := 168#32
  let v0 : BitVec 32 := Scalar.muli arg0 c168_i32
  let c142_i32 : BitVec 32 := 142#32
  let v1137 : BitVec 32 := Scalar.addi v0 c142_i32
  let v1138 : Index := Scalar.indexCast v1137
  ![v1138.toNat]
def k0_off286 (v1139 : BitVec 32) : Fin 2 → Nat :=
  let v1140 : Index := Scalar.indexCast v1139
  let c0_284 : Index := 0#32
  ![v1140.toNat, 0]

def k0_chk143 (v1139 : BitVec 32) : Prop :=
  (∀ a, (k0_off286 v1139) a + S1x512.size a ≤ S10000x512.size a)
theorem k0_off286_inb : ∀ (v1139 : BitVec 32) (k0_hw143 : k0_chk143 v1139), ∀ a, (k0_off286 v1139) a + S1x512.size a ≤ S10000x512.size a := fun v1139 k0_hw143 => k0_hw143

def k0_off287 (i : grid0.Coords) : Fin 1 → Nat :=
  let arg0 : BitVec 32 := BitVec.ofNat 32 (i 0).val
  let c168_i32 : BitVec 32 := 168#32
  let v0 : BitVec 32 := Scalar.muli arg0 c168_i32
  let c143_i32 : BitVec 32 := 143#32
  let v1145 : BitVec 32 := Scalar.addi v0 c143_i32
  let v1146 : Index := Scalar.indexCast v1145
  ![v1146.toNat]
def k0_off288 (v1147 : BitVec 32) : Fin 2 → Nat :=
  let v1148 : Index := Scalar.indexCast v1147
  let c0_286 : Index := 0#32
  ![v1148.toNat, 0]

def k0_chk144 (v1147 : BitVec 32) : Prop :=
  (∀ a, (k0_off288 v1147) a + S1x512.size a ≤ S10000x512.size a)
theorem k0_off288_inb : ∀ (v1147 : BitVec 32) (k0_hw144 : k0_chk144 v1147), ∀ a, (k0_off288 v1147) a + S1x512.size a ≤ S10000x512.size a := fun v1147 k0_hw144 => k0_hw144

def k0_off289 (i : grid0.Coords) : Fin 1 → Nat :=
  let arg0 : BitVec 32 := BitVec.ofNat 32 (i 0).val
  let c168_i32 : BitVec 32 := 168#32
  let v0 : BitVec 32 := Scalar.muli arg0 c168_i32
  let c144_i32 : BitVec 32 := 144#32
  let v1153 : BitVec 32 := Scalar.addi v0 c144_i32
  let v1154 : Index := Scalar.indexCast v1153
  ![v1154.toNat]
def k0_off290 (v1155 : BitVec 32) : Fin 2 → Nat :=
  let v1156 : Index := Scalar.indexCast v1155
  let c0_288 : Index := 0#32
  ![v1156.toNat, 0]

def k0_chk145 (v1155 : BitVec 32) : Prop :=
  (∀ a, (k0_off290 v1155) a + S1x512.size a ≤ S10000x512.size a)
theorem k0_off290_inb : ∀ (v1155 : BitVec 32) (k0_hw145 : k0_chk145 v1155), ∀ a, (k0_off290 v1155) a + S1x512.size a ≤ S10000x512.size a := fun v1155 k0_hw145 => k0_hw145

def k0_off291 (i : grid0.Coords) : Fin 1 → Nat :=
  let arg0 : BitVec 32 := BitVec.ofNat 32 (i 0).val
  let c168_i32 : BitVec 32 := 168#32
  let v0 : BitVec 32 := Scalar.muli arg0 c168_i32
  let c145_i32 : BitVec 32 := 145#32
  let v1161 : BitVec 32 := Scalar.addi v0 c145_i32
  let v1162 : Index := Scalar.indexCast v1161
  ![v1162.toNat]
def k0_off292 (v1163 : BitVec 32) : Fin 2 → Nat :=
  let v1164 : Index := Scalar.indexCast v1163
  let c0_290 : Index := 0#32
  ![v1164.toNat, 0]

def k0_chk146 (v1163 : BitVec 32) : Prop :=
  (∀ a, (k0_off292 v1163) a + S1x512.size a ≤ S10000x512.size a)
theorem k0_off292_inb : ∀ (v1163 : BitVec 32) (k0_hw146 : k0_chk146 v1163), ∀ a, (k0_off292 v1163) a + S1x512.size a ≤ S10000x512.size a := fun v1163 k0_hw146 => k0_hw146

def k0_off293 (i : grid0.Coords) : Fin 1 → Nat :=
  let arg0 : BitVec 32 := BitVec.ofNat 32 (i 0).val
  let c168_i32 : BitVec 32 := 168#32
  let v0 : BitVec 32 := Scalar.muli arg0 c168_i32
  let c146_i32 : BitVec 32 := 146#32
  let v1169 : BitVec 32 := Scalar.addi v0 c146_i32
  let v1170 : Index := Scalar.indexCast v1169
  ![v1170.toNat]
def k0_off294 (v1171 : BitVec 32) : Fin 2 → Nat :=
  let v1172 : Index := Scalar.indexCast v1171
  let c0_292 : Index := 0#32
  ![v1172.toNat, 0]

def k0_chk147 (v1171 : BitVec 32) : Prop :=
  (∀ a, (k0_off294 v1171) a + S1x512.size a ≤ S10000x512.size a)
theorem k0_off294_inb : ∀ (v1171 : BitVec 32) (k0_hw147 : k0_chk147 v1171), ∀ a, (k0_off294 v1171) a + S1x512.size a ≤ S10000x512.size a := fun v1171 k0_hw147 => k0_hw147

def k0_off295 (i : grid0.Coords) : Fin 1 → Nat :=
  let arg0 : BitVec 32 := BitVec.ofNat 32 (i 0).val
  let c168_i32 : BitVec 32 := 168#32
  let v0 : BitVec 32 := Scalar.muli arg0 c168_i32
  let c147_i32 : BitVec 32 := 147#32
  let v1177 : BitVec 32 := Scalar.addi v0 c147_i32
  let v1178 : Index := Scalar.indexCast v1177
  ![v1178.toNat]
def k0_off296 (v1179 : BitVec 32) : Fin 2 → Nat :=
  let v1180 : Index := Scalar.indexCast v1179
  let c0_294 : Index := 0#32
  ![v1180.toNat, 0]

def k0_chk148 (v1179 : BitVec 32) : Prop :=
  (∀ a, (k0_off296 v1179) a + S1x512.size a ≤ S10000x512.size a)
theorem k0_off296_inb : ∀ (v1179 : BitVec 32) (k0_hw148 : k0_chk148 v1179), ∀ a, (k0_off296 v1179) a + S1x512.size a ≤ S10000x512.size a := fun v1179 k0_hw148 => k0_hw148

def k0_off297 (i : grid0.Coords) : Fin 1 → Nat :=
  let arg0 : BitVec 32 := BitVec.ofNat 32 (i 0).val
  let c168_i32 : BitVec 32 := 168#32
  let v0 : BitVec 32 := Scalar.muli arg0 c168_i32
  let c148_i32 : BitVec 32 := 148#32
  let v1185 : BitVec 32 := Scalar.addi v0 c148_i32
  let v1186 : Index := Scalar.indexCast v1185
  ![v1186.toNat]
def k0_off298 (v1187 : BitVec 32) : Fin 2 → Nat :=
  let v1188 : Index := Scalar.indexCast v1187
  let c0_296 : Index := 0#32
  ![v1188.toNat, 0]

def k0_chk149 (v1187 : BitVec 32) : Prop :=
  (∀ a, (k0_off298 v1187) a + S1x512.size a ≤ S10000x512.size a)
theorem k0_off298_inb : ∀ (v1187 : BitVec 32) (k0_hw149 : k0_chk149 v1187), ∀ a, (k0_off298 v1187) a + S1x512.size a ≤ S10000x512.size a := fun v1187 k0_hw149 => k0_hw149

def k0_off299 (i : grid0.Coords) : Fin 1 → Nat :=
  let arg0 : BitVec 32 := BitVec.ofNat 32 (i 0).val
  let c168_i32 : BitVec 32 := 168#32
  let v0 : BitVec 32 := Scalar.muli arg0 c168_i32
  let c149_i32 : BitVec 32 := 149#32
  let v1193 : BitVec 32 := Scalar.addi v0 c149_i32
  let v1194 : Index := Scalar.indexCast v1193
  ![v1194.toNat]
def k0_off300 (v1195 : BitVec 32) : Fin 2 → Nat :=
  let v1196 : Index := Scalar.indexCast v1195
  let c0_298 : Index := 0#32
  ![v1196.toNat, 0]

def k0_chk150 (v1195 : BitVec 32) : Prop :=
  (∀ a, (k0_off300 v1195) a + S1x512.size a ≤ S10000x512.size a)
theorem k0_off300_inb : ∀ (v1195 : BitVec 32) (k0_hw150 : k0_chk150 v1195), ∀ a, (k0_off300 v1195) a + S1x512.size a ≤ S10000x512.size a := fun v1195 k0_hw150 => k0_hw150

def k0_off301 (i : grid0.Coords) : Fin 1 → Nat :=
  let arg0 : BitVec 32 := BitVec.ofNat 32 (i 0).val
  let c168_i32 : BitVec 32 := 168#32
  let v0 : BitVec 32 := Scalar.muli arg0 c168_i32
  let c150_i32 : BitVec 32 := 150#32
  let v1201 : BitVec 32 := Scalar.addi v0 c150_i32
  let v1202 : Index := Scalar.indexCast v1201
  ![v1202.toNat]
def k0_off302 (v1203 : BitVec 32) : Fin 2 → Nat :=
  let v1204 : Index := Scalar.indexCast v1203
  let c0_300 : Index := 0#32
  ![v1204.toNat, 0]

def k0_chk151 (v1203 : BitVec 32) : Prop :=
  (∀ a, (k0_off302 v1203) a + S1x512.size a ≤ S10000x512.size a)
theorem k0_off302_inb : ∀ (v1203 : BitVec 32) (k0_hw151 : k0_chk151 v1203), ∀ a, (k0_off302 v1203) a + S1x512.size a ≤ S10000x512.size a := fun v1203 k0_hw151 => k0_hw151

def k0_off303 (i : grid0.Coords) : Fin 1 → Nat :=
  let arg0 : BitVec 32 := BitVec.ofNat 32 (i 0).val
  let c168_i32 : BitVec 32 := 168#32
  let v0 : BitVec 32 := Scalar.muli arg0 c168_i32
  let c151_i32 : BitVec 32 := 151#32
  let v1209 : BitVec 32 := Scalar.addi v0 c151_i32
  let v1210 : Index := Scalar.indexCast v1209
  ![v1210.toNat]
def k0_off304 (v1211 : BitVec 32) : Fin 2 → Nat :=
  let v1212 : Index := Scalar.indexCast v1211
  let c0_302 : Index := 0#32
  ![v1212.toNat, 0]

def k0_chk152 (v1211 : BitVec 32) : Prop :=
  (∀ a, (k0_off304 v1211) a + S1x512.size a ≤ S10000x512.size a)
theorem k0_off304_inb : ∀ (v1211 : BitVec 32) (k0_hw152 : k0_chk152 v1211), ∀ a, (k0_off304 v1211) a + S1x512.size a ≤ S10000x512.size a := fun v1211 k0_hw152 => k0_hw152

def k0_off305 (i : grid0.Coords) : Fin 1 → Nat :=
  let arg0 : BitVec 32 := BitVec.ofNat 32 (i 0).val
  let c168_i32 : BitVec 32 := 168#32
  let v0 : BitVec 32 := Scalar.muli arg0 c168_i32
  let c152_i32 : BitVec 32 := 152#32
  let v1217 : BitVec 32 := Scalar.addi v0 c152_i32
  let v1218 : Index := Scalar.indexCast v1217
  ![v1218.toNat]
def k0_off306 (v1219 : BitVec 32) : Fin 2 → Nat :=
  let v1220 : Index := Scalar.indexCast v1219
  let c0_304 : Index := 0#32
  ![v1220.toNat, 0]

def k0_chk153 (v1219 : BitVec 32) : Prop :=
  (∀ a, (k0_off306 v1219) a + S1x512.size a ≤ S10000x512.size a)
theorem k0_off306_inb : ∀ (v1219 : BitVec 32) (k0_hw153 : k0_chk153 v1219), ∀ a, (k0_off306 v1219) a + S1x512.size a ≤ S10000x512.size a := fun v1219 k0_hw153 => k0_hw153

def k0_off307 (i : grid0.Coords) : Fin 1 → Nat :=
  let arg0 : BitVec 32 := BitVec.ofNat 32 (i 0).val
  let c168_i32 : BitVec 32 := 168#32
  let v0 : BitVec 32 := Scalar.muli arg0 c168_i32
  let c153_i32 : BitVec 32 := 153#32
  let v1225 : BitVec 32 := Scalar.addi v0 c153_i32
  let v1226 : Index := Scalar.indexCast v1225
  ![v1226.toNat]
def k0_off308 (v1227 : BitVec 32) : Fin 2 → Nat :=
  let v1228 : Index := Scalar.indexCast v1227
  let c0_306 : Index := 0#32
  ![v1228.toNat, 0]

def k0_chk154 (v1227 : BitVec 32) : Prop :=
  (∀ a, (k0_off308 v1227) a + S1x512.size a ≤ S10000x512.size a)
theorem k0_off308_inb : ∀ (v1227 : BitVec 32) (k0_hw154 : k0_chk154 v1227), ∀ a, (k0_off308 v1227) a + S1x512.size a ≤ S10000x512.size a := fun v1227 k0_hw154 => k0_hw154

def k0_off309 (i : grid0.Coords) : Fin 1 → Nat :=
  let arg0 : BitVec 32 := BitVec.ofNat 32 (i 0).val
  let c168_i32 : BitVec 32 := 168#32
  let v0 : BitVec 32 := Scalar.muli arg0 c168_i32
  let c154_i32 : BitVec 32 := 154#32
  let v1233 : BitVec 32 := Scalar.addi v0 c154_i32
  let v1234 : Index := Scalar.indexCast v1233
  ![v1234.toNat]
def k0_off310 (v1235 : BitVec 32) : Fin 2 → Nat :=
  let v1236 : Index := Scalar.indexCast v1235
  let c0_308 : Index := 0#32
  ![v1236.toNat, 0]

def k0_chk155 (v1235 : BitVec 32) : Prop :=
  (∀ a, (k0_off310 v1235) a + S1x512.size a ≤ S10000x512.size a)
theorem k0_off310_inb : ∀ (v1235 : BitVec 32) (k0_hw155 : k0_chk155 v1235), ∀ a, (k0_off310 v1235) a + S1x512.size a ≤ S10000x512.size a := fun v1235 k0_hw155 => k0_hw155

def k0_off311 (i : grid0.Coords) : Fin 1 → Nat :=
  let arg0 : BitVec 32 := BitVec.ofNat 32 (i 0).val
  let c168_i32 : BitVec 32 := 168#32
  let v0 : BitVec 32 := Scalar.muli arg0 c168_i32
  let c155_i32 : BitVec 32 := 155#32
  let v1241 : BitVec 32 := Scalar.addi v0 c155_i32
  let v1242 : Index := Scalar.indexCast v1241
  ![v1242.toNat]
def k0_off312 (v1243 : BitVec 32) : Fin 2 → Nat :=
  let v1244 : Index := Scalar.indexCast v1243
  let c0_310 : Index := 0#32
  ![v1244.toNat, 0]

def k0_chk156 (v1243 : BitVec 32) : Prop :=
  (∀ a, (k0_off312 v1243) a + S1x512.size a ≤ S10000x512.size a)
theorem k0_off312_inb : ∀ (v1243 : BitVec 32) (k0_hw156 : k0_chk156 v1243), ∀ a, (k0_off312 v1243) a + S1x512.size a ≤ S10000x512.size a := fun v1243 k0_hw156 => k0_hw156

def k0_off313 (i : grid0.Coords) : Fin 1 → Nat :=
  let arg0 : BitVec 32 := BitVec.ofNat 32 (i 0).val
  let c168_i32 : BitVec 32 := 168#32
  let v0 : BitVec 32 := Scalar.muli arg0 c168_i32
  let c156_i32 : BitVec 32 := 156#32
  let v1249 : BitVec 32 := Scalar.addi v0 c156_i32
  let v1250 : Index := Scalar.indexCast v1249
  ![v1250.toNat]
def k0_off314 (v1251 : BitVec 32) : Fin 2 → Nat :=
  let v1252 : Index := Scalar.indexCast v1251
  let c0_312 : Index := 0#32
  ![v1252.toNat, 0]

def k0_chk157 (v1251 : BitVec 32) : Prop :=
  (∀ a, (k0_off314 v1251) a + S1x512.size a ≤ S10000x512.size a)
theorem k0_off314_inb : ∀ (v1251 : BitVec 32) (k0_hw157 : k0_chk157 v1251), ∀ a, (k0_off314 v1251) a + S1x512.size a ≤ S10000x512.size a := fun v1251 k0_hw157 => k0_hw157

def k0_off315 (i : grid0.Coords) : Fin 1 → Nat :=
  let arg0 : BitVec 32 := BitVec.ofNat 32 (i 0).val
  let c168_i32 : BitVec 32 := 168#32
  let v0 : BitVec 32 := Scalar.muli arg0 c168_i32
  let c157_i32 : BitVec 32 := 157#32
  let v1257 : BitVec 32 := Scalar.addi v0 c157_i32
  let v1258 : Index := Scalar.indexCast v1257
  ![v1258.toNat]
def k0_off316 (v1259 : BitVec 32) : Fin 2 → Nat :=
  let v1260 : Index := Scalar.indexCast v1259
  let c0_314 : Index := 0#32
  ![v1260.toNat, 0]

def k0_chk158 (v1259 : BitVec 32) : Prop :=
  (∀ a, (k0_off316 v1259) a + S1x512.size a ≤ S10000x512.size a)
theorem k0_off316_inb : ∀ (v1259 : BitVec 32) (k0_hw158 : k0_chk158 v1259), ∀ a, (k0_off316 v1259) a + S1x512.size a ≤ S10000x512.size a := fun v1259 k0_hw158 => k0_hw158

def k0_off317 (i : grid0.Coords) : Fin 1 → Nat :=
  let arg0 : BitVec 32 := BitVec.ofNat 32 (i 0).val
  let c168_i32 : BitVec 32 := 168#32
  let v0 : BitVec 32 := Scalar.muli arg0 c168_i32
  let c158_i32 : BitVec 32 := 158#32
  let v1265 : BitVec 32 := Scalar.addi v0 c158_i32
  let v1266 : Index := Scalar.indexCast v1265
  ![v1266.toNat]
def k0_off318 (v1267 : BitVec 32) : Fin 2 → Nat :=
  let v1268 : Index := Scalar.indexCast v1267
  let c0_316 : Index := 0#32
  ![v1268.toNat, 0]

def k0_chk159 (v1267 : BitVec 32) : Prop :=
  (∀ a, (k0_off318 v1267) a + S1x512.size a ≤ S10000x512.size a)
theorem k0_off318_inb : ∀ (v1267 : BitVec 32) (k0_hw159 : k0_chk159 v1267), ∀ a, (k0_off318 v1267) a + S1x512.size a ≤ S10000x512.size a := fun v1267 k0_hw159 => k0_hw159

def k0_off319 (i : grid0.Coords) : Fin 1 → Nat :=
  let arg0 : BitVec 32 := BitVec.ofNat 32 (i 0).val
  let c168_i32 : BitVec 32 := 168#32
  let v0 : BitVec 32 := Scalar.muli arg0 c168_i32
  let c159_i32 : BitVec 32 := 159#32
  let v1273 : BitVec 32 := Scalar.addi v0 c159_i32
  let v1274 : Index := Scalar.indexCast v1273
  ![v1274.toNat]
def k0_off320 (v1275 : BitVec 32) : Fin 2 → Nat :=
  let v1276 : Index := Scalar.indexCast v1275
  let c0_318 : Index := 0#32
  ![v1276.toNat, 0]

def k0_chk160 (v1275 : BitVec 32) : Prop :=
  (∀ a, (k0_off320 v1275) a + S1x512.size a ≤ S10000x512.size a)
theorem k0_off320_inb : ∀ (v1275 : BitVec 32) (k0_hw160 : k0_chk160 v1275), ∀ a, (k0_off320 v1275) a + S1x512.size a ≤ S10000x512.size a := fun v1275 k0_hw160 => k0_hw160

def k0_off321 (i : grid0.Coords) : Fin 1 → Nat :=
  let arg0 : BitVec 32 := BitVec.ofNat 32 (i 0).val
  let c168_i32 : BitVec 32 := 168#32
  let v0 : BitVec 32 := Scalar.muli arg0 c168_i32
  let c160_i32 : BitVec 32 := 160#32
  let v1281 : BitVec 32 := Scalar.addi v0 c160_i32
  let v1282 : Index := Scalar.indexCast v1281
  ![v1282.toNat]
def k0_off322 (v1283 : BitVec 32) : Fin 2 → Nat :=
  let v1284 : Index := Scalar.indexCast v1283
  let c0_320 : Index := 0#32
  ![v1284.toNat, 0]

def k0_chk161 (v1283 : BitVec 32) : Prop :=
  (∀ a, (k0_off322 v1283) a + S1x512.size a ≤ S10000x512.size a)
theorem k0_off322_inb : ∀ (v1283 : BitVec 32) (k0_hw161 : k0_chk161 v1283), ∀ a, (k0_off322 v1283) a + S1x512.size a ≤ S10000x512.size a := fun v1283 k0_hw161 => k0_hw161

def k0_off323 (i : grid0.Coords) : Fin 1 → Nat :=
  let arg0 : BitVec 32 := BitVec.ofNat 32 (i 0).val
  let c168_i32 : BitVec 32 := 168#32
  let v0 : BitVec 32 := Scalar.muli arg0 c168_i32
  let c161_i32 : BitVec 32 := 161#32
  let v1289 : BitVec 32 := Scalar.addi v0 c161_i32
  let v1290 : Index := Scalar.indexCast v1289
  ![v1290.toNat]
def k0_off324 (v1291 : BitVec 32) : Fin 2 → Nat :=
  let v1292 : Index := Scalar.indexCast v1291
  let c0_322 : Index := 0#32
  ![v1292.toNat, 0]

def k0_chk162 (v1291 : BitVec 32) : Prop :=
  (∀ a, (k0_off324 v1291) a + S1x512.size a ≤ S10000x512.size a)
theorem k0_off324_inb : ∀ (v1291 : BitVec 32) (k0_hw162 : k0_chk162 v1291), ∀ a, (k0_off324 v1291) a + S1x512.size a ≤ S10000x512.size a := fun v1291 k0_hw162 => k0_hw162

def k0_off325 (i : grid0.Coords) : Fin 1 → Nat :=
  let arg0 : BitVec 32 := BitVec.ofNat 32 (i 0).val
  let c168_i32 : BitVec 32 := 168#32
  let v0 : BitVec 32 := Scalar.muli arg0 c168_i32
  let c162_i32 : BitVec 32 := 162#32
  let v1297 : BitVec 32 := Scalar.addi v0 c162_i32
  let v1298 : Index := Scalar.indexCast v1297
  ![v1298.toNat]
def k0_off326 (v1299 : BitVec 32) : Fin 2 → Nat :=
  let v1300 : Index := Scalar.indexCast v1299
  let c0_324 : Index := 0#32
  ![v1300.toNat, 0]

def k0_chk163 (v1299 : BitVec 32) : Prop :=
  (∀ a, (k0_off326 v1299) a + S1x512.size a ≤ S10000x512.size a)
theorem k0_off326_inb : ∀ (v1299 : BitVec 32) (k0_hw163 : k0_chk163 v1299), ∀ a, (k0_off326 v1299) a + S1x512.size a ≤ S10000x512.size a := fun v1299 k0_hw163 => k0_hw163

def k0_off327 (i : grid0.Coords) : Fin 1 → Nat :=
  let arg0 : BitVec 32 := BitVec.ofNat 32 (i 0).val
  let c168_i32 : BitVec 32 := 168#32
  let v0 : BitVec 32 := Scalar.muli arg0 c168_i32
  let c163_i32 : BitVec 32 := 163#32
  let v1305 : BitVec 32 := Scalar.addi v0 c163_i32
  let v1306 : Index := Scalar.indexCast v1305
  ![v1306.toNat]
def k0_off328 (v1307 : BitVec 32) : Fin 2 → Nat :=
  let v1308 : Index := Scalar.indexCast v1307
  let c0_326 : Index := 0#32
  ![v1308.toNat, 0]

def k0_chk164 (v1307 : BitVec 32) : Prop :=
  (∀ a, (k0_off328 v1307) a + S1x512.size a ≤ S10000x512.size a)
theorem k0_off328_inb : ∀ (v1307 : BitVec 32) (k0_hw164 : k0_chk164 v1307), ∀ a, (k0_off328 v1307) a + S1x512.size a ≤ S10000x512.size a := fun v1307 k0_hw164 => k0_hw164

def k0_off329 (i : grid0.Coords) : Fin 1 → Nat :=
  let arg0 : BitVec 32 := BitVec.ofNat 32 (i 0).val
  let c168_i32 : BitVec 32 := 168#32
  let v0 : BitVec 32 := Scalar.muli arg0 c168_i32
  let c164_i32 : BitVec 32 := 164#32
  let v1313 : BitVec 32 := Scalar.addi v0 c164_i32
  let v1314 : Index := Scalar.indexCast v1313
  ![v1314.toNat]
def k0_off330 (v1315 : BitVec 32) : Fin 2 → Nat :=
  let v1316 : Index := Scalar.indexCast v1315
  let c0_328 : Index := 0#32
  ![v1316.toNat, 0]

def k0_chk165 (v1315 : BitVec 32) : Prop :=
  (∀ a, (k0_off330 v1315) a + S1x512.size a ≤ S10000x512.size a)
theorem k0_off330_inb : ∀ (v1315 : BitVec 32) (k0_hw165 : k0_chk165 v1315), ∀ a, (k0_off330 v1315) a + S1x512.size a ≤ S10000x512.size a := fun v1315 k0_hw165 => k0_hw165

def k0_off331 (i : grid0.Coords) : Fin 1 → Nat :=
  let arg0 : BitVec 32 := BitVec.ofNat 32 (i 0).val
  let c168_i32 : BitVec 32 := 168#32
  let v0 : BitVec 32 := Scalar.muli arg0 c168_i32
  let c165_i32 : BitVec 32 := 165#32
  let v1321 : BitVec 32 := Scalar.addi v0 c165_i32
  let v1322 : Index := Scalar.indexCast v1321
  ![v1322.toNat]
def k0_off332 (v1323 : BitVec 32) : Fin 2 → Nat :=
  let v1324 : Index := Scalar.indexCast v1323
  let c0_330 : Index := 0#32
  ![v1324.toNat, 0]

def k0_chk166 (v1323 : BitVec 32) : Prop :=
  (∀ a, (k0_off332 v1323) a + S1x512.size a ≤ S10000x512.size a)
theorem k0_off332_inb : ∀ (v1323 : BitVec 32) (k0_hw166 : k0_chk166 v1323), ∀ a, (k0_off332 v1323) a + S1x512.size a ≤ S10000x512.size a := fun v1323 k0_hw166 => k0_hw166

def k0_off333 (i : grid0.Coords) : Fin 1 → Nat :=
  let arg0 : BitVec 32 := BitVec.ofNat 32 (i 0).val
  let c168_i32 : BitVec 32 := 168#32
  let v0 : BitVec 32 := Scalar.muli arg0 c168_i32
  let c166_i32 : BitVec 32 := 166#32
  let v1329 : BitVec 32 := Scalar.addi v0 c166_i32
  let v1330 : Index := Scalar.indexCast v1329
  ![v1330.toNat]
def k0_off334 (v1331 : BitVec 32) : Fin 2 → Nat :=
  let v1332 : Index := Scalar.indexCast v1331
  let c0_332 : Index := 0#32
  ![v1332.toNat, 0]

def k0_chk167 (v1331 : BitVec 32) : Prop :=
  (∀ a, (k0_off334 v1331) a + S1x512.size a ≤ S10000x512.size a)
theorem k0_off334_inb : ∀ (v1331 : BitVec 32) (k0_hw167 : k0_chk167 v1331), ∀ a, (k0_off334 v1331) a + S1x512.size a ≤ S10000x512.size a := fun v1331 k0_hw167 => k0_hw167

def k0_off335 (i : grid0.Coords) : Fin 1 → Nat :=
  let arg0 : BitVec 32 := BitVec.ofNat 32 (i 0).val
  let c168_i32 : BitVec 32 := 168#32
  let v0 : BitVec 32 := Scalar.muli arg0 c168_i32
  let c167_i32 : BitVec 32 := 167#32
  let v1337 : BitVec 32 := Scalar.addi v0 c167_i32
  let v1338 : Index := Scalar.indexCast v1337
  ![v1338.toNat]
def k0_off336 (v1339 : BitVec 32) : Fin 2 → Nat :=
  let v1340 : Index := Scalar.indexCast v1339
  let c0_334 : Index := 0#32
  ![v1340.toNat, 0]

def k0_chk168 (v1339 : BitVec 32) : Prop :=
  (∀ a, (k0_off336 v1339) a + S1x512.size a ≤ S10000x512.size a)
theorem k0_off336_inb : ∀ (v1339 : BitVec 32) (k0_hw168 : k0_chk168 v1339), ∀ a, (k0_off336 v1339) a + S1x512.size a ≤ S10000x512.size a := fun v1339 k0_hw168 => k0_hw168

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S168x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x196x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1664x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1664x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![4], ![false]⟩

@[reducible] def k2_t1_loop : Scf.Loop 32 :=
  let c0_i32_7 : BitVec 32 := 0#32
  let c21_i32 : BitVec 32 := 21#32
  let v34 : BitVec 32 := Scalar.addi c0_i32_7 c21_i32
  let c1_i32_8 : BitVec 32 := 1#32
  ⟨c0_i32_7, v34, c1_i32_8⟩
def k2_off1 (k2_t1 : Fin k2_t1_loop.trips) : Fin 3 → Nat :=
  let c0_i32_7 : BitVec 32 := 0#32
  let c1_i32_8 : BitVec 32 := 1#32
  let arg15 : BitVec 32 := Scf.iv c0_i32_7 c1_i32_8 k2_t1
  let v238 : Index := Scalar.indexCast arg15
  let c0_106 : Index := 0#32
  let c0_107 : Index := 0#32
  ![v238.toNat, 0, 0]
def k2_off2 (k2_t1 : Fin k2_t1_loop.trips) : Fin 3 → Nat :=
  let c0_i32_7 : BitVec 32 := 0#32
  let c1_i32_8 : BitVec 32 := 1#32
  let arg15 : BitVec 32 := Scf.iv c0_i32_7 c1_i32_8 k2_t1
  let v260 : Index := Scalar.indexCast arg15
  let c0_111 : Index := 0#32
  let c0_112 : Index := 0#32
  ![v260.toNat, 0, 0]
def k2_off3 (k2_t1 : Fin k2_t1_loop.trips) : Fin 3 → Nat :=
  let c0_i32_7 : BitVec 32 := 0#32
  let c1_i32_8 : BitVec 32 := 1#32
  let arg15 : BitVec 32 := Scf.iv c0_i32_7 c1_i32_8 k2_t1
  let v265 : Index := Scalar.indexCast arg15
  let c0_113 : Index := 0#32
  let c0_114 : Index := 0#32
  ![v265.toNat, 0, 0]
def k2_off4 (k2_t1 : Fin k2_t1_loop.trips) : Fin 3 → Nat :=
  let c0_i32_7 : BitVec 32 := 0#32
  let c1_i32_8 : BitVec 32 := 1#32
  let arg15 : BitVec 32 := Scf.iv c0_i32_7 c1_i32_8 k2_t1
  let v271 : Index := Scalar.indexCast arg15
  let c0_115 : Index := 0#32
  let c0_116 : Index := 0#32
  ![v271.toNat, 0, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S3328x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3328x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S21x16x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S16x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S16x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S21x16x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S512x4608 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x2048 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S2048x2048 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S21x16x512 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S21x16x196 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S336x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x1280 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1280 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S336x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S336x1280 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== KernelIdeal.lean ====
variable {F : FTy → Type} [FloatOps F] [Named F]
def κ : String → Option EReal := fun
  | "inv196" => some ((1 / 196 : ℝ) : EReal)
  | "mask" => some ⊥
  | _ => none
-- ==== ReferenceIdeal.lean ====
abbrev S64x196x2048 : Shape := ⟨3, ![64, 196, 2048]⟩
abbrev S64x22 : Shape := ⟨2, ![64, 22]⟩
abbrev S64 : Shape := ⟨1, ![64]⟩
abbrev S10000x512 : Shape := ⟨2, ![10000, 512]⟩
abbrev S2048x512 : Shape := ⟨2, ![2048, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S512x2048 : Shape := ⟨2, ![512, 2048]⟩
abbrev S2048 : Shape := ⟨1, ![2048]⟩
abbrev S2560x2048 : Shape := ⟨2, ![2560, 2048]⟩
abbrev S512x10000 : Shape := ⟨2, ![512, 10000]⟩
abbrev S10000 : Shape := ⟨1, ![10000]⟩
abbrev S_ : Shape := ⟨0, ![]⟩
abbrev S64x21 : Shape := ⟨2, ![64, 21]⟩
abbrev S64x21x1 : Shape := ⟨3, ![64, 21, 1]⟩
abbrev S64x21x512 : Shape := ⟨3, ![64, 21, 512]⟩
abbrev S64x2048 : Shape := ⟨2, ![64, 2048]⟩
abbrev S64x512 : Shape := ⟨2, ![64, 512]⟩
abbrev S1x512 : Shape := ⟨2, ![1, 512]⟩
abbrev S64x196x512 : Shape := ⟨3, ![64, 196, 512]⟩
abbrev S1x1x512 : Shape := ⟨3, ![1, 1, 512]⟩
abbrev S21x64x512 : Shape := ⟨3, ![21, 64, 512]⟩
abbrev S21 : Shape := ⟨1, ![21]⟩
abbrev S21x64x10000 : Shape := ⟨3, ![21, 64, 10000]⟩
abbrev S21x64x196 : Shape := ⟨3, ![21, 64, 196]⟩
abbrev S1x64x512 : Shape := ⟨3, ![1, 64, 512]⟩
abbrev S64x1 : Shape := ⟨2, ![64, 1]⟩
abbrev S64x1x512 : Shape := ⟨3, ![64, 1, 512]⟩
abbrev S64x196x1 : Shape := ⟨3, ![64, 196, 1]⟩
abbrev S64x196 : Shape := ⟨2, ![64, 196]⟩
abbrev S1x2048 : Shape := ⟨2, ![1, 2048]⟩
abbrev S64x2560 : Shape := ⟨2, ![64, 2560]⟩
abbrev S64x10000 : Shape := ⟨2, ![64, 10000]⟩
abbrev S1x10000 : Shape := ⟨2, ![1, 10000]⟩
abbrev S1x64x10000 : Shape := ⟨3, ![1, 64, 10000]⟩
abbrev S1x64x196 : Shape := ⟨3, ![1, 64, 196]⟩
abbrev S64x21x10000 : Shape := ⟨3, ![64, 21, 10000]⟩
abbrev S64x21x196 : Shape := ⟨3, ![64, 21, 196]⟩

abbrev nBuf : Space → Nat
  | .hbm => 209
  | .vmem => 0
  | .smem => 0
  | _ => 0

abbrev hbmTy0_0 (i : Nat) : BufTy := match i % 128 with
  | 0 => ⟨S64x196x2048, .f32⟩
  | 1 => ⟨S64x22, .i32⟩
  | 2 => ⟨S64, .i32⟩
  | 3 => ⟨S10000x512, .f32⟩
  | 4 => ⟨S2048x512, .f32⟩
  | 5 => ⟨S512, .f32⟩
  | 6 => ⟨S512x512, .f32⟩
  | 7 => ⟨S512, .f32⟩
  | 8 => ⟨S512x1, .f32⟩
  | 9 => ⟨S1, .f32⟩
  | 10 => ⟨S2048x512, .f32⟩
  | 11 => ⟨S512, .f32⟩
  | 12 => ⟨S2048x512, .f32⟩
  | 13 => ⟨S512, .f32⟩
  | 14 => ⟨S512x2048, .f32⟩
  | 15 => ⟨S2048, .f32⟩
  | 16 => ⟨S2560x2048, .f32⟩
  | 17 => ⟨S512x2048, .f32⟩
  | 18 => ⟨S2048, .f32⟩
  | 19 => ⟨S2048, .f32⟩
  | 20 => ⟨S512x10000, .f32⟩
  | 21 => ⟨S10000, .f32⟩
  | 22 => ⟨S_, .i32⟩
  | 23 => ⟨S64, .i32⟩
  | 24 => ⟨S64, .i32⟩
  | 25 => ⟨S64x21, .i32⟩
  | 26 => ⟨S_, .i32⟩
  | 27 => ⟨S64x21, .i32⟩
  | 28 => ⟨S64x21, .i1⟩
  | 29 => ⟨S_, .i32⟩
  | 30 => ⟨S64x21, .i32⟩
  | 31 => ⟨S64x21, .i32⟩
  | 32 => ⟨S64x21, .i32⟩
  | 33 => ⟨S64x21x1, .i32⟩
  | 34 => ⟨S64x21x512, .f32⟩
  | 35 => ⟨S_, .f32⟩
  | 36 => ⟨S64x2048, .f32⟩
  | 37 => ⟨S_, .f32⟩
  | 38 => ⟨S64x2048, .f32⟩
  | 39 => ⟨S64x2048, .f32⟩
  | 40 => ⟨S64x512, .f32⟩
  | 41 => ⟨S1x512, .f32⟩
  | 42 => ⟨S64x512, .f32⟩
  | 43 => ⟨S64x512, .f32⟩
  | 44 => ⟨S64x512, .f32⟩
  | 45 => ⟨S1x512, .f32⟩
  | 46 => ⟨S64x512, .f32⟩
  | 47 => ⟨S64x512, .f32⟩
  | 48 => ⟨S64x196x512, .f32⟩
  | 49 => ⟨S1x1x512, .f32⟩
  | 50 => ⟨S64x196x512, .f32⟩
  | 51 => ⟨S64x196x512, .f32⟩
  | 52 => ⟨S21x64x512, .f32⟩
  | 53 => ⟨S21, .i32⟩
  | 54 => ⟨S_, .f32⟩
  | 55 => ⟨S21x64x10000, .f32⟩
  | 56 => ⟨S_, .f32⟩
  | 57 => ⟨S21x64x196, .f32⟩
  | 58 => ⟨S_, .i32⟩
  | 59 => ⟨S21x64x512, .f32⟩
  | 60 => ⟨S21, .i32⟩
  | 61 => ⟨S64, .i32⟩
  | 62 => ⟨S512x512, .f32⟩
  | 63 => ⟨S512, .f32⟩
  | 64 => ⟨S64x196x512, .f32⟩
  | 65 => ⟨S512x1, .f32⟩
  | 66 => ⟨S1, .f32⟩
  | 67 => ⟨S64x196x2048, .f32⟩
  | 68 => ⟨S512x2048, .f32⟩
  | 69 => ⟨S2048, .f32⟩
  | 70 => ⟨S2560x2048, .f32⟩
  | 71 => ⟨S2048, .f32⟩
  | 72 => ⟨S512x2048, .f32⟩
  | 73 => ⟨S2048, .f32⟩
  | 74 => ⟨S512x10000, .f32⟩
  | 75 => ⟨S10000, .f32⟩
  | 76 => ⟨S_, .i32⟩
  | 77 => ⟨S64x512, .f32⟩
  | 78 => ⟨S64x512, .f32⟩
  | 79 => ⟨S21x64x10000, .f32⟩
  | 80 => ⟨S21x64x196, .f32⟩
  | 81 => ⟨S_, .i32⟩
  | 82 => ⟨S_, .i1⟩
  | 83 => ⟨S_, .i32⟩
  | 84 => ⟨S_, .i32⟩
  | 85 => ⟨S1x64x512, .f32⟩
  | 86 => ⟨S64x512, .f32⟩
  | 87 => ⟨S1, .i32⟩
  | 88 => ⟨S_, .i32⟩
  | 89 => ⟨S64, .i32⟩
  | 90 => ⟨S64, .i1⟩
  | 91 => ⟨S64x1, .i1⟩
  | 92 => ⟨S64x512, .f32⟩
  | 93 => ⟨S1x512, .f32⟩
  | 94 => ⟨S64x512, .f32⟩
  | 95 => ⟨S64x512, .f32⟩
  | 96 => ⟨S64x1x512, .f32⟩
  | 97 => ⟨S64x196x512, .f32⟩
  | 98 => ⟨S64x196x512, .f32⟩
  | 99 => ⟨S_, .f32⟩
  | 100 => ⟨S64x196x512, .f32⟩
  | 101 => ⟨S64x196x512, .f32⟩
  | 102 => ⟨S64x196x1, .f32⟩
  | 103 => ⟨S64x196, .f32⟩
  | 104 => ⟨S_, .f32⟩
  | 105 => ⟨S64x196, .f32⟩
  | 106 => ⟨S64x196, .f32⟩
  | 107 => ⟨S_, .f32⟩
  | 108 => ⟨S64, .f32⟩
  | 109 => ⟨S_, .f32⟩
  | 110 => ⟨S64, .f32⟩
  | 111 => ⟨S64, .f32⟩
  | 112 => ⟨S64x1, .f32⟩
  | 113 => ⟨S64x196, .f32⟩
  | 114 => ⟨S64x196, .f32⟩
  | 115 => ⟨S64x196, .f32⟩
  | 116 => ⟨S_, .f32⟩
  | 117 => ⟨S64, .f32⟩
  | 118 => ⟨S64x1, .f32⟩
  | 119 => ⟨S64x196, .f32⟩
  | 120 => ⟨S64x196, .f32⟩
  | 121 => ⟨S64x2048, .f32⟩
  | 122 => ⟨S64x2048, .f32⟩
  | 123 => ⟨S1x2048, .f32⟩
  | 124 => ⟨S64x2048, .f32⟩
  | 125 => ⟨S64x2048, .f32⟩
  | 126 => ⟨S64x2048, .f32⟩
  | 127 => ⟨S64x2048, .f32⟩
  | _ => ⟨S64x196x2048, .f32⟩

abbrev hbmTy0_1 (i : Nat) : BufTy := match i % 128 with
  | 0 => ⟨S_, .f32⟩
  | 1 => ⟨S64x2048, .f32⟩
  | 2 => ⟨S64x2048, .f32⟩
  | 3 => ⟨S_, .f32⟩
  | 4 => ⟨S64x2048, .f32⟩
  | 5 => ⟨S64x2048, .f32⟩
  | 6 => ⟨S64x2048, .f32⟩
  | 7 => ⟨S64x2560, .f32⟩
  | 8 => ⟨S64x2048, .f32⟩
  | 9 => ⟨S1x2048, .f32⟩
  | 10 => ⟨S64x2048, .f32⟩
  | 11 => ⟨S64x2048, .f32⟩
  | 12 => ⟨S64x2048, .f32⟩
  | 13 => ⟨S64x2048, .f32⟩
  | 14 => ⟨S1x2048, .f32⟩
  | 15 => ⟨S64x2048, .f32⟩
  | 16 => ⟨S64x2048, .f32⟩
  | 17 => ⟨S64x512, .f32⟩
  | 18 => ⟨S64x512, .f32⟩
  | 19 => ⟨S64x512, .f32⟩
  | 20 => ⟨S64x512, .f32⟩
  | 21 => ⟨S64x512, .f32⟩
  | 22 => ⟨S64x512, .f32⟩
  | 23 => ⟨S_, .f32⟩
  | 24 => ⟨S64x512, .f32⟩
  | 25 => ⟨S64x512, .f32⟩
  | 26 => ⟨S_, .f32⟩
  | 27 => ⟨S64x512, .f32⟩
  | 28 => ⟨S64x512, .f32⟩
  | 29 => ⟨S64x512, .f32⟩
  | 30 => ⟨S64x512, .f32⟩
  | 31 => ⟨S64x512, .f32⟩
  | 32 => ⟨S_, .f32⟩
  | 33 => ⟨S64x512, .f32⟩
  | 34 => ⟨S64x512, .f32⟩
  | 35 => ⟨S_, .f32⟩
  | 36 => ⟨S64x512, .f32⟩
  | 37 => ⟨S64x512, .f32⟩
  | 38 => ⟨S64x512, .f32⟩
  | 39 => ⟨S64x512, .f32⟩
  | 40 => ⟨S64x512, .f32⟩
  | 41 => ⟨S64x512, .f32⟩
  | 42 => ⟨S64x512, .f32⟩
  | 43 => ⟨S_, .f32⟩
  | 44 => ⟨S64x512, .f32⟩
  | 45 => ⟨S64x512, .f32⟩
  | 46 => ⟨S_, .f32⟩
  | 47 => ⟨S64x512, .f32⟩
  | 48 => ⟨S64x512, .f32⟩
  | 49 => ⟨S64x512, .f32⟩
  | 50 => ⟨S64x512, .f32⟩
  | 51 => ⟨S64x10000, .f32⟩
  | 52 => ⟨S1x10000, .f32⟩
  | 53 => ⟨S64x10000, .f32⟩
  | 54 => ⟨S64x10000, .f32⟩
  | 55 => ⟨S64x512, .i1⟩
  | 56 => ⟨S64x512, .f32⟩
  | 57 => ⟨S64x512, .i1⟩
  | 58 => ⟨S64x512, .f32⟩
  | 59 => ⟨S_, .f32⟩
  | 60 => ⟨S_, .f32⟩
  | 61 => ⟨S64x10000, .i1⟩
  | 62 => ⟨S64x10000, .f32⟩
  | 63 => ⟨S64x10000, .f32⟩
  | 64 => ⟨S_, .f32⟩
  | 65 => ⟨S_, .f32⟩
  | 66 => ⟨S64x196, .i1⟩
  | 67 => ⟨S64x196, .f32⟩
  | 68 => ⟨S64x196, .f32⟩
  | 69 => ⟨S1x64x10000, .f32⟩
  | 70 => ⟨S_, .i32⟩
  | 71 => ⟨S_, .i32⟩
  | 72 => ⟨S21x64x10000, .f32⟩
  | 73 => ⟨S1x64x196, .f32⟩
  | 74 => ⟨S_, .i32⟩
  | 75 => ⟨S_, .i32⟩
  | 76 => ⟨S21x64x196, .f32⟩
  | 77 => ⟨S_, .i32⟩
  | 78 => ⟨S_, .i32⟩
  | 79 => ⟨S64x21x10000, .f32⟩
  | 80 => ⟨S64x21x196, .f32⟩
  | _ => ⟨S64x196x2048, .f32⟩

abbrev hbmTy (i : Nat) : BufTy := match i / 128 with
  | 0 => hbmTy0_0 i
  | 1 => hbmTy0_1 i
  | _ => ⟨S64x196x2048, .f32⟩

abbrev bufTy : (tb : Table) → Fin (tcTables nBuf tb) → BufTy
  | .hbm, ⟨i, _⟩ => hbmTy i
  | _, _ => ⟨S64x196x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_c_5 : Ref sig .tc := ⟨.hbm, 58, rfl⟩
abbrev main_v29_0 : Ref sig .tc := ⟨.hbm, 59, rfl⟩
abbrev main_v29_1 : Ref sig .tc := ⟨.hbm, 60, rfl⟩
abbrev main_v29_2 : Ref sig .tc := ⟨.hbm, 61, rfl⟩
abbrev main_v29_3 : Ref sig .tc := ⟨.hbm, 62, rfl⟩
abbrev main_v29_4 : Ref sig .tc := ⟨.hbm, 63, rfl⟩
abbrev main_v29_5 : Ref sig .tc := ⟨.hbm, 64, rfl⟩
abbrev main_v29_6 : Ref sig .tc := ⟨.hbm, 65, rfl⟩
abbrev main_v29_7 : Ref sig .tc := ⟨.hbm, 66, rfl⟩
abbrev main_v29_8 : Ref sig .tc := ⟨.hbm, 67, rfl⟩
abbrev main_v29_9 : Ref sig .tc := ⟨.hbm, 68, rfl⟩
abbrev main_v29_10 : Ref sig .tc := ⟨.hbm, 69, rfl⟩
abbrev main_v29_11 : Ref sig .tc := ⟨.hbm, 70, rfl⟩
abbrev main_v29_12 : Ref sig .tc := ⟨.hbm, 71, rfl⟩
abbrev main_v29_13 : Ref sig .tc := ⟨.hbm, 72, rfl⟩
abbrev main_v29_14 : Ref sig .tc := ⟨.hbm, 73, rfl⟩
abbrev main_v29_15 : Ref sig .tc := ⟨.hbm, 74, rfl⟩
abbrev main_v29_16 : Ref sig .tc := ⟨.hbm, 75, rfl⟩
abbrev main_v29_17 : Ref sig .tc := ⟨.hbm, 76, rfl⟩
abbrev main_v29_18 : Ref sig .tc := ⟨.hbm, 77, rfl⟩
abbrev main_v29_19 : Ref sig .tc := ⟨.hbm, 78, rfl⟩
abbrev main_v29_20 : Ref sig .tc := ⟨.hbm, 79, rfl⟩
abbrev main_v29_21 : Ref sig .tc := ⟨.hbm, 80, rfl⟩
abbrev main_while0c_c_27 : Ref sig .tc := ⟨.hbm, 81, rfl⟩
abbrev main_while0c_v32 : Ref sig .tc := ⟨.hbm, 82, rfl⟩
abbrev main_while0b_call0_c : Ref sig .tc := ⟨.hbm, 83, rfl⟩
abbrev main_while0b_call0_c_0 : Ref sig .tc := ⟨.hbm, 84, rfl⟩
abbrev main_while0b_call0_v0 : Ref sig .tc := ⟨.hbm, 85, rfl⟩
abbrev main_while0b_v32 : Ref sig .tc := ⟨.hbm, 86, rfl⟩
abbrev main_while0b_call1_v0 : Ref sig .tc := ⟨.hbm, 87, rfl⟩
abbrev main_while0b_v33 : Ref sig .tc := ⟨.hbm, 88, rfl⟩
abbrev main_while0b_v34 : Ref sig .tc := ⟨.hbm, 89, rfl⟩
abbrev main_while0b_v35 : Ref sig .tc := ⟨.hbm, 90, rfl⟩
abbrev main_while0b_v36 : Ref sig .tc := ⟨.hbm, 91, rfl⟩
abbrev main_while0b_v37 : Ref sig .tc := ⟨.hbm, 92, rfl⟩
abbrev main_while0b_v38 : Ref sig .tc := ⟨.hbm, 93, rfl⟩
abbrev main_while0b_v39 : Ref sig .tc := ⟨.hbm, 94, rfl⟩
abbrev main_while0b_v40 : Ref sig .tc := ⟨.hbm, 95, rfl⟩
abbrev main_while0b_v41 : Ref sig .tc := ⟨.hbm, 96, rfl⟩
abbrev main_while0b_v42 : Ref sig .tc := ⟨.hbm, 97, rfl⟩
abbrev main_while0b_v43 : Ref sig .tc := ⟨.hbm, 98, rfl⟩
abbrev main_while0b_call2_cst : Ref sig .tc := ⟨.hbm, 99, rfl⟩
abbrev main_while0b_call2_v0 : Ref sig .tc := ⟨.hbm, 100, rfl⟩
abbrev main_while0b_v44 : Ref sig .tc := ⟨.hbm, 101, rfl⟩
abbrev main_while0b_v45 : Ref sig .tc := ⟨.hbm, 102, rfl⟩
abbrev main_while0b_v46 : Ref sig .tc := ⟨.hbm, 103, rfl⟩
abbrev main_while0b_v47 : Ref sig .tc := ⟨.hbm, 104, rfl⟩
abbrev main_while0b_v48 : Ref sig .tc := ⟨.hbm, 105, rfl⟩
abbrev main_while0b_v49 : Ref sig .tc := ⟨.hbm, 106, rfl⟩
abbrev main_while0b_cst_27 : Ref sig .tc := ⟨.hbm, 107, rfl⟩
abbrev main_while0b_v50 : Ref sig .tc := ⟨.hbm, 108, rfl⟩
abbrev main_while0b_cst_28 : Ref sig .tc := ⟨.hbm, 109, rfl⟩
abbrev main_while0b_v51 : Ref sig .tc := ⟨.hbm, 110, rfl⟩
abbrev main_while0b_v52 : Ref sig .tc := ⟨.hbm, 111, rfl⟩
abbrev main_while0b_v53 : Ref sig .tc := ⟨.hbm, 112, rfl⟩
abbrev main_while0b_v54 : Ref sig .tc := ⟨.hbm, 113, rfl⟩
abbrev main_while0b_v55 : Ref sig .tc := ⟨.hbm, 114, rfl⟩
abbrev main_while0b_v56 : Ref sig .tc := ⟨.hbm, 115, rfl⟩
abbrev main_while0b_cst_29 : Ref sig .tc := ⟨.hbm, 116, rfl⟩
abbrev main_while0b_v57 : Ref sig .tc := ⟨.hbm, 117, rfl⟩
abbrev main_while0b_v58 : Ref sig .tc := ⟨.hbm, 118, rfl⟩
abbrev main_while0b_v59 : Ref sig .tc := ⟨.hbm, 119, rfl⟩
abbrev main_while0b_v60 : Ref sig .tc := ⟨.hbm, 120, rfl⟩
abbrev main_while0b_v61 : Ref sig .tc := ⟨.hbm, 121, rfl⟩
abbrev main_while0b_v62 : Ref sig .tc := ⟨.hbm, 122, rfl⟩
abbrev main_while0b_v63 : Ref sig .tc := ⟨.hbm, 123, rfl⟩
abbrev main_while0b_v64 : Ref sig .tc := ⟨.hbm, 124, rfl⟩
abbrev main_while0b_v65 : Ref sig .tc := ⟨.hbm, 125, rfl⟩
abbrev main_while0b_v66 : Ref sig .tc := ⟨.hbm, 126, rfl⟩
abbrev main_while0b_v67 : Ref sig .tc := ⟨.hbm, 127, rfl⟩
abbrev main_while0b_cst_30 : Ref sig .tc := ⟨.hbm, 128, rfl⟩
abbrev main_while0b_v68 : Ref sig .tc := ⟨.hbm, 129, rfl⟩
abbrev main_while0b_v69 : Ref sig .tc := ⟨.hbm, 130, rfl⟩
abbrev main_while0b_cst_31 : Ref sig .tc := ⟨.hbm, 131, rfl⟩
abbrev main_while0b_v70 : Ref sig .tc := ⟨.hbm, 132, rfl⟩
abbrev main_while0b_v71 : Ref sig .tc := ⟨.hbm, 133, rfl⟩
abbrev main_while0b_v72 : Ref sig .tc := ⟨.hbm, 134, rfl⟩
abbrev main_while0b_v73 : Ref sig .tc := ⟨.hbm, 135, rfl⟩
abbrev main_while0b_v74 : Ref sig .tc := ⟨.hbm, 136, rfl⟩
abbrev main_while0b_v75 : Ref sig .tc := ⟨.hbm, 137, rfl⟩
abbrev main_while0b_v76 : Ref sig .tc := ⟨.hbm, 138, rfl⟩
abbrev main_while0b_v77 : Ref sig .tc := ⟨.hbm, 139, rfl⟩
abbrev main_while0b_v78 : Ref sig .tc := ⟨.hbm, 140, rfl⟩
abbrev main_while0b_v79 : Ref sig .tc := ⟨.hbm, 141, rfl⟩
abbrev main_while0b_v80 : Ref sig .tc := ⟨.hbm, 142, rfl⟩
abbrev main_while0b_v81 : Ref sig .tc := ⟨.hbm, 143, rfl⟩
abbrev main_while0b_v82 : Ref sig .tc := ⟨.hbm, 144, rfl⟩
abbrev main_while0b_v83 : Ref sig .tc := ⟨.hbm, 145, rfl⟩
abbrev main_while0b_v84 : Ref sig .tc := ⟨.hbm, 146, rfl⟩
abbrev main_while0b_v85 : Ref sig .tc := ⟨.hbm, 147, rfl⟩
abbrev main_while0b_v86 : Ref sig .tc := ⟨.hbm, 148, rfl⟩
abbrev main_while0b_v87 : Ref sig .tc := ⟨.hbm, 149, rfl⟩
abbrev main_while0b_v88 : Ref sig .tc := ⟨.hbm, 150, rfl⟩
abbrev main_while0b_cst_32 : Ref sig .tc := ⟨.hbm, 151, rfl⟩
abbrev main_while0b_v89 : Ref sig .tc := ⟨.hbm, 152, rfl⟩
abbrev main_while0b_v90 : Ref sig .tc := ⟨.hbm, 153, rfl⟩
abbrev main_while0b_cst_33 : Ref sig .tc := ⟨.hbm, 154, rfl⟩
abbrev main_while0b_v91 : Ref sig .tc := ⟨.hbm, 155, rfl⟩
abbrev main_while0b_v92 : Ref sig .tc := ⟨.hbm, 156, rfl⟩
abbrev main_while0b_v93 : Ref sig .tc := ⟨.hbm, 157, rfl⟩
abbrev main_while0b_v94 : Ref sig .tc := ⟨.hbm, 158, rfl⟩
abbrev main_while0b_v95 : Ref sig .tc := ⟨.hbm, 159, rfl⟩
abbrev main_while0b_cst_34 : Ref sig .tc := ⟨.hbm, 160, rfl⟩
abbrev main_while0b_v96 : Ref sig .tc := ⟨.hbm, 161, rfl⟩
abbrev main_while0b_v97 : Ref sig .tc := ⟨.hbm, 162, rfl⟩
abbrev main_while0b_cst_35 : Ref sig .tc := ⟨.hbm, 163, rfl⟩
abbrev main_while0b_v98 : Ref sig .tc := ⟨.hbm, 164, rfl⟩
abbrev main_while0b_v99 : Ref sig .tc := ⟨.hbm, 165, rfl⟩
abbrev main_while0b_v100 : Ref sig .tc := ⟨.hbm, 166, rfl⟩
abbrev main_while0b_v101 : Ref sig .tc := ⟨.hbm, 167, rfl⟩
abbrev main_while0b_v102 : Ref sig .tc := ⟨.hbm, 168, rfl⟩
abbrev main_while0b_v103 : Ref sig .tc := ⟨.hbm, 169, rfl⟩
abbrev main_while0b_v104 : Ref sig .tc := ⟨.hbm, 170, rfl⟩
abbrev main_while0b_cst_36 : Ref sig .tc := ⟨.hbm, 171, rfl⟩
abbrev main_while0b_v105 : Ref sig .tc := ⟨.hbm, 172, rfl⟩
abbrev main_while0b_v106 : Ref sig .tc := ⟨.hbm, 173, rfl⟩
abbrev main_while0b_cst_37 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_v111 : Ref sig .tc := ⟨.hbm, 179, rfl⟩
abbrev main_while0b_v112 : Ref sig .tc := ⟨.hbm, 180, rfl⟩
abbrev main_while0b_v113 : Ref sig .tc := ⟨.hbm, 181, rfl⟩
abbrev main_while0b_v114 : Ref sig .tc := ⟨.hbm, 182, rfl⟩
abbrev main_while0b_call3_v0 : Ref sig .tc := ⟨.hbm, 183, rfl⟩
abbrev main_while0b_v115 : Ref sig .tc := ⟨.hbm, 184, rfl⟩
abbrev main_while0b_call4_v0 : Ref sig .tc := ⟨.hbm, 185, rfl⟩
abbrev main_while0b_v116 : Ref sig .tc := ⟨.hbm, 186, rfl⟩
abbrev main_while0b_cst_38 : Ref sig .tc := ⟨.hbm, 187, rfl⟩
abbrev main_while0b_call5_v0 : Ref sig .tc := ⟨.hbm, 188, rfl⟩
abbrev main_while0b_call5_v1 : Ref sig .tc := ⟨.hbm, 189, rfl⟩
abbrev main_while0b_call5_v2 : Ref sig .tc := ⟨.hbm, 190, rfl⟩
abbrev main_while0b_v117 : Ref sig .tc := ⟨.hbm, 191, rfl⟩
abbrev main_while0b_cst_39 : Ref sig .tc := ⟨.hbm, 192, rfl⟩
abbrev main_while0b_call6_v0 : Ref sig .tc := ⟨.hbm, 193, rfl⟩
abbrev main_while0b_call6_v1 : Ref sig .tc := ⟨.hbm, 194, rfl⟩
abbrev main_while0b_call6_v2 : Ref sig .tc := ⟨.hbm, 195, rfl⟩
abbrev main_while0b_v118 : Ref sig .tc := ⟨.hbm, 196, rfl⟩
abbrev main_while0b_call7_v0 : Ref sig .tc := ⟨.hbm, 197, rfl⟩
abbrev main_while0b_call7_c : Ref sig .tc := ⟨.hbm, 198, rfl⟩
abbrev main_while0b_call7_c_0 : Ref sig .tc := ⟨.hbm, 199, rfl⟩
abbrev main_while0b_v119 : Ref sig .tc := ⟨.hbm, 200, rfl⟩
abbrev main_while0b_call8_v0 : Ref sig .tc := ⟨.hbm, 201, rfl⟩
abbrev main_while0b_call8_c : Ref sig .tc := ⟨.hbm, 202, rfl⟩
abbrev main_while0b_call8_c_0 : Ref sig .tc := ⟨.hbm, 203, rfl⟩
abbrev main_while0b_v120 : Ref sig .tc := ⟨.hbm, 204, rfl⟩
abbrev main_while0b_c_40 : Ref sig .tc := ⟨.hbm, 205, rfl⟩
abbrev main_while0b_v121 : Ref sig .tc := ⟨.hbm, 206, rfl⟩
abbrev main_v30 : Ref sig .tc := ⟨.hbm, 207, rfl⟩
abbrev main_v31 : Ref sig .tc := ⟨.hbm, 208, rfl⟩

abbrev nD : Nat := 1
abbrev τ : Topo := Topo.v7x

variable {F : FTy → Type} [FloatOps F]

abbrev main_while0_count : Scf.Loop 32 := ⟨0#32, 21#32, 1#32⟩
-- ==== Proof.Ideal.Emb.lean ====
/- The embedding call: the rows its table of token numbers names, its body, and the proof data of its pipeline. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.ValueIdx
public import Idealize.ShloMosaic.Lib.WholeRead
public import Idealize.ShloMosaic.Lib.Pipeline.Value
@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

open Idealize.ShloMosaic.ValueIdx (ix1 ix2)

/-! ## The table of words, and the rows they name -/

/-- The table of token numbers the call reads. -/
abbrev tbM0_0 : Memref sig .tc .smem S1344 .i32 := Memref.whole main_v4
abbrev htbM0_0 : tbM0_0.IsWhole := Memref.isWhole_whole _

/-- The table's contents on core `c`, and the table held whole at them. -/
abbrev TbBuf0 (c : Dev nD) : Type := Buf (Elt F) (tbM0_0.view.loc (c : Thread nD τ))
abbrev tbPt0 (c : Dev nD) (f : TbBuf0 (F := F) c) : sProp 𝕄 := tbM0_0.view.loc (c : Thread nD τ) ↦{fullShare} f

/-- The table's word at an index. -/
def word0 (c : Dev nD) (xt : TbBuf0 (F := F) c) (j : S1344.Idx) : BitVec 32 := tbM0_0.view.read (Elt F) xt j

/-- A word below the number of rows passes the body's check. -/
theorem row_ok (v : BitVec 32) (h : v.toNat < 10000) : k0_chk1 v := by
  intro a
  have e : k0_off2 v = ![v.toNat, 0] := by
    show ![(Scalar.indexCast v : Index).toNat, (0 : BitVec 32).toNat] = _
    rfl
  rw [e]
  match a with
  | 0 => show v.toNat + 1 ≤ 10000; omega
  | 1 => show 0 + 512 ≤ 512; omega

/-- So does every word the body reads, of a table whose words are all row numbers. -/
theorem read_ok (c : Dev nD) (xt : TbBuf0 (F := F) c) (hrow : ∀ j, (word0 c xt j).toNat < 10000) (r : LoadRect S1344) (j : r.shape.Idx) :
    k0_chk1 (tbM0_0.view.readAt (Elt F) r xt j) := row_ok _ (hrow (r.idx j))

/-- The rows of the embedding table that point `i` gathers: row `k` is the one named by word `168·i + k`. -/
def rows0 (c : Dev nD) (xt : TbBuf0 (F := F) c) (i : grid0.Coords) (x0 : Vec F S10000x512 .f32) : Vec F S168x512 .f32 :=
  fun y => x0 (ix2 ⟨(word0 c xt (ix1 ⟨(168 * (i 0).val + (y 0).val) % 1344, Nat.mod_lt _ (by decide)⟩)).toNat % 10000, Nat.mod_lt _ (by decide)⟩ (y 1))

/-- A load of a whole block reads the block. -/
theorem unit_zero_idx {S : Shape} {off : Fin S.rank → Nat} (h : ∀ a, off a = 0) (inb : ∀ a, off a + S.size a ≤ S.size a) (x : S.Idx) :
    (Rect.unit off S.size inb).toLoadRect.idx x = x := by
  funext a
  apply Fin.ext
  show off a + 1 * (x a).val = (x a).val
  rw [h a]; omega

theorem unit_zero_emb {S : Shape} {off : Fin S.rank → Nat} (h : ∀ a, off a = 0) (inb : ∀ a, off a + S.size a ≤ S.size a) (x : S.Idx) :
    (Rect.unit off S.size inb).emb x = x := by
  funext a
  apply Fin.ext
  show off a + 1 * (x a).val = (x a).val
  rw [h a]; omega

/-- What a whole-block store leaves is its payload. -/
theorem read_whole_store {S : Shape} {e : EltTy} {sp : Space} (v : View sig .tc sp S e) (f : v.ty.Contents (Elt F)) {off : Fin S.rank → Nat}
    (h : ∀ a, off a = 0) (inb : ∀ a, off a + S.size a ≤ S.size a) (w : S.Idx → Elt F e) :
    v.read (Elt F) (v.writes (Elt F) f [⟨Rect.unit off S.size inb, w⟩]) = w := by
  funext y
  refine View.read_writes_apply_of_pieces v f w _ ?_ y ?_
  · intro p hp x
    obtain rfl := List.mem_singleton.mp hp
    exact congrArg w (unit_zero_emb h inb x).symm
  · refine ⟨_, List.mem_singleton.mpr rfl, ?_⟩
    rw [← Rect.map_emb_univ]
    exact Finset.mem_map.mpr ⟨y, Finset.mem_univ _, unit_zero_emb h inb y⟩

/-- The place of the word for row `k` at point `i`, as the body computes it. -/
def place0 (i : grid0.Coords) (k : BitVec 32) : Fin 1 → Nat :=
  ![(Scalar.indexCast (Scalar.addi (Scalar.muli (BitVec.ofNat 32 (i 0).val) 168#32) k) : Index).toNat]

theorem place0_eq (i : grid0.Coords) (k : Nat) (hk : k < 168) : place0 i (BitVec.ofNat 32 k) 0 = 168 * (i 0).val + k := by
  have hi : (i 0).val < 8 := (i 0).isLt
  show ((BitVec.ofNat 32 (i 0).val * 168#32 + BitVec.ofNat 32 k : BitVec 32)).toNat = _
  simp only [BitVec.toNat_add, BitVec.toNat_mul, BitVec.toNat_ofNat]
  omega

/-- The row stored at place `k` is row `k` of the gathered rows. -/
theorem row_piece (c : Dev nD) (i : grid0.Coords) (arg2 : Memref sig .tc .vmem S10000x512 .f32) (harg2 : arg2.IsWhole)
    (x0 : Vec F S10000x512 .f32) (xt : TbBuf0 (F := F) c) (hrow : ∀ j, (word0 c xt j).toNat < 10000) (k : Nat) (hk : k < 168)
    (h1 : ∀ a, place0 i (BitVec.ofNat 32 k) a + S1.size a ≤ S1344.size a) (j : S1.Idx)
    (h2 : ∀ a, k0_off2 (tbM0_0.view.readAt (Elt F) (Rect.unit (s := S1344) (place0 i (BitVec.ofNat 32 k)) S1.size h1).toLoadRect xt j) a + S1x512.size a ≤ S10000x512.size a)
    (hc : S1x512.ShapeCasts S1x512) (h3 : ∀ a, (![k, 0] : Fin 2 → Nat) a + S1x512.size a ≤ S168x512.size a) (x : S1x512.Idx) :
    shapeCast S1x512 (View.readAt (Elt F) arg2.view (Rect.unit (s := S10000x512) (k0_off2 (tbM0_0.view.readAt (Elt F) (Rect.unit (s := S1344) (place0 i (BitVec.ofNat 32 k)) S1.size h1).toLoadRect xt j)) S1x512.size h2).toLoadRect (harg2.unread x0)) hc x
      = rows0 c xt i x0 ((Rect.unit (s := S168x512) ![k, 0] S1x512.size h3).emb x) := by
  refine (congrFun (shapeCast_self _ hc) x).trans ?_
  have hr := congrFun (harg2.read_unread x0) ((Rect.unit (s := S10000x512) (k0_off2 (tbM0_0.view.readAt (Elt F) (Rect.unit (s := S1344) (place0 i (BitVec.ofNat 32 k)) S1.size h1).toLoadRect xt j)) S1x512.size h2).toLoadRect.idx x)
  refine Eq.trans hr ?_
  unfold rows0
  refine congrArg x0 ?_
  have hi : (i 0).val < 8 := (i 0).isLt
  have hx : (x 0).val = 0 := by have := (x 0).isLt; change (x 0).val < 1 at this; omega
  have hj : (j 0).val = 0 := by have := (j 0).isLt; change (j 0).val < 1 at this; omega
  have hw : tbM0_0.view.readAt (Elt F) (Rect.unit (s := S1344) (place0 i (BitVec.ofNat 32 k)) S1.size h1).toLoadRect xt j
      = word0 c xt (ix1 ⟨(168 * (i 0).val + (((Rect.unit (s := S168x512) ![k, 0] S1x512.size h3).emb x) 0).val) % 1344, Nat.mod_lt _ (by decide)⟩) := by
    refine congrArg (word0 c xt) ?_
    funext a
    apply Fin.ext
    match a with
    | 0 =>
      show place0 i (BitVec.ofNat 32 k) 0 + 1 * (j 0).val = (168 * (i 0).val + (k + 1 * (x 0).val)) % 1344
      rw [place0_eq i k hk, hx, hj]; omega
  funext a
  apply Fin.ext
  match a with
  | 0 =>
    have hlt := hrow (ix1 ⟨(168 * (i 0).val + (((Rect.unit (s := S168x512) ![k, 0] S1x512.size h3).emb x) 0).val) % 1344, Nat.mod_lt _ (by decide)⟩)
    show BitVec.toNat (tbM0_0.view.readAt (Elt F) (Rect.unit (s := S1344) (place0 i (BitVec.ofNat 32 k)) S1.size h1).toLoadRect xt j : BitVec 32) + 1 * (x 0).val
      = BitVec.toNat (word0 c xt _) % 10000
    rw [hw, hx, Nat.mod_eq_of_lt hlt]; omega
  | 1 => rfl

/-! ## The body's run -/

set_option maxHeartbeats 6424000 in
/-- On whole staging memrefs, the table's words all row numbers, the body leaves the inputs, and the table as they were, and
    in its output's buffer the gathered rows times the weights plus the bias. -/
theorem kernelRun0 (c : Dev nD) (i : grid0.Coords) (arg2 : Memref sig .tc .vmem S10000x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S168x2048 .f32) (harg5 : arg5.IsWhole) (arg6 : Memref sig .tc .vmem S168x512 .f32) (harg6 : arg6.IsWhole)
    (x0 : Vec F S10000x512 .f32) (x1 : Vec F S512x2048 .f32) (x2 : Vec F S1x2048 .f32) (xt : TbBuf0 (F := F) c) (hrow : ∀ j, (word0 c xt j).toNat < 10000)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ tbPt0 c xt
        ∗ (iprop(owns (c : Thread nD τ) arg2 fullShare x0 ∗ owns (c : Thread nD τ) arg3 fullShare x1 ∗ owns (c : Thread nD τ) arg4 fullShare x2 ∗ owns (c : Thread nD τ) arg5 fullShare (k0_pay1 (rows0 c xt i x0) x1 x2) ∗ (∃ d, owns (c : Thread nD τ) arg6 fullShare d) ∗ tbPt0 c xt) -∗ K ⟨⟩))
      ⊢ wp frame (wpE (defs₀ (F := F)) Variants.none c none) E (cc0__emb_kernel i tbM0_0 htbM0_0 arg2 harg2 arg3 harg3 arg4 harg4 arg5 harg5 arg6 harg6) K := by
    simp only [cc0__emb_kernel_eq_skeleton]; unfold cc0__emb_kernel_skel
    simp only [k0_part40_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HT0, Hk⟩
    obtain rfl := harg2.eq_unread hf0; obtain rfl := harg3.eq_unread hf1; obtain rfl := harg4.eq_unread hf2
    sl_exec (disch := exact read_ok c xt hrow _ _)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_whole_store _ _ (by decide) _ _).trans ?_
      have e1 : kernelRun0.sl.v1345 c i arg2 harg2 arg6 x0 xt hrow = rows0 c xt i x0 := by
        unfold kernelRun0.sl.v1345
        funext y
        refine (congrArg (arg6.view.read (Elt F) _) (unit_zero_idx (by decide) _ y)).trans ?_
        refine View.read_writes_apply_of_pieces arg6.view _ (rows0 c xt i x0) _ ?_ y
          (View.cover_of_tiledL (kernelRun0.sl.HS0_168 c i arg2 harg2 x0 xt hrow) S1x512.size (by sl_kernel_rfl) y)
        iterate 168 (refine List.forall_mem_cons.mpr ⟨?_, ?_⟩; · exact row_piece c i arg2 harg2 x0 xt hrow _ (by decide) _ _ _ _ (by decide))
        exact fun _ h => absurd h List.not_mem_nil
      have e2 : kernelRun0.sl.r_179 c arg3 harg3 x1 = x1 := by
        unfold kernelRun0.sl.r_179
        funext y
        exact (Memref.IsWhole.readAt_unread harg3 x1 _ y).trans (congrArg x1 (unit_zero_idx (by decide) _ y))
      have e3 : (View.readAt (Elt F) arg4.view (Rect.unit (s := S1x2048) ![0, 0] ![1, 2048] inb_S1x2048_S1x2048_0_0).toLoadRect (harg4.unread x2)) = x2 := by
        funext y
        exact (Memref.IsWhole.readAt_unread harg4 x2 _ y).trans (congrArg x2 (unit_zero_idx (by decide) _ y))
      rw [e1, e2]
      exact congrArg (k0_pay1 (rows0 c xt i x0) x1) e3
    isplitl [HS0]
    · iexists _, _; isplitr; swap; · iexact HS0
      ipureintro; rfl
    iexact HT0

/-! ## The pipeline at the table's contents -/

/-- The table as the region finds it, -/
def tbl0 : pre0.Contents (Elt F) := fun j => V (0 : Dev nD) (pre0.ref j)
/-- the same on every core (there is one), -/
theorem V_pre0 (c : Dev nD) (j : Fin 1) : V c (pre0.ref j) = tbl0 V j := by
  obtain rfl : c = 0 := Subsingleton.elim _ _
  rfl
/-- and the pipeline at it: no window's blocks depend on the table. -/
abbrev adm0 : (pcfg0 (F := F)).Adm := ⟨tbl0 V, trivial⟩
abbrev cfgT : Pipeline.Cfg sig Λ₀ := cfg0 (adm0 V)

theorem tables0_eq (c : Dev nD) : (Pipeline.prefHeld pre0 c (fun _ => fullShare) (tbl0 V) : sProp 𝕄) = tbPt0 c (tbl0 V 0) := by
  unfold Pipeline.prefHeld
  rw [show (Finset.univ : Finset (Fin 1)) = {(0 : Fin 1)} from by decide, bigSep_singleton]
  rfl

/-- Window `w`'s block at point `t`. -/
def iblk0 (c : Dev nD) (w : Fin (cfgT V).W) (t : Fin (cfgT V).N) : (((cfgT V).win w).xblock ((cfgT V).grid.coords t)).Idx → Elt F ((cfgT V).win w).elt :=
  (((cfgT V).win w).blk t).view.read (Elt F) (V c (Pipeline.arrRef spec0 w))

/-- Input 0 is found in its staging buffer at every point. -/
theorem before0_0_of {c : Dev nD} (dat : Dat τ (Elt F) Unit ℕ (UR sig nD τ) ℕ (cfgT V) c) (hA : dat.A 0 = V c (Pipeline.arrRef spec0 0))
    (hafter : ∀ t, dat.after 0 t = iblk0 V c 0 t) (t : Fin (cfgT V).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input 1 is found in its staging buffer at every point. -/
theorem before0_1_of {c : Dev nD} (dat : Dat τ (Elt F) Unit ℕ (UR sig nD τ) ℕ (cfgT V) c) (hA : dat.A 1 = V c (Pipeline.arrRef spec0 1))
    (hafter : ∀ t, dat.after 1 t = iblk0 V c 1 t) (t : Fin (cfgT V).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input 2 is found in its staging buffer at every point. -/
theorem before0_2_of {c : Dev nD} (dat : Dat τ (Elt F) Unit ℕ (UR sig nD τ) ℕ (cfgT V) c) (hA : dat.A 2 = V c (Pipeline.arrRef spec0 2))
    (hafter : ∀ t, dat.after 2 t = iblk0 V c 2 t) (t : Fin (cfgT V).N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin (cfgT V).N) : Memref sig .tc .vmem S10000x512 .f32 := spec0_0.stage ((cfgT V).slots t 0)
abbrev ms0_1 (t : Fin (cfgT V).N) : Memref sig .tc .vmem S512x2048 .f32 := spec0_1.stage ((cfgT V).slots t 1)
abbrev ms0_2 (t : Fin (cfgT V).N) : Memref sig .tc .vmem S1x2048 .f32 := spec0_2.stage ((cfgT V).slots t 2)
abbrev ms0_3 (t : Fin (cfgT V).N) : Memref sig .tc .vmem S168x2048 .f32 := spec0_3.stage ((cfgT V).slots t 3)

/-- The kernel body at point `t`, on what the pipeline calls it with. -/
abbrev bodyAt0 (t : Fin (cfgT V).N) : Prog (TpuEff nD τ sig (Elt F) Λ₀ .tc) PUnit :=
  cc0__emb_kernel (grid0.coords t) tbM0_0 htbM0_0 (ms0_0 V t) (hstage0_0 (((cfgT V).slots t 0).cast nbuf0_0)) (ms0_1 V t) (hstage0_1 (((cfgT V).slots t 1).cast nbuf0_1)) (ms0_2 V t) (hstage0_2 (((cfgT V).slots t 2).cast nbuf0_2)) (ms0_3 V t) (hstage0_3 (((cfgT V).slots t 3).cast nbuf0_3)) (Memref.whole cc0_scratch0) (Memref.isWhole_whole _)

/-- The other scoped buffers, unopened. -/
abbrev scrRest0 (c : Dev nD) : sProp 𝕄 := Pipeline.scopedRestBut (Ix := Unit) (Name := ℕ) (U := UR sig nD τ) (Lvl := ℕ) (Val := Elt F) spec0 c [cc0_scratch0]

/-- The call's scratch, its contents anything, beside the other scoped buffers and the generator register. -/
theorem scratch0_eq (c : Dev nD) :
    (Pipeline.ΦA spec0 c : sProp 𝕄)
      = iprop(iprop((∃ d, owns (c : Thread nD τ) (Memref.whole cc0_scratch0 : Memref sig .tc .vmem S168x512 .f32) fullShare d) ∗ scrRest0 c) ∗ (∃ r, prngReg c r)) := by
  unfold Pipeline.ΦA; rw [scopedRest0_split]; simp only [owns_whole]; try rfl

/-- What the body leaves in its output's buffer at point `t`: the gathered rows times the weights plus the bias. -/
def out0 (c : Dev nD) (t : Fin (cfgT V).N) : Vec F S168x2048 .f32 :=
  k0_pay1 (rows0 c (tbl0 V 0) (grid0.coords t) (iblk0 V c 0 t)) (iblk0 V c 1 t) (iblk0 V c 2 t)

/-- The proof data: after the body each input's buffer at its block, the output's at `out0`; the invariant is the scratch, the
    generator register and the table. -/
def dat0 (c : Dev nD) : Dat τ (Elt F) Unit ℕ (UR sig nD τ) ℕ (cfgT V) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := iprop(Pipeline.ΦA spec0 c ∗ Pipeline.prefHeld pre0 c (fun _ => fullShare) (tbl0 V))
  q _ := fullShare
  owed _ := 0

theorem A_eq0 (c : Dev nD) (w : Fin (cfgT V).W) : (dat0 V c).A w = V c (Pipeline.arrRef spec0 w) := by
  dsimp only [dat0]
theorem after0_0 (c : Dev nD) (t : Fin (cfgT V).N) : (dat0 V c).after 0 t = iblk0 V c 0 t := by dsimp only [dat0]; try rfl
theorem after0_1 (c : Dev nD) (t : Fin (cfgT V).N) : (dat0 V c).after 1 t = iblk0 V c 1 t := by dsimp only [dat0]; try rfl
theorem after0_2 (c : Dev nD) (t : Fin (cfgT V).N) : (dat0 V c).after 2 t = iblk0 V c 2 t := by dsimp only [dat0]; try rfl
theorem after0_3 (c : Dev nD) (t : Fin (cfgT V).N) : (dat0 V c).after 3 t = out0 V c t := by dsimp only [dat0]; try rfl

theorem before0_0 (c : Dev nD) (t : Fin (cfgT V).N) (d) : (dat0 V c).before 0 t d = iblk0 V c 0 t :=
  before0_0_of V (dat0 V c) (A_eq0 V c 0) (after0_0 V c) t d
theorem before0_1 (c : Dev nD) (t : Fin (cfgT V).N) (d) : (dat0 V c).before 1 t d = iblk0 V c 1 t :=
  before0_1_of V (dat0 V c) (A_eq0 V c 1) (after0_1 V c) t d
theorem before0_2 (c : Dev nD) (t : Fin (cfgT V).N) (d) : (dat0 V c).before 2 t d = iblk0 V c 2 t :=
  before0_2_of V (dat0 V c) (A_eq0 V c 2) (after0_2 V c) t d

/-! ## The body obligation -/

/-- What the body is called with at point `t`, -/
def bodyPre0 (c : Dev nD) (t : Fin (cfgT V).N) : sProp 𝕄 :=
  iprop((dat0 V c).Φ t.castSucc ∗ (dat0 V c).owesAt () t.castSucc
    ∗ (∃ d, owns (c : Thread nD τ) (ms0_0 V t) fullShare ((dat0 V c).before 0 t d))
    ∗ (∃ d, owns (c : Thread nD τ) (ms0_1 V t) fullShare ((dat0 V c).before 1 t d))
    ∗ (∃ d, owns (c : Thread nD τ) (ms0_2 V t) fullShare ((dat0 V c).before 2 t d))
    ∗ (∃ d, owns (c : Thread nD τ) (ms0_3 V t) fullShare ((dat0 V c).before 3 t d)))

/-- and what it returns. -/
def bodyPost0 (c : Dev nD) (t : Fin (cfgT V).N) : sProp 𝕄 :=
  iprop((dat0 V c).Φ t.succ ∗ (dat0 V c).owesAt () t.succ
    ∗ owns (c : Thread nD τ) (ms0_0 V t) fullShare ((dat0 V c).after 0 t)
    ∗ owns (c : Thread nD τ) (ms0_1 V t) fullShare ((dat0 V c).after 1 t)
    ∗ owns (c : Thread nD τ) (ms0_2 V t) fullShare ((dat0 V c).after 2 t)
    ∗ owns (c : Thread nD τ) (ms0_3 V t) fullShare ((dat0 V c).after 3 t))

/-- The words of the table are row numbers. -/
def Rows : Prop := ∀ (c : Dev nD) (j : S1344.Idx), (word0 (F := F) c (tbl0 V 0) j).toNat < 10000

set_option maxHeartbeats 4000000 in
/-- The body at any point. -/
theorem sound_body0 (hR : Rows V) (c : Dev nD) (t : Fin (cfgT V).N) :
    bodyPre0 V c t ⊢ wp frame (wpE (defs₀ (F := F)) Variants.none c none) Set.univ (bodyAt0 V t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = iprop(Pipeline.ΦA spec0 c ∗ Pipeline.prefHeld pre0 c (fun _ => fullShare) (tbl0 V)) from rfl, tables0_eq, scratch0_eq]
  unfold out0
  iintro ⟨⟨⟨⟨HS0, HS1⟩, Hg⟩, HT0⟩, Ho, ⟨%d0, H0⟩, ⟨%d1, H1⟩, ⟨%d2, H2⟩, ⟨%d3, H3⟩⟩
  iapply (kernelRun0 c (grid0.coords t) _ _ _ _ _ _ _ _ _ _ (iblk0 V c 0 t) (iblk0 V c 1 t) (iblk0 V c 2 t) (tbl0 V 0) (hR c) _ _)
  isplitl [H0]; · iexact H0
  isplitl [H1]; · iexact H1
  isplitl [H2]; · iexact H2
  isplitl [H3]; · iexists _; iexact H3
  isplitl [HS0]; · iexact HS0
  isplitl [HT0]; · iexact HT0
  iintro ⟨H0, H1, H2, H3, HS0, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  iexact H3

theorem defs₀_row0 (t : Fin (cfgT V).N) :
    defs₀ (F := F) .tc (cfgT V).body ((cfgT V).bodyArgs t ((cfgT V).slots t)) = bodyAt0 V t := by
  unfold defs₀; rw [Defs.onTc_tc]

/-- The body obligation, at every point. -/
theorem body_obligation0 (hR : Rows V) (c : Dev nD) : BodyObligation (dat0 V c) (defs₀ (F := F)) Variants.none () Set.univ := fun t => by
  rw [bigSep_W0, bigSep_W0, defs₀_row0 V]
  exact triple_restated (sound_body0 V hR c t) rfl .rfl fun _ => .rfl

end Cert.KernelIdeal.Whole

end
-- ==== Proof.Ideal.Enc.lean ====
/- The encoder call: its body on one block of eight examples, what it leaves in its four outputs, and the proof data of its pipeline. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0 is found in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input 1 is found in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input 2 is found in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input 3 is found in its staging buffer at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input 4 is found in its staging buffer at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input 5 is found in its staging buffer at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input 6 is found in its staging buffer at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 7, through which its contents are stated (`View.read_writes_of_cover`: the
    choice does not matter). -/
abbrev VO1_7 : View sig .tc .vmem S1664x512 .bf16 := (Memref.whole cc1_stg7_0 : Memref sig .tc .vmem S1664x512 .bf16).view
/-- One staging buffer of output window 8, through which its contents are stated (`View.read_writes_of_cover`: the
    choice does not matter). -/
abbrev VO1_8 : View sig .tc .vmem S1664x2048 .bf16 := (Memref.whole cc1_stg8_0 : Memref sig .tc .vmem S1664x2048 .bf16).view
/-- One staging buffer of output window 9, through which its contents are stated (`View.read_writes_of_cover`: the
    choice does not matter). -/
abbrev VO1_9 : View sig .tc .vmem S8x512 .f32 := (Memref.whole cc1_stg9_0 : Memref sig .tc .vmem S8x512 .f32).view
/-- One staging buffer of output window 10, through which its contents are stated (`View.read_writes_of_cover`: the
    choice does not matter). -/
abbrev VO1_10 : View sig .tc .vmem S8x512 .f32 := (Memref.whole cc1_stg10_0 : Memref sig .tc .vmem S8x512 .f32).view
/-- Each window's current staging memref at point `t`, spelled as the pipeline passes it (`bodyAt1`), and its wholeness. -/
abbrev ms1_0 (t : Fin cfg1.N) : Memref sig .tc .vmem S8x196x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1664x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1664x2048 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8x512 .f32 := win1_10.stage (cfg1.slots t 10)
abbrev hs1_10 (t : Fin cfg1.N) : (ms1_10 t).IsWhole := hstage1_10 ((cfg1.slots t 10).cast nbuf1_10)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs ; the pieces are
    the witness that run finds (assigned when `iexact` hands the buffer to the continuation). -/
noncomputable def kernelRun1_A (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec F S8x196x2048 .f32) (x1 : Vec F S2048x512 .f32) (x2 : Vec F S1x512 .f32) (x3 : Vec F S2048x512 .f32) (x4 : Vec F S1x512 .f32) (x5 : Vec F S2048x512 .f32) (x6 : Vec F S1x512 .f32) :
    Σ' (L7 : List (View.Piece (Elt F) S1664x512 .bf16)), Σ' (L8 : List (View.Piece (Elt F) S1664x2048 .bf16)), Σ' (L9 : List (View.Piece (Elt F) S8x512 .f32)), { L10 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc1__enc_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__enc_kernel_eq_skeleton]; unfold cc1__enc_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact H10

/-- The run's pieces for output 7 are of SEVERAL sizes (16 stores of `S12x512`, `S196x512`): cut into blocks of `![4, 512]` they tile its block (checked by the kernel's evaluation: Lib/Ring.lean `Piece.tiledBy`), so they cover it. -/
theorem cover1_A_7 (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec F S8x196x2048 .f32) (x1 : Vec F S2048x512 .f32) (x2 : Vec F S1x512 .f32) (x3 : Vec F S2048x512 .f32) (x4 : Vec F S1x512 .f32) (x5 : Vec F S2048x512 .f32) (x6 : Vec F S1x512 .f32) (y : S1664x512.Idx) :
    ∃ pc ∈ (kernelRun1_A c i arg1 harg1 arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledBy (kernelRun1_A c i arg1 harg1 arg2 harg2 arg3 harg3 arg4 harg4 arg5 harg5 arg6 harg6 arg7 harg7 arg8 harg8 arg9 harg9 arg10 harg10 arg11 harg11 x0 x1 x2 x3 x4 x5 x6).1 ![4, 512] (by sl_kernel_rfl) y

/-- What the run leaves in output 7's staging buffer: its pieces read back over junk. -/
def out1_A_7 (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec F S8x196x2048 .f32) (x1 : Vec F S2048x512 .f32) (x2 : Vec F S1x512 .f32) (x3 : Vec F S2048x512 .f32) (x4 : Vec F S1x512 .f32) (x5 : Vec F S2048x512 .f32) (x6 : Vec F S1x512 .f32) : Vec F S1664x512 .bf16 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 x0 x1 x2 x3 x4 x5 x6).1)

/-- The run's pieces for output 8 are of SEVERAL sizes (16 stores of `S12x2048`, `S196x2048`): cut into blocks of `![4, 2048]` they tile its block (checked by the kernel's evaluation: Lib/Ring.lean `Piece.tiledBy`), so they cover it. -/
theorem cover1_A_8 (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec F S8x196x2048 .f32) (x1 : Vec F S2048x512 .f32) (x2 : Vec F S1x512 .f32) (x3 : Vec F S2048x512 .f32) (x4 : Vec F S1x512 .f32) (x5 : Vec F S2048x512 .f32) (x6 : Vec F S1x512 .f32) (y : S1664x2048.Idx) :
    ∃ pc ∈ (kernelRun1_A c i arg1 harg1 arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledBy (kernelRun1_A c i arg1 harg1 arg2 harg2 arg3 harg3 arg4 harg4 arg5 harg5 arg6 harg6 arg7 harg7 arg8 harg8 arg9 harg9 arg10 harg10 arg11 harg11 x0 x1 x2 x3 x4 x5 x6).2.1 ![4, 2048] (by sl_kernel_rfl) y

/-- What the run leaves in output 8's staging buffer: its pieces read back over junk. -/
def out1_A_8 (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec F S8x196x2048 .f32) (x1 : Vec F S2048x512 .f32) (x2 : Vec F S1x512 .f32) (x3 : Vec F S2048x512 .f32) (x4 : Vec F S1x512 .f32) (x5 : Vec F S2048x512 .f32) (x6 : Vec F S1x512 .f32) : Vec F S1664x2048 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 x0 x1 x2 x3 x4 x5 x6).2.1)

/-- The run's pieces for output 9 tile its block (1 store of `S8x512`, checked by the kernel's evaluation: Lib/Ring.lean `Piece.tiledL`, linear in the pieces, through a loop's `@[irreducible]` trip theorem too), so they cover it. -/
theorem cover1_A_9 (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec F S8x196x2048 .f32) (x1 : Vec F S2048x512 .f32) (x2 : Vec F S1x512 .f32) (x3 : Vec F S2048x512 .f32) (x4 : Vec F S1x512 .f32) (x5 : Vec F S2048x512 .f32) (x6 : Vec F S1x512 .f32) (y : S8x512.Idx) :
    ∃ pc ∈ (kernelRun1_A c i arg1 harg1 arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 x0 x1 x2 x3 x4 x5 x6).2.2.1 S8x512.size (by sl_kernel_rfl) y

/-- What the run leaves in output 9's staging buffer: its pieces read back over junk. -/
def out1_A_9 (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec F S8x196x2048 .f32) (x1 : Vec F S2048x512 .f32) (x2 : Vec F S1x512 .f32) (x3 : Vec F S2048x512 .f32) (x4 : Vec F S1x512 .f32) (x5 : Vec F S2048x512 .f32) (x6 : Vec F S1x512 .f32) : Vec F S8x512 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 x0 x1 x2 x3 x4 x5 x6).2.2.1)

/-- The run's pieces for output 10 tile its block (1 store of `S8x512`, checked by the kernel's evaluation: Lib/Ring.lean `Piece.tiledL`, linear in the pieces, through a loop's `@[irreducible]` trip theorem too), so they cover it. -/
theorem cover1_A_10 (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec F S8x196x2048 .f32) (x1 : Vec F S2048x512 .f32) (x2 : Vec F S1x512 .f32) (x3 : Vec F S2048x512 .f32) (x4 : Vec F S1x512 .f32) (x5 : Vec F S2048x512 .f32) (x6 : Vec F S1x512 .f32) (y : S8x512.Idx) :
    ∃ pc ∈ (kernelRun1_A c i arg1 harg1 arg2 harg2 arg3 harg3 arg4 harg4 arg5 harg5 arg6 harg6 arg7 harg7 arg8 harg8 arg9 harg9 arg10 harg10 arg11 harg11 x0 x1 x2 x3 x4 x5 x6).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 x0 x1 x2 x3 x4 x5 x6).2.2.2.1 S8x512.size (by sl_kernel_rfl) y

/-- What the run leaves in output 10's staging buffer: its pieces read back over junk. -/
def out1_A_10 (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec F S8x196x2048 .f32) (x1 : Vec F S2048x512 .f32) (x2 : Vec F S1x512 .f32) (x3 : Vec F S2048x512 .f32) (x4 : Vec F S1x512 .f32) (x5 : Vec F S2048x512 .f32) (x6 : Vec F S1x512 .f32) : Vec F S8x512 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 x0 x1 x2 x3 x4 x5 x6).2.2.2.1)

/-! ## What the outputs hold after each point -/

/-- What the outputs' staging buffers hold after the body at point `t` (as a tuple, in window order): the run's contents at
    the point's memrefs and input blocks. -/
def outsAt1 (c : Dev nD) (t : Fin cfg1.N) : Vec F S1664x512 .bf16 × Vec F S1664x2048 .bf16 × Vec F S8x512 .f32 × Vec F S8x512 .f32 :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t) (iblk1 V c 5 t) (iblk1 V c 6 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t) (iblk1 V c 5 t) (iblk1 V c 6 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t) (iblk1 V c 5 t) (iblk1 V c 6 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t) (iblk1 V c 5 t) (iblk1 V c 6 t))

/-! ## The pipeline's proof data -/

/-- The proof data of pipeline 1 on core `c`: the arrays as the region finds them (`V`); after the body at
    point `t` each input's buffer at its block and the outputs' at `outsAt1`; the invariant the class's
    ; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t).1
    | ⟨8, _⟩ => (outsAt1 V c t).2.1
    | ⟨9, _⟩ => (outsAt1 V c t).2.2.1
    | ⟨10, _⟩ => (outsAt1 V c t).2.2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t).1 := by dsimp only [dat1]
theorem after1_8 (c : Dev nD) (t : Fin cfg1.N) : (dat1 V c).after 8 t = (outsAt1 V c t).2.1 := by dsimp only [dat1]
theorem after1_9 (c : Dev nD) (t : Fin cfg1.N) : (dat1 V c).after 9 t = (outsAt1 V c t).2.2.1 := by dsimp only [dat1]
theorem after1_10 (c : Dev nD) (t : Fin cfg1.N) : (dat1 V c).after 10 t = (outsAt1 V c t).2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t))

set_option maxHeartbeats 800000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  unfold outsAt1
  unfold out1_A_7 out1_A_8 out1_A_9 out1_A_10; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun1_A c (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, ⟨%e7, H7⟩, ⟨%e8, H8⟩, ⟨%e9, H9⟩, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover1_A_7 c _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover1_A_8 c _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover1_A_9 c _ _ _ _ _ _ _ _ _ _ _ _ _ _ _ _ _ _ _ _ _ _ _ _ _ _ _ _ _ _)
  unfold owns; iexists _; isplitr
  swap; · iexact H10
  ipureintro; exact View.read_writes_of_cover _ _ _ _ _ (cover1_A_10 c _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.Ideal.Dec.lean ====
/- The recurrence call: its body on one block of sixteen examples (all time steps), what it leaves in its two outputs, and the proof data of its pipeline. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input 0 is found in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input 1 is found in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input 2 is found in its staging buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input 3 is found in its staging buffer at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input 4 is found in its staging buffer at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input 5 is found in its staging buffer at every point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input 6 is found in its staging buffer at every point. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input 7 is found in its staging buffer at every point. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input 8 is found in its staging buffer at every point. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input 9 is found in its staging buffer at every point. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input 10 is found in its staging buffer at every point. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input 11 is found in its staging buffer at every point. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 12, through which its contents are stated (`View.read_writes_of_cover`: the
    choice does not matter). -/
abbrev VO2_12 : View sig .tc .vmem S21x16x512 .f32 := (Memref.whole cc2_stg12_0 : Memref sig .tc .vmem S21x16x512 .f32).view
/-- One staging buffer of output window 13, through which its contents are stated (`View.read_writes_of_cover`: the
    choice does not matter). -/
abbrev VO2_13 : View sig .tc .vmem S21x16x196 .f32 := (Memref.whole cc2_stg13_0 : Memref sig .tc .vmem S21x16x196 .f32).view
/-- Each window's current staging memref at point `t`, spelled as the pipeline passes it (`bodyAt2`), and its wholeness. -/
abbrev ms2_0 (t : Fin cfg2.N) : Memref sig .tc .vmem S3328x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S3328x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S21x16x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S21x16x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x4608 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x512 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x512 .bf16 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x1 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x2048 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S2048x2048 .bf16 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S21x16x512 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S21x16x196 .f32 := win2_13.stage (cfg2.slots t 13)
abbrev hs2_13 (t : Fin cfg2.N) : (ms2_13 t).IsWhole := hstage2_13 ((cfg2.slots t 13).cast nbuf2_13)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs ; the pieces are
    the witness that run finds (assigned when `iexact` hands the buffer to the continuation). -/
noncomputable def kernelRun2_A (c : Dev nD) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole)
    (x0 : Vec F S3328x2048 .bf16) (x1 : Vec F S3328x512 .bf16) (x2 : Vec F S21x16x2048 .f32) (x3 : Vec F S16x512 .f32) (x4 : Vec F S16x512 .f32) (x5 : Vec F S21x16x1 .f32) (x6 : Vec F S512x4608 .bf16) (x7 : Vec F S1x512 .f32) (x8 : Vec F S1x512 .bf16) (x9 : Vec F S1x1 .f32) (x10 : Vec F S1x2048 .f32) (x11 : Vec F S2048x2048 .bf16) :
    Σ' (L12 : List (View.Piece (Elt F) S21x16x512 .f32)), { L13 : List (View.Piece (Elt F) S21x16x196 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc2__decode_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc2__decode_kernel_eq_skeleton]; unfold cc2__decode_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexists _; iexact H13

/-- The run's pieces for output 12 tile its block (21 stores of `S1x16x512`, checked by the kernel's evaluation: Lib/Ring.lean `Piece.tiledL`, linear in the pieces, through a loop's `@[irreducible]` trip theorem too), so they cover it. -/
theorem cover2_A_12 (c : Dev nD) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole)
    (x0 : Vec F S3328x2048 .bf16) (x1 : Vec F S3328x512 .bf16) (x2 : Vec F S21x16x2048 .f32) (x3 : Vec F S16x512 .f32) (x4 : Vec F S16x512 .f32) (x5 : Vec F S21x16x1 .f32) (x6 : Vec F S512x4608 .bf16) (x7 : Vec F S1x512 .f32) (x8 : Vec F S1x512 .bf16) (x9 : Vec F S1x1 .f32) (x10 : Vec F S1x2048 .f32) (x11 : Vec F S2048x2048 .bf16) (y : S21x16x512.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1 S1x16x512.size (by sl_kernel_rfl) y

/-- What the run leaves in output 12's staging buffer: its pieces read back over junk. -/
def out2_A_12 (c : Dev nD) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole)
    (x0 : Vec F S3328x2048 .bf16) (x1 : Vec F S3328x512 .bf16) (x2 : Vec F S21x16x2048 .f32) (x3 : Vec F S16x512 .f32) (x4 : Vec F S16x512 .f32) (x5 : Vec F S21x16x1 .f32) (x6 : Vec F S512x4608 .bf16) (x7 : Vec F S1x512 .f32) (x8 : Vec F S1x512 .bf16) (x9 : Vec F S1x1 .f32) (x10 : Vec F S1x2048 .f32) (x11 : Vec F S2048x2048 .bf16) : Vec F S21x16x512 .f32 :=
  VO2_12.read (Elt F) (VO2_12.writes (Elt F) VO2_12.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1)

/-- The run's pieces for output 13 tile its block (21 stores of `S1x16x196`, checked by the kernel's evaluation: Lib/Ring.lean `Piece.tiledL`, linear in the pieces, through a loop's `@[irreducible]` trip theorem too), so they cover it. -/
theorem cover2_A_13 (c : Dev nD) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole)
    (x0 : Vec F S3328x2048 .bf16) (x1 : Vec F S3328x512 .bf16) (x2 : Vec F S21x16x2048 .f32) (x3 : Vec F S16x512 .f32) (x4 : Vec F S16x512 .f32) (x5 : Vec F S21x16x1 .f32) (x6 : Vec F S512x4608 .bf16) (x7 : Vec F S1x512 .f32) (x8 : Vec F S1x512 .bf16) (x9 : Vec F S1x1 .f32) (x10 : Vec F S1x2048 .f32) (x11 : Vec F S2048x2048 .bf16) (y : S21x16x196.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1 S1x16x196.size (by sl_kernel_rfl) y

/-- What the run leaves in output 13's staging buffer: its pieces read back over junk. -/
def out2_A_13 (c : Dev nD) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole)
    (x0 : Vec F S3328x2048 .bf16) (x1 : Vec F S3328x512 .bf16) (x2 : Vec F S21x16x2048 .f32) (x3 : Vec F S16x512 .f32) (x4 : Vec F S16x512 .f32) (x5 : Vec F S21x16x1 .f32) (x6 : Vec F S512x4608 .bf16) (x7 : Vec F S1x512 .f32) (x8 : Vec F S1x512 .bf16) (x9 : Vec F S1x1 .f32) (x10 : Vec F S1x2048 .f32) (x11 : Vec F S2048x2048 .bf16) : Vec F S21x16x196 .f32 :=
  VO2_13.read (Elt F) (VO2_13.writes (Elt F) VO2_13.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1)

/-! ## What the outputs hold after each point -/

/-- What the outputs' staging buffers hold after the body at point `t` (as a tuple, in window order): the run's contents at
    the point's memrefs and input blocks. -/
def outsAt2 (c : Dev nD) (t : Fin cfg2.N) : Vec F S21x16x512 .f32 × Vec F S21x16x196 .f32 :=
  (out2_A_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t), out2_A_13 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t))

/-! ## The pipeline's proof data -/

/-- The proof data of pipeline 2 on core `c`: the arrays as the region finds them (`V`); after the body at
    point `t` each input's buffer at its block and the outputs' at `outsAt2`; the invariant the class's
    ; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => (outsAt2 V c t).1
    | ⟨13, _⟩ => (outsAt2 V c t).2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = (outsAt2 V c t).1 := by dsimp only [dat2]
theorem after2_13 (c : Dev nD) (t : Fin cfg2.N) : (dat2 V c).after 13 t = (outsAt2 V c t).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

/-! ## The body obligation, at a generic point -/

/-- What the body is called with at point `t` , -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t))

set_option maxHeartbeats 1200000 in
/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  unfold outsAt2
  unfold out2_A_12 out2_A_13; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun2_A c (grid2.coords t) _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, ⟨%e12, H12⟩, ⟨%e13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover2_A_12 c _ _ _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover2_A_13 c _ _ _ _ _ _ _ _ _ _ _ _ _ _ _ _ _ _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated . -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.Ideal.Fc.lean ====
/- The output projection call: its body on one block, and the proof data of its pipeline, whose last column block overhangs the arrays. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input 0 is found in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input 3 is found in its staging buffer at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S336x512 := Rect.unit (s := S336x512) ![0, 0] S336x512.size inb_S336x512_S336x512_0_0
abbrev r3_1 : Rect S512x1280 := Rect.unit (s := S512x1280) ![0, 0] S512x1280.size inb_S512x1280_S512x1280_0_0
abbrev r3_2 : Rect S1x1280 := Rect.unit (s := S1x1280) ![0, 0] S1x1280.size inb_S1x1280_S1x1280_0_0
abbrev r3_3 : Rect S336x1 := Rect.unit (s := S336x1) ![0, 0] S336x1.size inb_S336x1_S336x1_0_0
abbrev r3_4 : Rect S336x1280 := Rect.unit (s := S336x1280) ![0, 0] S336x1280.size inb_S336x1280_S336x1280_0_0

/-! ## What the body leaves in each output window's buffer -/

/-- Window 4's staging buffer after the body, from the input windows' blocks: its 1 store as pieces, LAST
    FIRST . -/
def out3_4 (x0 : Vec F S336x512 .f32) (x1 : Vec F S512x1280 .f32) (x2 : Vec F S1x1280 .f32) (x3 : Vec F S336x1 .f32) : Vec F S336x1280 .f32 :=
  View.canon [⟨r3_4, k3_pay1 (View.ld x0 r3_0) (View.ld x1 r3_1) (View.ld x2 r3_2) (View.ld x3 r3_3)⟩]

/-- Its stores tile the buffer (checked by evaluation), so they cover it. -/
theorem cover3_4 (p0 : Vec F S336x1280 .f32) (y : S336x1280.Idx) :
    ∃ pc ∈ ([⟨r3_4, p0⟩] : List (View.Piece (Elt F) S336x1280 .f32)), y ∈ pc.1.set :=
  View.cover_of_tiled [⟨r3_4, p0⟩] S336x1280.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs , through every part call. -/
theorem sound_kernel3 (c : Dev nD) (E : Set ℕ) (i : grid3.Coords) (arg2 : Memref sig .tc .vmem S336x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S336x1 .f32) (harg5 : arg5.IsWhole) (arg6 : Memref sig .tc .vmem S336x1280 .f32) (harg6 : arg6.IsWhole)
    (x0 : Vec F S336x512 .f32) (x1 : Vec F S512x1280 .f32) (x2 : Vec F S1x1280 .f32) (x3 : Vec F S336x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3__fc_kernel i arg2 harg2 arg3 harg3 arg4 harg4 arg5 harg5 arg6 harg6) K := by
  simp only [cc3__fc_kernel_eq_skeleton]; unfold cc3__fc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The two windows whose last block overhangs the array

The last column block of the weights and of the bias row reaches past the array: a fetch fills only the columns that exist,
and the others hold what the buffer held before. -/

/-- Columns nothing has filled. -/
def junk (s : Shape) : Vec F s .f32 := constant s .f32 0x00000000#32

/-- The weights' staged block: the array's columns, over any contents. -/
def wblk (c : Dev nD) (t : Fin cfg3.N) (d : Vec F S512x1280 .f32) : Vec F S512x1280 .f32 := (cfg3.win 1).fill (cfg3.grid.coords t) d (iblk3 V c 1 t)
/-- The bias row's staged block likewise. -/
def bblk (c : Dev nD) (t : Fin cfg3.N) (d : Vec F S1x1280 .f32) : Vec F S1x1280 .f32 := (cfg3.win 2).fill (cfg3.grid.coords t) d (iblk3 V c 2 t)

/-- The proof data: the inputs' buffers at their blocks (the two overhanging ones over fixed contents), the output's at the body's. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => wblk V c t (junk _)
    | ⟨2, _⟩ => bblk V c t (junk _)
    | ⟨3, _⟩ => iblk3 V c 3 t
    | ⟨4, _⟩ => out3_4 (iblk3 V c 0 t) (wblk V c t (junk _)) (bblk V c t (junk _)) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = wblk V c t (junk _) := by dsimp only [dat3]
theorem after3_2 (c : Dev nD) (t : Fin cfg3.N) : (dat3 V c).after 2 t = bblk V c t (junk _) := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (wblk V c t (junk _)) (bblk V c t (junk _)) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_3 (c : Dev nD) (t : Fin cfg3.N) (d) : (dat3 V c).before 3 t d = iblk3 V c 3 t :=
  before3_3_of V (dat3 V c) (A_eq3 V c 3) (after3_3 V c) t d

/-- A fetch of the weights' window fills the buffer with the staged block. -/
theorem fetched3_1 (c : Dev nD) (t : Fin cfg3.N) (d) : (dat3 V c).fetched 1 t d = wblk V c t d := by
  unfold Dat.fetched Dat.blockOf wblk iblk3; rw [A_eq3]
theorem fetched3_2 (c : Dev nD) (t : Fin cfg3.N) (d) : (dat3 V c).fetched 2 t d = bblk V c t d := by
  unfold Dat.fetched Dat.blockOf bblk iblk3; rw [A_eq3]

/-- Two points of one column block see one block of the weights. -/
theorem index3_1 : ∀ t t' : Fin grid3.N, t.val / 4 = t'.val / 4 → win3_1.index t = win3_1.index t' := by decide +kernel
theorem index3_2 : ∀ t t' : Fin grid3.N, t.val / 4 = t'.val / 4 → win3_2.index t = win3_2.index t' := by decide +kernel
theorem clip3_1 : ∀ t t' : Fin grid3.N, t.val / 4 = t'.val / 4 → win3_1.clip (grid3.coords t) = win3_1.clip (grid3.coords t') := by decide +kernel
theorem clip3_2 : ∀ t t' : Fin grid3.N, t.val / 4 = t'.val / 4 → win3_2.clip (grid3.coords t) = win3_2.clip (grid3.coords t') := by decide +kernel

/-- The weights' buffer holds the staged block at every point, over some contents. -/
theorem before3_1 (c : Dev nD) (t : Fin cfg3.N) (d) : (dat3 V c).before 1 t d = wblk V c t d := by
  by_cases hf : (cfg3.win 1).fetch t = true
  · unfold Dat.before; rw [if_pos hf]; exact fetched3_1 V c t d
  have hm : ¬ t.val % 4 = 0 := fun h => hf ((fetch3_1 t).mpr h)
  rw [(dat3 V c).before_of_pos 1 t (by omega) (eq_false_of_ne_true hf), if_neg (by exact Bool.false_ne_true)]
  refine Eq.trans (b := (dat3 V c).kept 1 ⟨t.val - 1, Nat.lt_of_le_of_lt (Nat.sub_le _ _) t.isLt⟩ d) rfl ?_
  unfold Dat.kept
  rw [after3_1]; unfold wblk
  rw [(cfg3.win 1).cut_fill]
  refine (fetched3_1 V c _ d).symm.trans (Eq.trans ?_ (fetched3_1 V c t d))
  exact (dat3 V c).fetched_congr 1 (index3_1 _ _ (by show (t.val - 1) / 4 = t.val / 4; omega)) (clip3_1 _ _ (by show (t.val - 1) / 4 = t.val / 4; omega)) d
/-- The bias row's buffer likewise. -/
theorem before3_2 (c : Dev nD) (t : Fin cfg3.N) (d) : (dat3 V c).before 2 t d = bblk V c t d := by
  by_cases hf : (cfg3.win 2).fetch t = true
  · unfold Dat.before; rw [if_pos hf]; exact fetched3_2 V c t d
  have hm : ¬ t.val % 4 = 0 := fun h => hf ((fetch3_2 t).mpr h)
  rw [(dat3 V c).before_of_pos 2 t (by omega) (eq_false_of_ne_true hf), if_neg (by exact Bool.false_ne_true)]
  refine Eq.trans (b := (dat3 V c).kept 2 ⟨t.val - 1, Nat.lt_of_le_of_lt (Nat.sub_le _ _) t.isLt⟩ d) rfl ?_
  unfold Dat.kept
  rw [after3_2]; unfold bblk
  rw [(cfg3.win 2).cut_fill]
  refine (fetched3_2 V c _ d).symm.trans (Eq.trans ?_ (fetched3_2 V c t d))
  exact (dat3 V c).fetched_congr 2 (index3_2 _ _ (by show (t.val - 1) / 4 = t.val / 4; omega)) (clip3_2 _ _ (by show (t.val - 1) / 4 = t.val / 4; omega)) d

/-! ## The body obligation -/

/-- The output window, kept or forgotten. -/
def fgt3 (b : Bool) : Fin 5 → Bool := fun | 4 => b | _ => false

/-- Columns the write-back moves do not depend on what the buffers' unfilled columns hold. -/
def ColsOnly : Prop := ∀ (t : Fin cfg3.N) (x0 : Vec F S336x512 .f32) (x1 x1' : Vec F S512x1280 .f32) (x2 x2' : Vec F S1x1280 .f32) (x3 : Vec F S336x1 .f32),
  (cfg3.win 1).cut (cfg3.grid.coords t) x1 = (cfg3.win 1).cut (cfg3.grid.coords t) x1' →
  (cfg3.win 2).cut (cfg3.grid.coords t) x2 = (cfg3.win 2).cut (cfg3.grid.coords t) x2' →
  (cfg3.win 4).cut (cfg3.grid.coords t) (out3_4 x0 x1 x2 x3) = (cfg3.win 4).cut (cfg3.grid.coords t) (out3_4 x0 x1' x2' x3)

theorem leave3_1 (c : Dev nD) (t : Fin cfg3.N) (d : Vec F S512x1280 .f32) :
    (cfg3.win 1).fill (cfg3.grid.coords t) (wblk V c t d) ((cfg3.win 1).cut (cfg3.grid.coords t) ((dat3 V c).after 1 t)) = wblk V c t d :=
  (cfg3.win 1).fill_congr_cut _ (by rw [after3_1]; unfold wblk; rw [(cfg3.win 1).cut_fill, (cfg3.win 1).cut_fill])
theorem leave3_2 (c : Dev nD) (t : Fin cfg3.N) (d : Vec F S1x1280 .f32) :
    (cfg3.win 2).fill (cfg3.grid.coords t) (bblk V c t d) ((cfg3.win 2).cut (cfg3.grid.coords t) ((dat3 V c).after 2 t)) = bblk V c t d :=
  (cfg3.win 2).fill_congr_cut _ (by rw [after3_2]; unfold bblk; rw [(cfg3.win 2).cut_fill, (cfg3.win 2).cut_fill])
theorem leave3_4 (hc : ColsOnly (F := F)) (c : Dev nD) (t : Fin cfg3.N) (d : Vec F S512x1280 .f32) (d' : Vec F S1x1280 .f32) :
    (cfg3.win 4).fill (cfg3.grid.coords t) (out3_4 (iblk3 V c 0 t) (wblk V c t d) (bblk V c t d') (iblk3 V c 3 t))
      ((cfg3.win 4).cut (cfg3.grid.coords t) ((dat3 V c).after 4 t)) = out3_4 (iblk3 V c 0 t) (wblk V c t d) (bblk V c t d') (iblk3 V c 3 t) :=
  (cfg3.win 4).fill_congr_cut _ (by
    rw [after3_4]
    refine hc t _ _ _ _ _ _ ?_ ?_
    · unfold wblk; rw [(cfg3.win 1).cut_fill, (cfg3.win 1).cut_fill]
    · unfold bblk; rw [(cfg3.win 2).cut_fill, (cfg3.win 2).cut_fill])

/-- What the body is called with, the output's buffer at anything; -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare d))

/-- what it returns of the inputs, -/
def inPost3 (c : Dev nD) (t : Fin cfg3.N) (R : sProp 𝕄) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare ((cfg3.win 1).fill (cfg3.grid.coords t) d ((cfg3.win 1).cut (cfg3.grid.coords t) ((dat3 V c).after 1 t))))
    ∗ (∃ d, owns (c : Thread nD τ) (st3_2 t) fullShare ((cfg3.win 2).fill (cfg3.grid.coords t) d ((cfg3.win 2).cut (cfg3.grid.coords t) ((dat3 V c).after 2 t))))
    ∗ owns (c : Thread nD τ) (st3_3 t) fullShare ((dat3 V c).after 3 t) ∗ R)

/-- and of the output: its block on the columns written back, or just something. -/
def outPost3 (c : Dev nD) (t : Fin cfg3.N) : sProp 𝕄 :=
  iprop(∃ d, owns (c : Thread nD τ) (st3_4 t) fullShare ((cfg3.win 4).fill (cfg3.grid.coords t) d ((cfg3.win 4).cut (cfg3.grid.coords t) ((dat3 V c).after 4 t))))
def outSome3 (c : Dev nD) (t : Fin cfg3.N) : sProp 𝕄 := iprop(∃ d, owns (c : Thread nD τ) (st3_4 t) fullShare d)

/-- The body at any point, ending in whatever `R` follows from the output's block over some unfilled columns. -/
theorem sound_body3 (c : Dev nD) (t : Fin cfg3.N) (R : sProp 𝕄)
    (hR : ∀ d d', owns (c : Thread nD τ) (st3_4 t) fullShare (out3_4 (iblk3 V c 0 t) (wblk V c t d) (bblk V c t d') (iblk3 V c 3 t)) ⊢ R) :
    bodyPre3 V c t ⊢ wp frame (wpE (defs₀ (F := F)) Variants.none c none) Set.univ (bodyAt3 t) (fun _ => inPost3 V c t R) := by
  unfold bodyPre3 inPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_3]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (wblk V c t d1) (bblk V c t d2) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists wblk V c t d1; rw [leave3_1]; iexact H1
  isplitl [H2]; · iexists bblk V c t d2; rw [leave3_2]; iexact H2
  isplitl [H3]; · iexact H3
  iapply (hR d1 d2); iexact H4

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- A buffer at some found contents is a buffer at something. -/
theorem some_of_before (c : Dev nD) (t : Fin cfg3.N) :
    (iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))) : sProp 𝕄) ⊢ bodyPre3 V c t := by
  unfold bodyPre3
  iintro ⟨HΦ, Ho, H0, H1, H2, H3, ⟨%d4, H4⟩⟩
  isplitl [HΦ]; · iexact HΦ
  isplitl [Ho]; · iexact Ho
  isplitl [H0]; · iexact H0
  isplitl [H1]; · iexact H1
  isplitl [H2]; · iexact H2
  isplitl [H3]; · iexact H3
  iexists _; iexact H4

/-- The obligation, the output's window forgotten: at any float values. -/
theorem body_forget3 (c : Dev nD) : Pipeline.BodyObligationLoose (dat3 (F := F) V c) (defs₀ (F := F)) Variants.none () Set.univ (fgt3 true) := fun t => by
  rw [bigSep_W3, bigSep_W3, defs₀_row3]
  exact sound_body3 V c t (outSome3 c t) fun d d' => by unfold outSome3; iintro H; iexists _; iexact H

/-- The obligation in full, where the columns are independent. -/
theorem body_named3 (hc : ColsOnly (F := F)) (c : Dev nD) : Pipeline.BodyObligationLoose (dat3 (F := F) V c) (defs₀ (F := F)) Variants.none () Set.univ (fgt3 false) := fun t => by
  rw [bigSep_W3, bigSep_W3, defs₀_row3]
  exact (some_of_before V c t).trans (sound_body3 V c t (outPost3 V c t) fun d d' => by
    unfold outPost3; iintro H; iexists _; rw [leave3_4 V hc c t d d']; iexact H)

end Cert.KernelIdeal.Whole

end
-- ==== Proof.Ideal.Run.lean ====
/- The whole program's run: its five host stretches and four calls in order, from the launch to the return. -/
module

public import proofs.«01_k».proof.Proof.Ideal.Emb
public import proofs.«01_k».proof.Proof.Ideal.Enc
public import proofs.«01_k».proof.Proof.Ideal.Dec
public import proofs.«01_k».proof.Proof.Ideal.Fc
public import proofs.«01_k».proof.Proof.Gen.KernelIdeal.Regions
public import Idealize.ShloMosaic.Lib.Pipeline.RegionArraysF
public import Idealize.ShloMosaic.Lib.Pipeline.RegionArraysT

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose ucRefs withArrays arrRef arrRefs tblRefs)
open Cert.KernelIdeal.Gen

variable {F : FTy → Type} [FloatOps F] [Named F]

local notation "𝕄" => MT nD τ sig Unit (Elt F) ℕ (UR sig nD τ) ℕ

/-! ## One call as a segment of the thread -/

abbrev noVar : Variants := Variants.none
/-- No core owes another anything: no level is assigned. -/
abbrev lvSet : GSem nD τ sig → Finset Unit := fun _ => ∅
abbrev lvOf : GSem nD τ sig → Unit → ℕ := fun _ _ => 0
/-- What rides beside the buffers: the core's generator register at some state and its `owes`, at nothing. -/
abbrev Rest (c : Dev nD) : sProp 𝕄 := iprop((∃ r, prngReg c r) ∗ ∃ W, owes (c : Thread nD τ) (0 : CellTallies nD τ sig Unit) W)
/-- Every buffer no call scopes, at the contents `W`. -/
abbrev Bufs (c : Dev nD) (W : Valuation τ sig (Elt F)) : sProp 𝕄 := StableHlo.held (c.tc : Thread nD τ) (ucRefs τ sig) W

section Call

variable (a : (p : Fin 4) → (pcfgs (F := F) p).Adm)
  (pd : (p : Fin 4) → (c : Dev nD) → Dat τ (Elt F) Unit ℕ (UR sig nD τ) ℕ (Pipeline.pin (pcfgs (F := F)) a p) c)
  (fg : (p : Fin 4) → Fin (Pipeline.pin (pcfgs (F := F)) a p).W → Bool) (p : Fin 4)

/-- A buffer that is none of the call's arrays keeps its contents. -/
theorem withArrays_off {gr K : Nat} (win : Fin K → Pipeline.WinSpec sig gr) (c : Dev nD) (W : Valuation τ sig (Elt F))
    (A : (w : Fin K) → Buf (Elt F) ((win w).arr.view.loc (c.tc : Thread nD τ))) (d : DevRef τ sig) (h : d ∉ arrRefs win) :
    withArrays win c W A d = W d := by
  unfold withArrays
  rw [dif_neg]
  rintro ⟨w, e⟩
  exact h (by rw [← e]; exact Finset.mem_map.mpr ⟨arrRef win w, Finset.mem_image.mpr ⟨w, Finset.mem_univ _, rfl⟩, rfl⟩)

set_option backward.isDefEq.respectTransparency.types false in
/-- The buffers no call scopes are the call's arrays, its tables and the others. -/
theorem bufs_split (kit : Pipeline.PLaunchFacts (nD := nD) (τ := τ) (pcfgs (F := F)) p) (c : Dev nD) (W : Valuation τ sig (Elt F))
    (hshare : ∀ w, (pd p c).share w = fullShare)
    (A : (w : Fin (Pipeline.pin (pcfgs (F := F)) a p).W) → Buf (Elt F) (((Pipeline.pin (pcfgs (F := F)) a p).win w).arr.view.loc (c.tc : Thread nD τ)))
    (hA : ∀ w, A w = W (Proc.devRef .tc (arrRef (Pipeline.pin (pcfgs (F := F)) a p).spec w)))
    (hT : ∀ k, (a p).1 k = W (Proc.devRef .tc ((pcfgs (F := F) p).pre.ref k))) :
    (Bufs c W : sProp 𝕄) = iprop((pd p c).arrays A ∗ Pipeline.prefHeld (pcfgs (F := F) p).pre c (fun _ => fullShare) (a p).1
      ∗ StableHlo.held (c.tc : Thread nD τ) ((ucRefs τ sig \ arrRefs (pcfgs (F := F) p).spec) \ tblRefs (pcfgs (F := F) p).pre) W) := by
  rw [Pipeline.arrays_held (pcfgs (F := F)) a pd p kit c hshare A W hA, Pipeline.prefHeld_held (pcfgs (F := F) p).pre kit.pre.inj c (a p).1 W hT,
    ← StableHlo.held_sub_split (c.tc : Thread nD τ) (Pipeline.tblRefs_sub_ucRefs_sdiff (pcfgs (F := F) p).spec (pcfgs (F := F) p).pre kit.pre.unscoped kit.pre.disj) W,
    ← StableHlo.held_sub_split (c.tc : Thread nD τ) (Pipeline.arrRefs_sub_ucRefs (pcfgs (F := F) p).spec kit.win.arr_unscoped) W]

set_option backward.isDefEq.respectTransparency.types false in
/-- A call between its entry contents `W` and whatever `post` follows from its arrays ending at named contents
    (the windows `fg` forgets: at some contents), every other buffer as entered. -/
def call (kit : Pipeline.PLaunchFacts (nD := nD) (τ := τ) (pcfgs (F := F)) p)
    (hbody : ∀ c, BodyObligationLoose (pd p c) defs₀ noVar () Set.univ (fg p))
    (howed : ∀ c t, (pd p c).owed t = 0) (hrec : ∀ c, (pd p c).recorded 0 = Set.univ)
    (hshare : ∀ c w, (pd p c).share w = fullShare)
    (hin : ∀ c, iprop(iprop(Pipeline.scopedRest (Pipeline.pin (pcfgs (F := F)) a p).spec c ∗ ∃ r, prngReg c r)
      ∗ Pipeline.prefHeld (pcfgs (F := F) p).pre c (fun _ => fullShare) (a p).1) ⊢ (pd p c).Φ 0)
    (hout : ∀ c, (pd p c).Φ (Fin.last (Pipeline.pin (pcfgs (F := F)) a p).N) ⊢ iprop(iprop(Pipeline.scopedRest (Pipeline.pin (pcfgs (F := F)) a p).spec c ∗ ∃ r, prngReg c r)
      ∗ Pipeline.prefHeld (pcfgs (F := F) p).pre c (fun _ => fullShare) (a p).1))
    (W : Dev nD → Valuation τ sig (Elt F))
    (hW : ∀ c w, (pd p c).arrAt w 0 = W c (Proc.devRef .tc (arrRef (Pipeline.pin (pcfgs (F := F)) a p).spec w)))
    (hT : ∀ c k, (a p).1 k = W c (Proc.devRef .tc ((pcfgs (F := F) p).pre.ref k)))
    (post : Dev nD → sProp 𝕄)
    (hpost : ∀ c A, (∀ w, fg p w = false → A w = (pd p c).arrAt w (Pipeline.pin (pcfgs (F := F)) a p).N) →
      iprop(Bufs c (withArrays (Pipeline.pin (pcfgs (F := F)) a p).spec c (W c) A) ∗ Rest c) ⊢ post c) :
    Pipeline.RDat.RegionSeg (pcfgs (F := F)) a (Pipeline.toRsF (pcfgs (F := F)) a pd fg) () defs₀ noVar lvSet lvOf p where
  win := kit.to₀.win
  block_pos := kit.to₀.block_pos
  stage_whole := kit.to₀.stage_whole
  K := PEmpty
  osem k := k.elim
  ho := Pipeline.OwnSemFacts.none _
  hbody c := (hbody c).toRForget
  hwaits := Pipeline.RDat.hwaits_of_owed_zero _ _ _ _ lvSet lvOf p howed
  pre c := iprop(Bufs c (W c) ∗ Rest c)
  post := post
  X c := iprop(∃ r, prngReg c r)
  Y c := iprop((∃ r, prngReg c r) ∗ Pipeline.prefHeld (pcfgs (F := F) p).pre c (fun _ => fullShare) (a p).1)
  Z c := StableHlo.held (c.tc : Thread nD τ) ((ucRefs τ sig \ arrRefs (pcfgs (F := F) p).spec) \ tblRefs (pcfgs (F := F) p).pre) (W c)
  hentry c := by
    show _ ⊢ |={Set.univ}=> iprop((pd p c).arrays ((pd p c).arrAt · 0) ∗ Pipeline.prefHeld (pcfgs (F := F) p).pre c (fun _ => fullShare) (a p).1
        ∗ (pd p c).owesAt () 0 ∗ _ ∗ _)
    rw [Pipeline.ownSems0_none, bufs_split a pd p kit c (W c) (hshare c) ((pd p c).arrAt · 0) (hW c) (hT c)]
    iintro ⟨⟨⟨Ha, Ht, Hr⟩, Hp, HO⟩, -, -⟩
    imodintro
    isplitl [Ha]; · iexact Ha
    isplitl [Ht]; · iexact Ht
    isplitl [HO]
    · unfold Dat.owesAt Pipeline.owesWithin Dat.bound
      rw [howed c 0, hrec c]
      icases HO with ⟨%Wd, HO⟩; iexists Wd; isplitr; · ipureintro; exact fun _ _ => Or.inl trivial
      iexact HO
    isplitl [Hp]; · iexact Hp
    iexact Hr
  hin c := (show _ ⊢ iprop(iprop(Pipeline.scopedRest (Pipeline.pin (pcfgs (F := F)) a p).spec c ∗ ∃ r, prngReg c r)
      ∗ Pipeline.prefHeld (pcfgs (F := F) p).pre c (fun _ => fullShare) (a p).1) from by
    iintro ⟨HX, Ht, Hr⟩
    isplitl [Hr HX]; · isplitl [Hr] <;> iassumption
    iexact Ht).trans (hin c)
  hout c := (hout c).trans (by
    rw [Pipeline.ownSems0_none]
    iintro ⟨⟨Hr, HY⟩, Ht⟩
    isplitl [HY Ht]; · isplitl [HY] <;> iassumption
    isplitr; · iempintro
    iexact Hr)
  hexit c := by
    show iprop(((pd p c).toRForget (fg p)).arraysAt (Pipeline.pin (pcfgs (F := F)) a p).N ∗ (pd p c).owesAt () (Fin.last (Pipeline.pin (pcfgs (F := F)) a p).N) ∗ _ ∗ _) ⊢ _
    iintro ⟨Ha, HO, ⟨Hp, Ht⟩, Hr⟩
    ihave Ha := ((pd p c).arraysAt_forget (fg p) (Pipeline.pin (pcfgs (F := F)) a p).N) $$ Ha
    icases Ha with ⟨%A, %hA, Ha⟩
    imodintro
    iapply (hpost c A hA)
    rw [bufs_split a pd p kit c (withArrays (Pipeline.pin (pcfgs (F := F)) a p).spec c (W c) A) (hshare c) A
      (fun w => (Pipeline.withArrays_arr _ kit.win.arr_inj c (W c) A w).symm)
      (fun k => (hT c k).trans (Pipeline.withArrays_of_ne _ c (W c) A _ (fun w e => kit.pre.disj k w e.symm)).symm),
      StableHlo.held_congr (c.tc : Thread nD τ) (S := (ucRefs τ sig \ arrRefs (pcfgs (F := F) p).spec) \ tblRefs (pcfgs (F := F) p).pre)
        (V := withArrays (Pipeline.pin (pcfgs (F := F)) a p).spec c (W c) A) (V' := W c)
        (fun d hd => withArrays_off _ c (W c) A d (Finset.mem_sdiff.mp (Finset.mem_sdiff.mp hd).1).2)]
    isplitl [Ha Ht Hr]
    · isplitl [Ha]; · iexact Ha
      isplitl [Ht]; · iexact Ht
      iexact Hr
    isplitl [Hp]; · iexact Hp
    unfold Dat.owesAt Pipeline.owesWithin
    rw [howed c (Fin.last _)]
    icases HO with ⟨%Wd, -, HO⟩; iexists Wd; iexact HO

end Call

/-! ## The buffers' contents, boundary by boundary -/

variable (m : (ℓ : Loc nD τ sig) → Buf (Elt F) ℓ)

/-- What a call is entered with, at the core's own references. -/
abbrev atTc (W : Dev nD → Valuation τ sig (Elt F)) : (c : Dev nD) → (b : Ref sig .tc) → Buf (Elt F) ((c : Thread nD τ).loc b) := fun c b => W c b

abbrev W0 : Dev nD → Valuation τ sig (Elt F) := fun c b => m ((c : Dev nD), b)
abbrev W1 : Dev nD → Valuation τ sig (Elt F) := fun c => StableHlo.after hostOps0 (W0 m c)
def W2 (c : Dev nD) : Valuation τ sig (Elt F) := withArrays spec0 c (W1 m c) fun w => (dat0 (atTc (W1 m)) c).arrAt w (cfgT (atTc (W1 m))).N
abbrev W3 : Dev nD → Valuation τ sig (Elt F) := fun c => StableHlo.after hostOps1 (W2 m c)
def W4 (c : Dev nD) : Valuation τ sig (Elt F) := withArrays spec1 c (W3 m c) fun w => (dat1 (atTc (W3 m)) c).arrAt w cfg1.N
abbrev W5 : Dev nD → Valuation τ sig (Elt F) := fun c => StableHlo.after hostOps2 (W4 m c)
def W6 (c : Dev nD) : Valuation τ sig (Elt F) := withArrays spec2 c (W5 m c) fun w => (dat2 (atTc (W5 m)) c).arrAt w cfg2.N
abbrev W7 : Dev nD → Valuation τ sig (Elt F) := fun c => StableHlo.after hostOps3 (W6 m c)
/-- The last call's arrays, at any contents. -/
abbrev Arrs3 (c : Dev nD) : Type := (w : Fin cfg3.W) → Buf (Elt F) ((spec3 w).arr.view.loc (c.tc : Thread nD τ))
abbrev W8 (c : Dev nD) (A : Arrs3 (F := F) c) : Valuation τ sig (Elt F) := withArrays spec3 c (W7 m c) A
abbrev W9 (c : Dev nD) (A : Arrs3 (F := F) c) : Valuation τ sig (Elt F) := StableHlo.after hostOps4 (W8 m c A)

/-- The tables' admissible contents: the first call's are the token table as entered; no other call has one. -/
def tabs : (p : Fin 4) → (pcfgs (F := F) p).Adm
  | ⟨0, _⟩ => adm0 (atTc (W1 m))
  | ⟨1, _⟩ => cfg1.toPCfg_adm
  | ⟨2, _⟩ => cfg2.toPCfg_adm
  | ⟨3, _⟩ => cfg3.toPCfg_adm
def dats : (p : Fin 4) → (c : Dev nD) → Dat τ (Elt F) Unit ℕ (UR sig nD τ) ℕ (Pipeline.pin (pcfgs (F := F)) (tabs m) p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W7 m)) c
/-- Which windows a run forgets: `b` the last call's output, no other. -/
def forgets (b : Bool) : (p : Fin 4) → Fin (Pipeline.pin (pcfgs (F := F)) (tabs m) p).W → Bool
  | ⟨0, _⟩ => fun _ => false
  | ⟨1, _⟩ => fun _ => false
  | ⟨2, _⟩ => fun _ => false
  | ⟨3, _⟩ => fgt3 b

set_option backward.isDefEq.respectTransparency.types false in
def call0 (b : Bool) (hR : Rows (atTc (W1 m))) : Pipeline.RDat.RegionSeg (pcfgs (F := F)) (tabs m) (Pipeline.toRsF (pcfgs (F := F)) (tabs m) (dats m) (forgets m b)) () defs₀ noVar lvSet lvOf 0 :=
  call (tabs m) (dats m) (forgets m b) 0 launch0 (fun c => (body_obligation0 (atTc (W1 m)) hR c).loose) (fun _ _ => rfl) (fun _ => rfl)
    (fun c => (dats m 0 c).share_full fun _ => rfl)
    (fun c => by
      show _ ⊢ iprop(Pipeline.ΦA spec0 c ∗ Pipeline.prefHeld pre0 c (fun _ => fullShare) (tbl0 (atTc (W1 m))))
      unfold Pipeline.ΦA; exact .rfl)
    (fun c => by
      show iprop(Pipeline.ΦA spec0 c ∗ Pipeline.prefHeld pre0 c (fun _ => fullShare) (tbl0 (atTc (W1 m)))) ⊢ _
      unfold Pipeline.ΦA; exact .rfl)
    (W1 m) (A_eq0 (atTc (W1 m))) (fun c k => (V_pre0 (atTc (W1 m)) c k).symm)
    (fun c => iprop(Bufs c (W2 m c) ∗ Rest c))
    (fun c A hA => by
      obtain rfl : A = fun w => (dat0 (atTc (W1 m)) c).arrAt w (cfgT (atTc (W1 m))).N := funext fun w => hA w rfl
      exact .rfl)

/-- A call without a table: its invariant is the scoped buffers and the generator register. -/
theorem no_table_in (p : Fin 4) (G : (Pipeline.Prefetch.none (sig := sig)).Contents (Elt F)) {gr K : Nat} (win : Fin K → Pipeline.WinSpec sig gr) (c : Dev nD) :
    iprop(iprop(Pipeline.scopedRest win c ∗ ∃ r, prngReg c r) ∗ Pipeline.prefHeld Pipeline.Prefetch.none c (fun _ => fullShare) G) ⊢ (Pipeline.ΦA win c : sProp 𝕄) := by
  unfold Pipeline.ΦA
  iintro ⟨H, -⟩
  iexact H
theorem no_table_out (p : Fin 4) (G : (Pipeline.Prefetch.none (sig := sig)).Contents (Elt F)) {gr K : Nat} (win : Fin K → Pipeline.WinSpec sig gr) (c : Dev nD) :
    (Pipeline.ΦA win c : sProp 𝕄) ⊢ iprop(iprop(Pipeline.scopedRest win c ∗ ∃ r, prngReg c r) ∗ Pipeline.prefHeld Pipeline.Prefetch.none c (fun _ => fullShare) G) := by
  unfold Pipeline.ΦA
  iintro H
  isplitl [H]; · iexact H
  unfold Pipeline.prefHeld; rw [show (Finset.univ : Finset (Fin 0)) = ∅ from rfl, BI.bigSep_empty]; iempintro

set_option backward.isDefEq.respectTransparency.types false in
def call1 (b : Bool) : Pipeline.RDat.RegionSeg (pcfgs (F := F)) (tabs m) (Pipeline.toRsF (pcfgs (F := F)) (tabs m) (dats m) (forgets m b)) () defs₀ noVar lvSet lvOf 1 :=
  call (tabs m) (dats m) (forgets m b) 1 launch1 (fun c => (body_obligation1 (atTc (W3 m)) c).loose) (fun _ _ => rfl) (fun _ => rfl)
    (fun c => (dats m 1 c).share_full fun _ => rfl)
    (fun c => no_table_in 1 _ spec1 c)
    (fun c => no_table_out 1 _ spec1 c)
    (W3 m) (A_eq1 (atTc (W3 m))) (fun c k => k.elim0)
    (fun c => iprop(Bufs c (W4 m c) ∗ Rest c))
    (fun c A hA => by
      obtain rfl : A = fun w => (dat1 (atTc (W3 m)) c).arrAt w cfg1.N := funext fun w => hA w rfl
      exact .rfl)

set_option backward.isDefEq.respectTransparency.types false in
def call2 (b : Bool) : Pipeline.RDat.RegionSeg (pcfgs (F := F)) (tabs m) (Pipeline.toRsF (pcfgs (F := F)) (tabs m) (dats m) (forgets m b)) () defs₀ noVar lvSet lvOf 2 :=
  call (tabs m) (dats m) (forgets m b) 2 launch2 (fun c => (body_obligation2 (atTc (W5 m)) c).loose) (fun _ _ => rfl) (fun _ => rfl)
    (fun c => (dats m 2 c).share_full fun _ => rfl)
    (fun c => no_table_in 2 _ spec2 c)
    (fun c => no_table_out 2 _ spec2 c)
    (W5 m) (A_eq2 (atTc (W5 m))) (fun c k => k.elim0)
    (fun c => iprop(Bufs c (W6 m c) ∗ Rest c))
    (fun c A hA => by
      obtain rfl : A = fun w => (dat2 (atTc (W5 m)) c).arrAt w cfg2.N := funext fun w => hA w rfl
      exact .rfl)

/-- What the last call leaves: its arrays at contents that are the named ones except where forgotten. -/
abbrev Named3 (b : Bool) (c : Dev nD) (A : Arrs3 (F := F) c) : Prop := ∀ w, fgt3 b w = false → A w = (dat3 (atTc (W7 m)) c).arrAt w cfg3.N
abbrev Post8 (b : Bool) (c : Dev nD) : sProp 𝕄 := iprop(∃ A : Arrs3 (F := F) c, ⌜Named3 m b c A⌝ ∗ (Bufs c (W8 m c A) ∗ Rest c))

set_option backward.isDefEq.respectTransparency.types false in
def call3 (b : Bool) (hb3 : ∀ c, BodyObligationLoose (dat3 (atTc (W7 m)) c) (defs₀ (F := F)) noVar () Set.univ (fgt3 b)) : Pipeline.RDat.RegionSeg (pcfgs (F := F)) (tabs m) (Pipeline.toRsF (pcfgs (F := F)) (tabs m) (dats m) (forgets m b)) () defs₀ noVar lvSet lvOf 3 :=
  call (tabs m) (dats m) (forgets m b) 3 launch3 (hb3) (fun _ _ => rfl) (fun _ => rfl)
    (fun c => (dats m 3 c).share_full fun _ => rfl)
    (fun c => no_table_in 3 _ spec3 c)
    (fun c => no_table_out 3 _ spec3 c)
    (W7 m) (A_eq3 (atTc (W7 m))) (fun c k => k.elim0)
    (Post8 m b)
    (fun c A hA => by
      iintro H
      iexists A
      isplitr; · ipureintro; exact hA
      iexact H)

/-! ## The segments, and the launch -/

/-- A host stretch from contents `W`. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar lvSet lvOf :=
  Pipeline.HostSeg.ofOps _ _ _ _ _ (ucRefs τ sig) ops
    (fun op h => Pipeline.sub_ucRefs op ((List.forall_iff_forall_mem.mp hsub) op h))
    (fun op h => (List.forall_iff_forall_mem.mp hfresh) op h) W Rest

/-- The thread state after the last stretch. -/
abbrev Post9 (b : Bool) (c : Dev nD) : sProp 𝕄 := iprop(∃ A : Arrs3 (F := F) c, ⌜Named3 m b c A⌝ ∗ (Bufs c (W9 m c A) ∗ Rest c))

set_option backward.isDefEq.respectTransparency.types false in
/-- The last host stretch, from whatever the last call left. -/
def host4 (b : Bool) : Pipeline.HostSeg (Name := ℕ) (U := UR sig nD τ) (pcfgs (F := F)) defs₀ noVar lvSet lvOf where
  prog := StableHlo.seq hostOps4
  pre := Post8 m b
  post := Post9 m b
  run c {β} k K := by
    iintro ⟨Hk, Hbd, ⟨%A, %hA, Hh, HR⟩, -⟩
    iapply (StableHlo.wp_seq (defs := Pipeline.defs (pcfgs (F := F)) defs₀) _ none Set.univ c (ucRefs τ sig) k (K := K) hostOps4
      (fun op h => Pipeline.sub_ucRefs op ((List.forall_iff_forall_mem.mp hostOps4_sub) op h))
      (fun op h => (List.forall_iff_forall_mem.mp hostOps4_fresh) op h) (W8 m c A)) $$ [Hbd Hh]
    · isplitl [Hbd] <;> iassumption
    iintro ⟨Hbd, Hh⟩
    iapply Hk
    isplitl [Hbd]; · iexact Hbd
    iexists A
    isplitr; · ipureintro; exact hA
    isplitl [Hh] <;> iassumption

/-- The program's nine segments. -/
abbrev segs (b : Bool) (hR : Rows (atTc (W1 m))) (hb3 : ∀ c, BodyObligationLoose (dat3 (atTc (W7 m)) c) (defs₀ (F := F)) noVar () Set.univ (fgt3 b)) :
    List (Pipeline.RDat.Seg (pcfgs (F := F)) (tabs m) (Pipeline.toRsF (pcfgs (F := F)) (tabs m) (dats m) (forgets m b)) () defs₀ noVar lvSet lvOf) :=
  [ .host (host hostOps0 hostOps0_sub hostOps0_fresh (W0 m)), .region (call0 m b hR),
    .host (host hostOps1 hostOps1_sub hostOps1_fresh (W2 m)), .region (call1 m b),
    .host (host hostOps2 hostOps2_sub hostOps2_fresh (W4 m)), .region (call2 m b),
    .host (host hostOps3 hostOps3_sub hostOps3_fresh (W6 m)), .region (call3 m b hb3),
    .host (host4 m b) ]

theorem main_run (b : Bool) (hR : Rows (atTc (W1 m))) (hb3 : ∀ c, BodyObligationLoose (dat3 (atTc (W7 m)) c) (defs₀ (F := F)) noVar () Set.univ (fgt3 b)) (c : Dev nD) :
    main (F := F) c = Pipeline.RDat.Seg.run (segs m b hR hb3) := (main_chain c).trans (by chain_rfl)

/-- An unscoped reference is among those the thread state holds. -/
theorem mem_bufs (b : Ref sig .tc) (h : ¬ (Proc.devRef .tc b : DevRef τ sig).isScoped) : Proc.devRef .tc b ∈ ucRefs τ sig :=
  Finset.mem_filter.mpr ⟨StableHlo.devRef_mem_tcRefs b, h⟩
/-- Every semaphore of the core is scoped. -/
theorem all_scoped : ∀ sm : SemLoc sig, sm.isScoped .tc = true := by decide

set_option backward.isDefEq.respectTransparency.types false in
/-- THE RUN: every execution ends with each core's unscoped buffers at the last boundary's contents, counters at zero. -/
theorem run (ρ : Dev nD → PrngReg) (b : Bool) (hR : Rows (atTc (W1 m)))
    (hb3 : ∀ c, BodyObligationLoose (dat3 (atTc (W7 m)) c) (defs₀ (F := F)) noVar () Set.univ (fgt3 b)) :
    θ_run defs (onTc (τ := τ) (main (F := F))) ⟨m, fun _ => 0, ρ⟩ (fun r =>
      (∀ c : Dev nD, ∃ A : Arrs3 (F := F) c, Named3 m b c A ∧ ∀ d ∈ ucRefs τ sig, r.2.mem (((c : Thread nD τ)).1, d) = W9 m c A d) ∧ r.2.sem = fun _ => 0) :=
  Pipeline.RDat.θ_run_regions_kit_sems (pcfgs (F := F)) (tabs m) (Pipeline.toRsF (pcfgs (F := F)) (tabs m) (dats m) (forgets m b)) () (cellOf_inj (tabs m)) emb₁ defs₀ noVar lvSet lvOf m ρ main (segs m b hR hb3)
    (fun c Q => by rw [main_run m b hR hb3 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (Pipeline.pin (pcfgs (F := F)) (tabs m)) (cellOf_inj (tabs m))) (Pipeline.launchToks (Pipeline.pin (pcfgs (F := F)) (tabs m)) (cellOf_inj (tabs m))))
    (hu₀ := by
      iintro Hu; imodintro
      isplitl [Hu]
      · iapply (show (ownU (initOf (Pipeline.cells (Pipeline.pin (pcfgs (F := F)) (tabs m)) (cellOf_inj (tabs m))) (Pipeline.launchToks (Pipeline.pin (pcfgs (F := F)) (tabs m)) (cellOf_inj (tabs m)))) : sProp 𝕄)
            ⊢ BI.own (emb₁ (initOf (Pipeline.cells (Pipeline.pin (pcfgs (F := F)) (tabs m)) (cellOf_inj (tabs m))) (Pipeline.launchToks (Pipeline.pin (pcfgs (F := F)) (tabs m)) (cellOf_inj (tabs m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(Bufs c (W0 m c) ∗ Rest c))
    (Tₙ := fun c => iprop(∃ A : Arrs3 (F := F) c, ⌜Named3 m b c A⌝ ∗ Bufs c (W9 m c A)))
    (hch := ⟨fun _ => .rfl, fun _ => .rfl, fun _ => .rfl, fun _ => .rfl, fun _ => .rfl, fun _ => .rfl, fun _ => .rfl, fun _ => .rfl, fun _ => .rfl, fun c => by
      show Post9 m b c ⊢ _
      iintro ⟨%A, %hA, Hh, -, HO⟩
      isplitl [Hh]
      · iexists A
        isplitr; · ipureintro; exact hA
        iexact Hh
      iexact HO⟩)
    (hinit := by
      refine Pipeline.initEach lvSet lvOf fun c => ?_
      rw [show unscopedBufs c (fun b => m ((c : Thread nD τ).loc b)) = StableHlo.held (c : Thread nD τ) (ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ A : Arrs3 (F := F) c, Named3 m b c A ∧ ∀ d ∈ ucRefs τ sig, s.mem (((c : Thread nD τ)).1, d) = W9 m c A d)
    (hfin := fun c s' => by
      iintro ⟨⟨%A, %hA, Hh⟩, HSI⟩
      unfold Bufs StableHlo.held
      imodintro
      iapply ((pointsTo_read_all (ucRefs τ sig) (fun d => (((c : Thread nD τ)).1, d)) (W9 m c A) s').trans (show _ ⊢
          iprop(⌜∃ A : Arrs3 (F := F) c, Named3 m b c A ∧ ∀ d ∈ ucRefs τ sig, s'.mem.mem (((c : Thread nD τ)).1, d) = W9 m c A d⌝ ∗ SI s') from by
        iintro ⟨%hr, HSI⟩
        isplitr
        · ipureintro; exact ⟨A, hA, hr⟩
        iexact HSI))
      isplitl [Hh] <;> iassumption)
    (hQ := fun s h hz => ⟨h, funext fun g => hz g (.inr (all_scoped g.2))⟩)

/-! ## The arguments: no stretch and no call writes one -/

/-- The arrays the program is launched on. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- A buffer that is none of a call's output arrays is as entered. -/
theorem withArrays_kept {gr K : Nat} (win : Fin K → Pipeline.WinSpec sig gr) (hinj : Function.Injective (arrRef win)) (c : Dev nD)
    (W : Valuation τ sig (Elt F)) (A : (w : Fin K) → Buf (Elt F) ((win w).arr.view.loc (c.tc : Thread nD τ)))
    (hA : ∀ w, (win w).isOut = false → A w = W (Proc.devRef .tc (arrRef win w)))
    (r : Ref sig .tc) (hr : ∀ w, arrRef win w = r → (win w).isOut = false) :
    withArrays win c W A (Proc.devRef .tc r) = W (Proc.devRef .tc r) := by
  by_cases hw : ∃ w, arrRef win w = r
  · obtain ⟨w, rfl⟩ := hw
    exact (Pipeline.withArrays_arr win hinj c W A w).trans (hA w (hr w rfl))
  · exact Pipeline.withArrays_of_ne win c W A r fun w e => hw ⟨w, e⟩

theorem W1_of (c : Dev nD) (r : Ref sig .tc) (h : r ∉ hostOps0_W) : W1 m c (Proc.devRef .tc r) = m ((c : Thread nD τ).loc r) :=
  StableHlo.after_of_writes_sub hostOps0 _ hostOps0_writes h
theorem W2_of (c : Dev nD) (r : Ref sig .tc) (h : ∀ w, arrRef spec0 w = r → (spec0 w).isOut = false) :
    W2 m c (Proc.devRef .tc r) = W1 m c (Proc.devRef .tc r) :=
  withArrays_kept spec0 (launch0 (F := F)).win.arr_inj c _ _ (fun w h => ((dat0 (atTc (W1 m)) c).arrAt_in w h _).trans (A_eq0 (atTc (W1 m)) c w)) r h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : ∀ w, arrRef spec1 w = r → (spec1 w).isOut = false) :
    W4 m c (Proc.devRef .tc r) = W3 m c (Proc.devRef .tc r) :=
  withArrays_kept spec1 (launch1 (F := F)).win.arr_inj c _ _ (fun w h => ((dat1 (atTc (W3 m)) c).arrAt_in w h _).trans (A_eq1 (atTc (W3 m)) c w)) r h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : ∀ w, arrRef spec2 w = r → (spec2 w).isOut = false) :
    W6 m c (Proc.devRef .tc r) = W5 m c (Proc.devRef .tc r) :=
  withArrays_kept spec2 (launch2 (F := F)).win.arr_inj c _ _ (fun w h => ((dat2 (atTc (W5 m)) c).arrAt_in w h _).trans (A_eq2 (atTc (W5 m)) c w)) r h
theorem W7_of (c : Dev nD) (r : Ref sig .tc) (h : r ∉ hostOps3_W) : W7 m c (Proc.devRef .tc r) = W6 m c (Proc.devRef .tc r) :=
  StableHlo.after_of_writes_sub hostOps3 _ hostOps3_writes h
theorem fgt3_in (b : Bool) : ∀ w, (spec3 w).isOut = false → fgt3 b w = false := by
  cases b <;> decide
theorem W8_of (b : Bool) (c : Dev nD) (A : Arrs3 (F := F) c) (hA : Named3 m b c A) (r : Ref sig .tc) (h : ∀ w, arrRef spec3 w = r → (spec3 w).isOut = false) :
    W8 m c A (Proc.devRef .tc r) = W7 m c (Proc.devRef .tc r) :=
  withArrays_kept spec3 (launch3 (F := F)).win.arr_inj c _ _ (fun w h => (hA w (fgt3_in b w h)).trans (((dat3 (atTc (W7 m)) c).arrAt_in w h _).trans (A_eq3 (atTc (W7 m)) c w))) r h
theorem W9_of (c : Dev nD) (A : Arrs3 (F := F) c) (r : Ref sig .tc) (h : r ∉ hostOps4_W) : W9 m c A (Proc.devRef .tc r) = W8 m c A (Proc.devRef .tc r) :=
  StableHlo.after_of_writes_sub hostOps4 _ hostOps4_writes h

theorem args_off : ∀ r ∈ argRefs, (r ∉ hostOps0_W ∧ r ∉ hostOps1_W ∧ r ∉ hostOps2_W ∧ r ∉ hostOps3_W ∧ r ∉ hostOps4_W) :=
  ListAll.forall_mem_of_all_decide (by decide +kernel)
theorem args_in : ∀ r ∈ argRefs, ((∀ w, arrRef spec0 w = r → (spec0 w).isOut = false) ∧ (∀ w, arrRef spec1 w = r → (spec1 w).isOut = false)
    ∧ (∀ w, arrRef spec2 w = r → (spec2 w).isOut = false) ∧ (∀ w, arrRef spec3 w = r → (spec3 w).isOut = false)) :=
  ListAll.forall_mem_of_all_decide (by decide +kernel)
theorem args_uc : ∀ r ∈ argRefs, ¬ (Proc.devRef .tc r : DevRef τ sig).isScoped :=
  ListAll.forall_mem_of_all_decide (by decide +kernel)

/-- An argument is as launched when the last call is entered, -/
theorem W7_arg (c : Dev nD) (r : Ref sig .tc) (hr : r ∈ argRefs) : W7 m c (Proc.devRef .tc r) = m ((c : Thread nD τ).loc r) := by
  obtain ⟨h0, h1, h2, h3, _⟩ := args_off r hr
  obtain ⟨i0, i1, i2, _⟩ := args_in r hr
  rw [W7_of m c r h3, W6_of m c r i2, W5_of m c r h2, W4_of m c r i1, W3_of m c r h1, W2_of m c r i0, W1_of m c r h0]
/-- and at the return. -/
theorem W9_arg (b : Bool) (c : Dev nD) (A : Arrs3 (F := F) c) (hA : Named3 m b c A) (r : Ref sig .tc) (hr : r ∈ argRefs) :
    W9 m c A (Proc.devRef .tc r) = m ((c : Thread nD τ).loc r) := by
  rw [W9_of m c A r (args_off r hr).2.2.2.2, W8_of m b c A hA r (args_in r hr).2.2.2, W7_arg m c r hr]

/-- The arguments end as launched. -/
theorem args_kept (ρ : Dev nD → PrngReg) (b : Bool) (hR : Rows (atTc (W1 m)))
    (hb3 : ∀ c, BodyObligationLoose (dat3 (atTc (W7 m)) c) (defs₀ (F := F)) noVar () Set.univ (fgt3 b)) :
    θ_run defs (onTc (τ := τ) (main (F := F))) ⟨m, fun _ => 0, ρ⟩ (fun r =>
      (∀ c : Dev nD, ∀ a ∈ argRefs, r.2.mem ((c : Thread nD τ).loc a) = m ((c : Thread nD τ).loc a)) ∧ r.2.sem = fun _ => 0) :=
  (θ_run defs _ _).mono (fun r h => ⟨fun c a ha => by
    obtain ⟨A, hA, hm⟩ := h.1 c
    exact (hm _ (mem_bufs a (args_uc a ha))).trans (W9_arg m b c A hA a ha), h.2⟩) (run m ρ b hR hb3)

end Cert.KernelIdeal.Whole

end
-- ==== Proof.Words.lean ====
/-
  The stated range of a caption word, read off the precondition's bit.
-/
module

public import Idealize.ShloMosaic.PureOps.Ideal
public import Idealize.ShloMosaic.Lib.ValueIdx

@[expose] public section

namespace Cert.Words

open Idealize.ShloMosaic

theorem bit_and (p q : Bool) : BitVec.ofBool p &&& BitVec.ofBool q = BitVec.ofBool (p && q) := by cases p <;> cases q <;> rfl
theorem bit_eq_one (p : Bool) : (BitVec.ofBool p = 1#1) = (p = true) := by cases p <;> simp

/-- A word at least zero and below ten thousand as a signed number is below ten thousand as a natural. -/
theorem lt_of_bit (w : BitVec 32) (h : BitVec.ofBool (BitVec.sle 0#32 w) &&& BitVec.ofBool (BitVec.slt w 10000#32) = 1#1) : w.toNat < 10000 := by
  rw [bit_and, bit_eq_one, Bool.and_eq_true] at h
  simp only [BitVec.sle, BitVec.slt, decide_eq_true_eq, BitVec.toInt, BitVec.toNat_ofNat] at h
  omega

theorem lt_of_pre (w : BitVec 32) (h : IntOp.andi (IntOp.cmpi .sge w 0#32) (IntOp.cmpi .slt w 10000#32) = 1#1) : w.toNat < 10000 :=
  lt_of_bit w h

end Cert.Words
-- ==== Proof.Ideal.Frame.lean ====
/-
  Under the stated range of the captions every word of the first call's row table is a row of the embedding array, so the
  whole program runs; its arguments end as launched and every semaphore counter ends at zero.
-/
module

public import proofs.«01_k».proof.Defs
public import proofs.«01_k».proof.Proof.Ideal.Run
public import proofs.«01_k».proof.Proof.Gen.Pre_captions_in_range
public import proofs.«01_k».proof.Proof.Words
public import Idealize.ShloMosaic.Lib.StableHlo.RunRead
public import Idealize.ShloMosaic.Lib.StableHlo.ReadAt

@[expose] public section

noncomputable section

namespace Cert.KernelIdeal.Whole

open Idealize.ShloMosaic Idealize.ShloMosaic.TcCoe Idealize.ShloMosaic.Tactic
open Idealize.SL.Sem Idealize.ShloMosaic.StableHlo
open Idealize.ShloMosaic.Pipeline (ucRefs)
open Cert.KernelIdeal.Gen

variable {F : FTy → Type} [FloatOps F] [Named F]

/-- The row table is the captions' first 21 columns, re-arranged. -/
theorem table_eq (m : (ℓ : Loc nD τ sig) → Buf (Elt F) ℓ) (c : Dev nD) :
    W1 m c (Proc.devRef .tc main_v4) = shapeCast S1344 (transpose S21x64 [1, 0] (extractStridedSlice S64x21 ![0, 0] (m ((c : Thread nD τ).loc main_arg1)) slices_S64x22_S64x21_0_0) transposes_S64x21_S21x64_1_0) shapeCasts_S21x64_S1344 := by
  unfold W1
  simp only [hostOps0]
  after_results
  rfl

/-- Each word of the row table is a word of the captions. -/
theorem word_mem (m : (ℓ : Loc nD τ sig) → Buf (Elt F) ℓ) (c : Dev nD) (j) :
    ∃ i, word0 c (tbl0 (atTc (W1 m)) 0) j = m (((0 : Dev nD) : Thread nD τ).loc main_arg1) i := by
  have h := table_eq m 0
  have e : word0 c (tbl0 (atTc (W1 m)) 0) j = W1 m 0 (Proc.devRef .tc main_v4) (tbM0_0.view.emb j) := rfl
  rw [e, h]
  exact ⟨_, rfl⟩

theorem rows_of (m : (ℓ : Loc nD τ sig) → Buf (Elt Ideal) ℓ) (h : Cert.Pre_KernelIdeal m) : Rows (atTc (W1 m)) := fun c j => by
  obtain ⟨i, hi⟩ := word_mem m c j
  rw [hi]
  exact Cert.Words.lt_of_pre _ (congrFun (h 0) i)

/-- The frame. -/
theorem frame : Cert.quiescent_KernelIdeal := fun m ρ h =>
  (θ_run defs _ _).mono (fun r h => ⟨fun c => by
    have k := h.1 c
    simp only [List.forall_mem_cons] at k
    simpa only [List.not_mem_nil, false_imp_iff, implies_true, and_true] using k, h.2⟩)
    (args_kept m ρ true (rows_of m h) (fun c => body_forget3 _ c))

end Cert.KernelIdeal.Whole

end
-- ==== Proof.Ref.lean ====
/-
  The reference's run: no operation of @main or of its loop writes an argument, and the program has no semaphore.
-/
module

public import proofs.«01_k».proof.Defs
public import proofs.«01_k».proof.Proof.Gen.ReferenceIdeal.Run
public import proofs.«01_k».proof.Proof.Gen.Pre_captions_in_range
public import Idealize.ShloMosaic.Lib.Decide

@[expose] public section

noncomputable section

namespace Cert.ReferenceIdeal.Whole

open Idealize.ShloMosaic Idealize.SL.Sem Idealize.ShloMosaic.StableHlo Cert.ReferenceIdeal Cert.ReferenceIdeal.Gen Cert.ReferenceIdeal.Value

variable {F : FTy → Type} [FloatOps F]

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- Everything one trip of the loop writes. -/
abbrev tripW : List (Ref sig .tc) := condOps_W ++ (while0Ops0_W ++ (while0Ops0_1_W ++ (while0Ops0_2_W ++ (while0Ops0_3_W ++ (while0Ops0_4_W ++ (while0Ops0_5_W ++ (while0Ops0_6_W ++ (while0Ops0_7_W ++ (while0Ops0_8_W ++ (while0Ops0_9_W ++ (while0Ops0_10_W ++ (while0Ops0_11_W ++ (while0Ops0_12_W ++ while0Ops0_13_W)))))))))))))

/-- A buffer no operation of the body writes is as entered after a trip, -/
theorem trip_keeps (V : Valuation τ sig (Elt F)) (r : Ref sig .tc) (h : r ∉ tripW) :
    afterL bodyI (after condOps V) (Proc.devRef .tc r) = V (Proc.devRef .tc r) := by
  simp only [tripW, List.mem_append, not_or] at h
  obtain ⟨hc, h0, h1, h2, h3, h4, h5, h6, h7, h8, h9, h10, h11, h12, h13⟩ := h
  simp only [bodyI, afterL_cons, afterL_nil]
  rw [after_of_writes_sub while0Ops0_13 _ while0Ops0_13_writes h13, after_of_writes_sub while0Ops0_12 _ while0Ops0_12_writes h12,
    after_of_writes_sub while0Ops0_11 _ while0Ops0_11_writes h11, after_of_writes_sub while0Ops0_10 _ while0Ops0_10_writes h10,
    after_of_writes_sub while0Ops0_9 _ while0Ops0_9_writes h9, after_of_writes_sub while0Ops0_8 _ while0Ops0_8_writes h8,
    after_of_writes_sub while0Ops0_7 _ while0Ops0_7_writes h7, after_of_writes_sub while0Ops0_6 _ while0Ops0_6_writes h6,
    after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- after any number of them, -/
theorem trips_keep (m : (ℓ : Loc nD τ sig) → Buf (Elt F) ℓ) (c : Dev nD) (r : Ref sig .tc) (h : r ∉ tripW) (k : ℕ) :
    atK m k c (Proc.devRef .tc r) = entryContents preI m c (Proc.devRef .tc r) := by
  induction k with
  | zero => rfl
  | succ k ih => exact (trip_keeps (atK m k c) r h).trans ih

/-- and at the end, when nothing before or after the loop writes it either. -/
theorem final_keeps (m : (ℓ : Loc nD τ sig) → Buf (Elt F) ℓ) (c : Dev nD) (r : Ref sig .tc) (h : r ∉ tripW) (h0 : r ∉ hostOps0_W) (h1 : r ∉ hostOps0_1_W) :
    finalContents condOps preI bodyI postI 21 m c (Proc.devRef .tc r) = m ((c.tc : Thread nD τ).loc r) := by
  have hc : r ∉ condOps_W := fun hh => h (List.mem_append_left _ hh)
  show after hostOps0_1 (after condOps (atK m 21 c)) _ = _
  rw [after_of_writes_sub hostOps0_1 _ hostOps0_1_writes h1, after_of_writes_sub condOps _ condOps_writes hc, trips_keep m c r h]
  exact after_of_writes_sub hostOps0 _ hostOps0_writes h0

theorem args_off : ∀ r ∈ argRefs, (r ∉ tripW ∧ r ∉ hostOps0_W ∧ r ∉ hostOps0_1_W ∧ (Proc.devRef .tc r : DevRef τ sig).isScoped = false) :=
  ListAll.forall_mem_of_all_decide (by decide +kernel)

/-- The program has no semaphore: every counter is zero. -/
theorem no_sem (f g : GSem nD τ sig → ℤ) : f = g := funext fun x => by
  obtain ⟨_, s⟩ := x
  cases s with
  | reg i => exact Fin.elim0 i
  | dma i => exact Fin.elim0 i

theorem args_kept (m : (ℓ : Loc nD τ sig) → Buf (Elt F) ℓ) (ρ : Dev nD → PrngReg) :
    θ_run defs (onTc (τ := τ) (main (F := F))) ⟨m, fun _ => 0, ρ⟩ (fun r =>
      (∀ c : Dev nD, ∀ a ∈ argRefs, r.2.mem ((c.tc : Thread nD τ).loc a) = m ((c.tc : Thread nD τ).loc a)) ∧ r.2.sem = fun _ => 0) :=
  (θ_run defs _ _).mono (fun r h => ⟨fun c a ha => by
    obtain ⟨ht, h0, h1, hs⟩ := args_off a ha
    exact (h c a hs).trans (final_keeps m c a ht h0 h1), no_sem _ _⟩) (run_fold m ρ)

/-- The frame. -/
theorem frame : Cert.quiescent_ReferenceIdeal := fun m ρ _ =>
  (θ_run defs _ _).mono (fun r h => ⟨fun c => by
    have k := h.1 c
    simp only [List.forall_mem_cons] at k
    simpa only [List.not_mem_nil, false_imp_iff, implies_true, and_true] using k, h.2⟩) (args_kept m ρ)
end Cert.ReferenceIdeal.Whole

end
-- ==== Proof.Spec.lean ====
/- The decoder's mathematics, one batch row at a time, over the extended reals: what both programs are read as. -/
module

public import Idealize.ShloMosaic.PureOps.Ideal
public import Mathlib.Algebra.BigOperators.Fin

@[expose] public section

noncomputable section

namespace Cert.Spec

open Idealize.ShloMosaic

/-- The weights a decoding step uses. -/
structure Par where
  daW : Fin 512 → Fin 512 → EReal
  dab : Fin 512 → EReal
  aw : Fin 512 → EReal
  ab : EReal
  fW : Fin 512 → Fin 2048 → EReal
  fb : Fin 2048 → EReal
  wz : Fin 2048 → Fin 2048 → EReal
  wh : Fin 512 → Fin 2048 → EReal

/-- The state's projection. -/
def dec (P : Par) (h : Fin 512 → EReal) (u : Fin 512) : EReal := (∑ k, h k * P.daW k u) + P.dab u

/-- A pixel's score. -/
def score (P : Par) (A : Fin 196 → Fin 512 → EReal) (h : Fin 512 → EReal) (p : Fin 196) : EReal :=
  (∑ u, P.aw u * max (A p u + dec P h u) 0) + P.ab

/-- The largest score. -/
def top {n : ℕ} (e : Fin n → EReal) : EReal := Finset.univ.sup e

/-- The attention weights of a row of scores. -/
def att {n : ℕ} (e : Fin n → EReal) (p : Fin n) : EReal :=
  Ideal.div (Ideal.exp (e p - top e)) (∑ q, Ideal.exp (e q - top e))

/-- The weighted sum of the pixels. -/
def ctx (X : Fin 196 → Fin 2048 → EReal) (a : Fin 196 → EReal) (j : Fin 2048) : EReal := ∑ p, a p * X p j

/-- The gate on it. -/
def gate (P : Par) (h : Fin 512 → EReal) (j : Fin 2048) : EReal := Ideal.logistic ((∑ k, h k * P.fW k j) + P.fb j)

/-- The four gates' pre-activations; `xp` is the embedded word's share with both biases. -/
def pre (P : Par) (A : Fin 196 → Fin 512 → EReal) (X : Fin 196 → Fin 2048 → EReal) (xp : Fin 2048 → EReal) (h : Fin 512 → EReal) (n : Fin 2048) : EReal :=
  (xp n + ∑ k, h k * P.wh k n) + ∑ j, (gate P h j * ctx X (att (score P A h)) j) * P.wz j n

/-- The unit `u` of the gate that begins at `o`. -/
def at4 (o : ℕ) (ho : o + 512 ≤ 2048) (u : Fin 512) : Fin 2048 := ⟨o + u.val, by omega⟩

/-- The new cell. -/
def cell (g : Fin 2048 → EReal) (c : Fin 512 → EReal) (u : Fin 512) : EReal :=
  Ideal.logistic (g (at4 512 (by omega) u)) * c u + Ideal.logistic (g (at4 0 (by omega) u)) * Ideal.tanh (g (at4 1024 (by omega) u))

/-- The new state. -/
def hid (g : Fin 2048 → EReal) (c : Fin 512 → EReal) (u : Fin 512) : EReal :=
  Ideal.logistic (g (at4 1536 (by omega) u)) * Ideal.tanh (cell g c u)

/-- One step of one row: the state and the cell. -/
def step (P : Par) (A : Fin 196 → Fin 512 → EReal) (X : Fin 196 → Fin 2048 → EReal) (xp : Fin 2048 → EReal)
    (s : (Fin 512 → EReal) × (Fin 512 → EReal)) : (Fin 512 → EReal) × (Fin 512 → EReal) :=
  (hid (pre P A X xp s.1) s.2, cell (pre P A X xp s.1) s.2)

/-- The state after `t` steps, the words' shares given by `xp`. -/
def run (P : Par) (A : Fin 196 → Fin 512 → EReal) (X : Fin 196 → Fin 2048 → EReal) (xp : ℕ → Fin 2048 → EReal)
    (s : (Fin 512 → EReal) × (Fin 512 → EReal)) : ℕ → (Fin 512 → EReal) × (Fin 512 → EReal)
  | 0 => s
  | t + 1 => step P A X (xp t) (run P A X xp s t)

/-! ## Padding and blocks -/

/-- A row of 208 lanes whose last twelve hold `⊥` has the maximum of its first 196. -/
theorem top_pad (e : Fin 196 → EReal) (s : Fin 208 → EReal) (hs : ∀ p, s p = if h : p.val < 196 then e ⟨p.val, h⟩ else ⊥) : top s = top e := by
  unfold top
  apply le_antisymm
  · refine Finset.sup_le fun p _ => ?_
    rw [hs p]
    split
    · exact Finset.le_sup (f := e) (Finset.mem_univ _)
    · exact bot_le
  · refine Finset.sup_le fun p _ => ?_
    have h := hs ⟨p.val, by omega⟩
    rw [dif_pos p.isLt] at h
    rw [show e p = s ⟨p.val, by omega⟩ from h.symm]
    exact Finset.le_sup (f := s) (Finset.mem_univ _)

/-- A sum over 208 lanes whose last twelve terms vanish. -/
theorem sum_pad (f : Fin 208 → EReal) (h0 : ∀ p, ¬ p.val < 196 → f p = 0) : ∑ p, f p = ∑ p : Fin 196, f ⟨p.val, by omega⟩ := by
  have h := Fin.sum_univ_add (a := 196) (b := 12) f
  rw [show (∑ p, f p) = ∑ p : Fin (196 + 12), f p from rfl, h, Finset.sum_eq_zero (s := (Finset.univ : Finset (Fin 12))), add_zero]
  · rfl
  · intro p _
    exact h0 _ (by simp)

theorem bot_sub (m : EReal) : (⊥ : EReal) - m = ⊥ := by rw [sub_eq_add_neg, EReal.bot_add]

/-- The padded row's weights are the row's own. -/
theorem att_pad (e : Fin 196 → EReal) (s : Fin 208 → EReal) (hs : ∀ p, s p = if h : p.val < 196 then e ⟨p.val, h⟩ else ⊥) (p : Fin 196) :
    att s ⟨p.val, by omega⟩ = att e p := by
  unfold att
  rw [top_pad e s hs, sum_pad]
  · congr 1
    · rw [hs, dif_pos p.isLt]
    · refine Finset.sum_congr rfl fun q _ => ?_
      rw [hs, dif_pos q.isLt]
  · intro q hq
    rw [hs, dif_neg hq, bot_sub]
    rfl

/-- A sum over 16 · 208 lanes, block by block. -/
theorem sum_blocks (f : Fin 3328 → EReal) : ∑ l, f l = ∑ b : Fin 16, ∑ q : Fin 208, f ⟨208 * b.val + q.val, by omega⟩ := by
  have h := (finProdFinEquiv (m := 16) (n := 208)).sum_comp (fun l => f l)
  rw [show (∑ l, f l) = ∑ l : Fin (16 * 208), f l from rfl, ← h, Fintype.sum_prod_type]
  refine Finset.sum_congr rfl fun b _ => Finset.sum_congr rfl fun q _ => congrArg f (Fin.ext ?_)
  show q.val + 208 * b.val = 208 * b.val + q.val
  exact Nat.add_comm _ _

/-- The block-diagonal product: only the row's own block counts, and of it only the lanes that hold pixels. -/
theorem sum_diag (a : Fin 208 → EReal) (x : Fin 3328 → EReal) (b : Fin 16) (g : Fin 3328 → EReal)
    (hg : ∀ l, g l = if l.val / 208 = b.val then a ⟨l.val % 208, by omega⟩ else 0)
    (hx : ∀ q : Fin 208, ¬ q.val < 196 → x ⟨208 * b.val + q.val, by omega⟩ = 0) :
    ∑ l, g l * x l = ∑ p : Fin 196, a ⟨p.val, by omega⟩ * x ⟨208 * b.val + p.val, by omega⟩ := by
  rw [sum_blocks, Finset.sum_eq_single b]
  · rw [sum_pad]
    · refine Finset.sum_congr rfl fun p _ => ?_
      rw [hg, if_pos (by show (208 * b.val + p.val) / 208 = _; omega)]
      congr 2
      exact Fin.ext (by show (208 * b.val + p.val) % 208 = p.val; omega)
    · intro q hq
      rw [hx q hq, mul_zero]
  · intro c _ hc
    refine Finset.sum_eq_zero fun q _ => ?_
    rw [hg, if_neg, zero_mul]
    show ¬ (208 * c.val + q.val) / 208 = b.val
    have : c.val ≠ b.val := fun h => hc (Fin.ext h)
    omega
  · intro h; exact absurd (Finset.mem_univ b) h

/-- A nonnegative factor goes under a sum. -/
theorem mul_sum_of_nonneg {n : ℕ} (c : ℝ) (hc : 0 ≤ c) (f : Fin n → EReal) : (c : EReal) * ∑ p, f p = ∑ p, (c : EReal) * f p := by
  have h : ∀ s : Finset (Fin n), (c : EReal) * ∑ p ∈ s, f p = ∑ p ∈ s, (c : EReal) * f p := by
    intro s
    induction s using Finset.induction_on with
    | empty => simp
    | insert a s ha ih =>
      rw [Finset.sum_insert ha, Finset.sum_insert ha, EReal.left_distrib_of_nonneg_of_ne_top (by exact_mod_cast hc) (EReal.coe_ne_top c), ih]
  exact h _

/-- Dividing by 196 is multiplying by its reciprocal. -/
theorem div_196 (x : EReal) : Ideal.div x ((196 : ℝ) : EReal) = ((1 / 196 : ℝ) : EReal) * x := by
  unfold Ideal.div
  rw [if_neg (by exact_mod_cast (by norm_num : (196 : ℝ) ≠ 0)), mul_comm, ← EReal.coe_inv, one_div]

end Cert.Spec

end
-- ==== Proof.Value.Trip.lean ====
/- The decode call's loop trip as whole-vector expressions of what it loads. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Dec
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable {F : FTy → Type} [FloatOps F] [Named F]

local notation "𝕄" => MT nD τ sig Unit (Elt F) ℕ (UR sig nD τ) ℕ

/-! ## One trip of the time loop, on whole vectors -/

theorem slc (n : Fin 16) : S16x512.Slices ![n.val, 0] S1x512 := by
  revert n; decide

theorem rowsInb (n : Fin 16) : ∀ a, (![208 * n.val, 0] : Fin 2 → ℕ) a + S208x512.size a ≤ S3328x512.size a := by
  revert n; decide

/-- Row `n`'s scores before the bias: that row's projected pixels plus the row's projected state, rectified, against the
    scoring vector. -/
def eRow (v52 : FVec F S16x512 .bf16) (x1 : Vec F S3328x512 .bf16) (aw : Vec F S1x512 .bf16) (n : Fin 16) : FVec F S1x208 .f32 :=
  matmul dot_S1x512_S208x512_S1x208_1_1_0_0_n_n none (shapeCast S1x512 aw shapeCasts_S1x512_S1x512)
    (maximumf (addf (shapeCast S208x512 (View.ld x1 (Rect.unit (s := S3328x512) ![208 * n.val, 0] S208x512.size (rowsInb n))) shapeCasts_S208x512_S208x512)
      (broadcastTo S208x512 (extractStridedSlice S1x512 ![n.val, 0] v52 (slc n)) broadcasts_S1x512_S208x512))
      (broadcast S208x512 (Scalar.ofBits .bf16 0x0000#16)))
    (constant S1x208 .f32 0x00000000#32)

/-- The scores of the sixteen rows, pad lanes masked out. -/
def scoresV (v52 : FVec F S16x512 .bf16) (x1 : Vec F S3328x512 .bf16) (aw : Vec F S1x512 .bf16) (ab : Vec F S1x1 .f32) : FVec F S16x208 .f32 :=
  select k2_pay2 (addf (concatenate S16x208 0 (List.ofFn fun n : Fin 16 => (⟨S1x208, eRow v52 x1 aw n⟩ : (s : Shape) × (s.Idx → F .f32)))
      concatenates_S1x208_S1x208_S1x208_S1x208_S1x208_S1x208_S1x208_S1x208_S1x208_S1x208_S1x208_S1x208_S1x208_S1x208_S1x208_S1x208_S16x208_d0)
    (broadcastTo S16x208 (shapeCast S1x1 ab shapeCasts_S1x1_S1x1) broadcasts_S1x1_S16x208))
    (broadcast S16x208 (Named.named κ "mask" 0xF149F2CA#32))

/-- Their exponentials, each row shifted by its maximum. -/
def expV (v219 : FVec F S16x208 .f32) : FVec F S16x208 .f32 :=
  exp (subf v219 (broadcastTo S16x208 (shapeCast S16x1 (multiReduction .maximumf [1] S16 v219 0xFF800000#32 reduces_S16x208_S16 (.inl rfl) rfl) shapeCasts_S16_S16x1) broadcasts_S16x1_S16x208))

/-- The rows' sums. -/
def sumV (v224 : FVec F S16x208 .f32) : FVec F S16x1 .f32 :=
  shapeCast S16x1 (multiReduction .add [1] S16 v224 0x00000000#32 reduces_S16x208_S16 (.inl rfl) rfl) shapeCasts_S16_S16x1

/-- What a trip hands on, from the whole blocks and the step's embedded words: the new state and the new cell. -/
def expT (x1 : Vec F S3328x512 .bf16) (wh : Vec F S512x4608 .bf16) (dab : Vec F S1x512 .f32) (aw : Vec F S1x512 .bf16) (ab : Vec F S1x1 .f32)
    (h : FVec F S16x512 .f32) : FVec F S16x208 .f32 :=
  expV (scoresV (k2_pay8 h wh dab) x1 aw ab)

theorem trip_exp (𝒱 : Variants) (c : Dev nD) (bd : Option 𝒱.V) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k2_t1_loop.trips) (acc : FVec F S16x512 .f32 × FVec F S16x512 .f32) :
    trip_k2_t1.sl.r_1 arg2 arg7 arg8 arg9 arg10 X_arg2 X_arg7 X_arg8 X_arg9 X_arg10 acc
      = expT (arg2.view.read (Elt F) X_arg2) (View.ld (arg7.view.read (Elt F) X_arg7) (Rect.unit ![0, 0] S512x4608.size inb_S512x4608_S512x4608_0_0)) (View.ld (arg8.view.read (Elt F) X_arg8) (Rect.unit ![0, 0] S1x512.size inb_S1x512_S1x512_0_0)) (View.ld (arg9.view.read (Elt F) X_arg9) (Rect.unit ![0, 0] S1x512.size inb_S1x512_S1x512_0_0)) (View.ld (arg10.view.read (Elt F) X_arg10) (Rect.unit ![0, 0] S1x1.size inb_S1x1_S1x1_0_0)) acc.1 := by
  rfl

theorem trip_state (𝒱 : Variants) (c : Dev nD) (bd : Option 𝒱.V) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k2_t1_loop.trips) (acc : FVec F S16x512 .f32 × FVec F S16x512 .f32) :
    tripR_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg1 X_arg2 X_arg3 X_arg6 X_arg7 X_arg8 X_arg9 X_arg10 X_arg11 X_arg12 k acc
      = (k2_pay31 k2_pay1 acc.2 (k2_pay6 acc.1 (View.ld (arg7.view.read (Elt F) X_arg7) (Rect.unit ![0, 0] S512x4608.size inb_S512x4608_S512x4608_0_0)) (View.ld (arg11.view.read (Elt F) X_arg11) (Rect.unit ![0, 0] S1x2048.size inb_S1x2048_S1x2048_0_0))) (k2_pay7 acc.1 (View.ld (arg7.view.read (Elt F) X_arg7) (Rect.unit ![0, 0] S512x4608.size inb_S512x4608_S512x4608_0_0)))
          (expT (arg2.view.read (Elt F) X_arg2) (View.ld (arg7.view.read (Elt F) X_arg7) (Rect.unit ![0, 0] S512x4608.size inb_S512x4608_S512x4608_0_0)) (View.ld (arg8.view.read (Elt F) X_arg8) (Rect.unit ![0, 0] S1x512.size inb_S1x512_S1x512_0_0)) (View.ld (arg9.view.read (Elt F) X_arg9) (Rect.unit ![0, 0] S1x512.size inb_S1x512_S1x512_0_0)) (View.ld (arg10.view.read (Elt F) X_arg10) (Rect.unit ![0, 0] S1x1.size inb_S1x1_S1x1_0_0)) acc.1) (sumV (expT (arg2.view.read (Elt F) X_arg2) (View.ld (arg7.view.read (Elt F) X_arg7) (Rect.unit ![0, 0] S512x4608.size inb_S512x4608_S512x4608_0_0)) (View.ld (arg8.view.read (Elt F) X_arg8) (Rect.unit ![0, 0] S1x512.size inb_S1x512_S1x512_0_0)) (View.ld (arg9.view.read (Elt F) X_arg9) (Rect.unit ![0, 0] S1x512.size inb_S1x512_S1x512_0_0)) (View.ld (arg10.view.read (Elt F) X_arg10) (Rect.unit ![0, 0] S1x1.size inb_S1x1_S1x1_0_0)) acc.1)) (View.ld (arg1.view.read (Elt F) X_arg1) (Rect.unit ![0, 0] S3328x2048.size inb_S3328x2048_S3328x2048_0_0))
          (View.ld (arg3.view.read (Elt F) X_arg3) (Rect.unit (s := S21x16x2048) (k2_off1 k) S1x16x2048.size (k2_off1_inb k))) (View.ld (arg12.view.read (Elt F) X_arg12) (Rect.unit ![0, 0] S2048x2048.size inb_S2048x2048_S2048x2048_0_0)),
        k2_pay30 k2_pay1 acc.2 (k2_pay6 acc.1 (View.ld (arg7.view.read (Elt F) X_arg7) (Rect.unit ![0, 0] S512x4608.size inb_S512x4608_S512x4608_0_0)) (View.ld (arg11.view.read (Elt F) X_arg11) (Rect.unit ![0, 0] S1x2048.size inb_S1x2048_S1x2048_0_0))) (k2_pay7 acc.1 (View.ld (arg7.view.read (Elt F) X_arg7) (Rect.unit ![0, 0] S512x4608.size inb_S512x4608_S512x4608_0_0)))
          (expT (arg2.view.read (Elt F) X_arg2) (View.ld (arg7.view.read (Elt F) X_arg7) (Rect.unit ![0, 0] S512x4608.size inb_S512x4608_S512x4608_0_0)) (View.ld (arg8.view.read (Elt F) X_arg8) (Rect.unit ![0, 0] S1x512.size inb_S1x512_S1x512_0_0)) (View.ld (arg9.view.read (Elt F) X_arg9) (Rect.unit ![0, 0] S1x512.size inb_S1x512_S1x512_0_0)) (View.ld (arg10.view.read (Elt F) X_arg10) (Rect.unit ![0, 0] S1x1.size inb_S1x1_S1x1_0_0)) acc.1) (sumV (expT (arg2.view.read (Elt F) X_arg2) (View.ld (arg7.view.read (Elt F) X_arg7) (Rect.unit ![0, 0] S512x4608.size inb_S512x4608_S512x4608_0_0)) (View.ld (arg8.view.read (Elt F) X_arg8) (Rect.unit ![0, 0] S1x512.size inb_S1x512_S1x512_0_0)) (View.ld (arg9.view.read (Elt F) X_arg9) (Rect.unit ![0, 0] S1x512.size inb_S1x512_S1x512_0_0)) (View.ld (arg10.view.read (Elt F) X_arg10) (Rect.unit ![0, 0] S1x1.size inb_S1x1_S1x1_0_0)) acc.1)) (View.ld (arg1.view.read (Elt F) X_arg1) (Rect.unit ![0, 0] S3328x2048.size inb_S3328x2048_S3328x2048_0_0))
          (View.ld (arg3.view.read (Elt F) X_arg3) (Rect.unit (s := S21x16x2048) (k2_off1 k) S1x16x2048.size (k2_off1_inb k))) (View.ld (arg12.view.read (Elt F) X_arg12) (Rect.unit ![0, 0] S2048x2048.size inb_S2048x2048_S2048x2048_0_0))) := by
  unfold tripR_k2_t1 trip_k2_t1
  rfl

theorem trip_pieces (𝒱 : Variants) (c : Dev nD) (bd : Option 𝒱.V) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k2_t1_loop.trips) (acc : FVec F S16x512 .f32 × FVec F S16x512 .f32) :
    tripL_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg1 X_arg2 X_arg3 X_arg6 X_arg7 X_arg8 X_arg9 X_arg10 X_arg11 X_arg12 k acc
      = ([⟨Rect.unit (k2_off3 k) S1x16x512.size (k2_off3_inb k), shapeCast S1x16x512 (tripR_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg1 X_arg2 X_arg3 X_arg6 X_arg7 X_arg8 X_arg9 X_arg10 X_arg11 X_arg12 k acc).1 shapeCasts_S16x512_S1x16x512⟩],
         [⟨Rect.unit (k2_off4 k) S1x16x196.size (k2_off4_inb k), k2_pay33 (expT (arg2.view.read (Elt F) X_arg2) (View.ld (arg7.view.read (Elt F) X_arg7) (Rect.unit ![0, 0] S512x4608.size inb_S512x4608_S512x4608_0_0)) (View.ld (arg8.view.read (Elt F) X_arg8) (Rect.unit ![0, 0] S1x512.size inb_S1x512_S1x512_0_0)) (View.ld (arg9.view.read (Elt F) X_arg9) (Rect.unit ![0, 0] S1x512.size inb_S1x512_S1x512_0_0)) (View.ld (arg10.view.read (Elt F) X_arg10) (Rect.unit ![0, 0] S1x1.size inb_S1x1_S1x1_0_0)) acc.1) (sumV (expT (arg2.view.read (Elt F) X_arg2) (View.ld (arg7.view.read (Elt F) X_arg7) (Rect.unit ![0, 0] S512x4608.size inb_S512x4608_S512x4608_0_0)) (View.ld (arg8.view.read (Elt F) X_arg8) (Rect.unit ![0, 0] S1x512.size inb_S1x512_S1x512_0_0)) (View.ld (arg9.view.read (Elt F) X_arg9) (Rect.unit ![0, 0] S1x512.size inb_S1x512_S1x512_0_0)) (View.ld (arg10.view.read (Elt F) X_arg10) (Rect.unit ![0, 0] S1x1.size inb_S1x1_S1x1_0_0)) acc.1))
            (View.ld (arg6.view.read (Elt F) X_arg6) (Rect.unit (s := S21x16x1) (k2_off2 k) S1x16x1.size (k2_off2_inb k)))⟩]) := by
  unfold tripL_k2_t1 tripR_k2_t1 trip_k2_t1
  rfl

end Cert.KernelIdeal.Whole

end
-- ==== Proof.Value.TripV.lean ====
/- The decode call's loop trip at the extended reals, read at an index: one step of each batch row. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Dec
public import proofs.«01_k».proof.Proof.Value.Trip
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable {F : FTy → Type} [FloatOps F] [Named F]

local notation "𝕄" => MT nD τ sig Unit (Elt F) ℕ (UR sig nD τ) ℕ

/-! ## The trip at the extended reals, read at an index -/

theorem neg_inf : Ideal.ofBits .f32 0xFF800000#32 = ⊥ := by
  rfl

/-- The lane test of the pad mask. -/
theorem lane_apply (b : Fin 16) (p : Fin 208) : k2_pay2 (ix2 b p) = if p.val < 196 then 1#1 else 0#1 := by
  revert b p; decide +kernel

/-- A lane's block number, as the kernel computes it (a floor division by signs). -/
def laneBlock (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 208#32 0#32)) (Scalar.extui (Scalar.cmpi .slt 208#32 0#32))))
    (Scalar.cmpi .ne (IntOp.remsi .vector w 208#32) 0#32)) (Scalar.subi (IntOp.divsi .vector w 208#32) 1#32) (IntOp.divsi .vector w 208#32)

theorem laneBlock_eq (l : Fin 3328) : laneBlock (BitVec.ofNat 32 l.val) = BitVec.ofNat 32 (l.val / 208) := by
  revert l; decide +kernel

theorem block_test (q b : Fin 16) : Scalar.cmpi .eq (BitVec.ofNat 32 q.val) (BitVec.ofNat 32 b.val) = if q.val = b.val then 1#1 else 0#1 := by
  revert q b; decide +kernel

/-- The block test of the diagonal mask. -/
theorem diag_apply (b : Fin 16) (l : Fin 3328) : k2_pay1 (ix2 b l) = if l.val / 208 = b.val then 1#1 else 0#1 := by
  have h : k2_pay1 (ix2 b l) = Scalar.cmpi .eq (laneBlock (BitVec.ofNat 32 l.val)) (BitVec.ofNat 32 b.val) := by
    pointwise [k2_pay1]
    rfl
  rw [h, laneBlock_eq]
  have hl : l.val / 208 < 16 := by omega
  generalize l.val / 208 = q at hl
  exact block_test ⟨q, hl⟩ b

theorem mask_bot : (Named.named (F := Ideal) κ "mask" 0xF149F2CA#32 : Ideal .f32) = ⊥ :=
  IdealRules.named_const.ideal_named_scalar κ "mask" _ _ rfl

theorem pay8_apply (h : FVec Ideal S16x512 .f32) (wh : Vec Ideal S512x4608 .bf16) (dab : Vec Ideal S1x512 .f32) (b : Fin 16) (n : Fin 512) :
    k2_pay8 (F := Ideal) h wh dab (ix2 b n) = (∑ k : Fin 512, h (ix2 b k) * wh (ix2 k ⟨n.val, by omega⟩)) + dab (ix2 0 n) := by
  pointwise [k2_pay8, k2_pay5]

theorem pay6_apply (h : FVec Ideal S16x512 .f32) (wh : Vec Ideal S512x4608 .bf16) (fb : Vec Ideal S1x2048 .f32) (b : Fin 16) (n : Fin 2048) :
    k2_pay6 (F := Ideal) h wh fb (ix2 b n) = Ideal.logistic ((∑ k : Fin 512, h (ix2 b k) * wh (ix2 k ⟨512 + n.val, by omega⟩)) + fb (ix2 0 n)) := by
  pointwise [k2_pay6, k2_pay5]

theorem pay7_apply (h : FVec Ideal S16x512 .f32) (wh : Vec Ideal S512x4608 .bf16) (b : Fin 16) (n : Fin 2048) :
    k2_pay7 (F := Ideal) h wh (ix2 b n) = ∑ k : Fin 512, h (ix2 b k) * wh (ix2 k ⟨2560 + n.val, by omega⟩) := by
  pointwise [k2_pay7, k2_pay5]

theorem eRow_apply (v52 : FVec Ideal S16x512 .bf16) (x1 : Vec Ideal S3328x512 .bf16) (aw : Vec Ideal S1x512 .bf16) (n : Fin 16) (p : Fin 208) :
    eRow (F := Ideal) v52 x1 aw n (ix2 0 p)
      = ∑ u : Fin 512, aw (ix2 0 u) * max (x1 (ix2 ⟨208 * n.val + p.val, by omega⟩ u) + v52 (ix2 n u)) 0 := by
  pointwise [eRow]

theorem scoresV_apply (v52 : FVec Ideal S16x512 .bf16) (x1 : Vec Ideal S3328x512 .bf16) (aw : Vec Ideal S1x512 .bf16) (ab : Vec Ideal S1x1 .f32) (n : Fin 16) (p : Fin 208) :
    scoresV (F := Ideal) v52 x1 aw ab (ix2 n p)
      = Scalar.select (k2_pay2 (ix2 n p)) (eRow v52 x1 aw n (ix2 0 p) + ab (ix2 0 0)) (Named.named (F := Ideal) κ "mask" 0xF149F2CA#32 : Ideal .f32) := by
  pointwise [scoresV]

theorem expV_apply (v : FVec Ideal S16x208 .f32) (n : Fin 16) (p : Fin 208) :
    expV (F := Ideal) v (ix2 n p) = Ideal.exp (v (ix2 n p) - Spec.top fun q => v (ix2 n q)) := by
  pointwise [expV]
  rw [neg_inf]; rfl

theorem sumV_apply (v : FVec Ideal S16x208 .f32) (n : Fin 16) : sumV (F := Ideal) v (ix2 n 0) = ∑ p : Fin 208, v (ix2 n p) := by
  pointwise [sumV]

theorem pay28_apply (e : FVec Ideal S16x208 .f32) (s : FVec Ideal S16x1 .f32) (n : Fin 16) (p : Fin 208) :
    k2_pay28 (F := Ideal) e s (ix2 n p) = Ideal.div (e (ix2 n p)) (s (ix2 n 0)) := by
  pointwise [k2_pay28]

/-- Sixteen copies of the weights side by side, all but the row's own block blotted out. -/
def tileV {F : FTy → Type} [FloatOps F] (a : FVec F S16x208 .f32) : FVec F S16x3328 .f32 :=
  select k2_pay1 (concatenate S16x3328 1 (List.replicate 16 (⟨S16x208, a⟩ : (s : Shape) × (s.Idx → F .f32)))
    concatenates_S16x208_S16x208_S16x208_S16x208_S16x208_S16x208_S16x208_S16x208_S16x208_S16x208_S16x208_S16x208_S16x208_S16x208_S16x208_S16x208_S16x3328_d1)
    (broadcast S16x3328 (Scalar.ofBits .f32 0x00000000#32))

theorem tileV_apply (a : FVec Ideal S16x208 .f32) (b : Fin 16) (l : Fin 3328) :
    tileV (F := Ideal) a (ix2 b l) = if l.val / 208 = b.val then a (ix2 b ⟨l.val % 208, by omega⟩) else 0 := by
  unfold tileV
  rw [ValueIdx.select_apply, concatenate_replicate_apply (s₁ := S16x208) (t := S16x3328) 1 16 a _ rfl (ix2 b l) (ix2 b ⟨l.val % 208, by omega⟩) rfl ?_, diag_apply]
  · split
    · rw [ValueIdx.select_one]
    · rw [ValueIdx.select_zero]; exact Ideal.ofBits_zero_f32
  · intro c hc
    match c with
    | 0 => rfl
    | 1 => exact absurd rfl hc

/-- The gates' pre-activations with the tile named. -/
theorem pay29_eq {F : FTy → Type} [FloatOps F] [Named F] (g gh : FVec F S16x2048 .f32) (e : FVec F S16x208 .f32) (s : FVec F S16x1 .f32) (x0 : Vec F S3328x2048 .bf16) (xp : Vec F S1x16x2048 .f32) (wz : Vec F S2048x2048 .bf16) :
    k2_pay29 (F := F) k2_pay1 g gh e s x0 xp wz
      = addf (addf (shapeCast S16x2048 (shapeCast S1x16x2048 xp shapeCasts_S1x16x2048_S1x16x2048) shapeCasts_S1x16x2048_S16x2048) gh)
        (matmul dot_S16x2048_S2048x2048_S16x2048_1_0_0_1_n_n none
          (truncf .bf16 (mulf g (matmul dot_S16x3328_S3328x2048_S16x2048_1_0_0_1_n_n none (truncf .bf16 (tileV (k2_pay28 e s)) bitsLt_bf16_f32)
            (shapeCast S3328x2048 x0 shapeCasts_S3328x2048_S3328x2048) (constant S16x2048 .f32 0x00000000#32))) bitsLt_bf16_f32)
          (shapeCast S2048x2048 wz shapeCasts_S2048x2048_S2048x2048) (constant S16x2048 .f32 0x00000000#32)) := by
  rfl

theorem pay29_apply (g gh : FVec Ideal S16x2048 .f32) (e : FVec Ideal S16x208 .f32) (s : FVec Ideal S16x1 .f32) (x0 : Vec Ideal S3328x2048 .bf16) (xp : Vec Ideal S1x16x2048 .f32) (wz : Vec Ideal S2048x2048 .bf16) (b : Fin 16) (n : Fin 2048) :
    k2_pay29 (F := Ideal) k2_pay1 g gh e s x0 xp wz (ix2 b n)
      = (xp (ix3 0 b n) + gh (ix2 b n)) + ∑ j : Fin 2048, (g (ix2 b j) * ∑ l : Fin 3328, tileV (F := Ideal) (k2_pay28 e s) (ix2 b l) * x0 (ix2 l j)) * wz (ix2 j n) := by
  rw [pay29_eq]
  pointwise

theorem pay30_apply (c : FVec Ideal S16x512 .f32) (g gh : FVec Ideal S16x2048 .f32) (e : FVec Ideal S16x208 .f32) (s : FVec Ideal S16x1 .f32) (x0 : Vec Ideal S3328x2048 .bf16) (xp : Vec Ideal S1x16x2048 .f32) (wz : Vec Ideal S2048x2048 .bf16) (b : Fin 16) (u : Fin 512) :
    k2_pay30 (F := Ideal) k2_pay1 c g gh e s x0 xp wz (ix2 b u)
      = Spec.cell (fun n => k2_pay29 (F := Ideal) k2_pay1 g gh e s x0 xp wz (ix2 b n)) (fun k => c (ix2 b k)) u := by
  unfold k2_pay30 Spec.cell
  generalize k2_pay29 (F := Ideal) k2_pay1 g gh e s x0 xp wz = G
  pointwise
  simp only [Spec.at4, Nat.zero_add]

theorem pay31_apply (c : FVec Ideal S16x512 .f32) (g gh : FVec Ideal S16x2048 .f32) (e : FVec Ideal S16x208 .f32) (s : FVec Ideal S16x1 .f32) (x0 : Vec Ideal S3328x2048 .bf16) (xp : Vec Ideal S1x16x2048 .f32) (wz : Vec Ideal S2048x2048 .bf16) (b : Fin 16) (u : Fin 512) :
    k2_pay31 (F := Ideal) k2_pay1 c g gh e s x0 xp wz (ix2 b u)
      = Spec.hid (fun n => k2_pay29 (F := Ideal) k2_pay1 g gh e s x0 xp wz (ix2 b n)) (fun k => c (ix2 b k)) u := by
  unfold Spec.hid
  rw [← pay30_apply]
  unfold k2_pay31
  generalize k2_pay30 (F := Ideal) k2_pay1 c g gh e s x0 xp wz = C
  generalize k2_pay29 (F := Ideal) k2_pay1 g gh e s x0 xp wz = G
  pointwise
  simp only [Spec.at4]

/-- The step's weights, from the call's blocks. -/
def parOf (wh : Vec Ideal S512x4608 .bf16) (dab : Vec Ideal S1x512 .f32) (aw : Vec Ideal S1x512 .bf16) (ab : Vec Ideal S1x1 .f32)
    (fb : Vec Ideal S1x2048 .f32) (wz : Vec Ideal S2048x2048 .bf16) : Spec.Par where
  daW k u := wh (ix2 k ⟨u.val, by omega⟩)
  dab u := dab (ix2 0 u)
  aw u := aw (ix2 0 u)
  ab := ab (ix2 0 0)
  fW k j := wh (ix2 k ⟨512 + j.val, by omega⟩)
  fb j := fb (ix2 0 j)
  wz j n := wz (ix2 j n)
  wh k n := wh (ix2 k ⟨2560 + n.val, by omega⟩)

/-- Row `b`'s projected pixels. -/
def attRow (x1 : Vec Ideal S3328x512 .bf16) (b : Fin 16) (p : Fin 196) (u : Fin 512) : EReal := x1 (ix2 ⟨208 * b.val + p.val, by omega⟩ u)

/-- Row `b`'s pixels. -/
def pixRow (x0 : Vec Ideal S3328x2048 .bf16) (b : Fin 16) (p : Fin 196) (j : Fin 2048) : EReal := x0 (ix2 ⟨208 * b.val + p.val, by omega⟩ j)

section Step

variable (x0 : Vec Ideal S3328x2048 .bf16) (x1 : Vec Ideal S3328x512 .bf16) (wh : Vec Ideal S512x4608 .bf16) (dab : Vec Ideal S1x512 .f32)
  (aw : Vec Ideal S1x512 .bf16) (ab : Vec Ideal S1x1 .f32) (fb : Vec Ideal S1x2048 .f32) (wz : Vec Ideal S2048x2048 .bf16) (h : FVec Ideal S16x512 .f32)

/-- A row of masked scores: the pixels' scores, then `⊥`. -/
theorem scores_row (b : Fin 16) (p : Fin 208) :
    scoresV (F := Ideal) (k2_pay8 h wh dab) x1 aw ab (ix2 b p)
      = if hp : p.val < 196 then Spec.score (parOf wh dab aw ab fb wz) (attRow x1 b) (fun k => h (ix2 b k)) ⟨p.val, hp⟩ else ⊥ := by
  rw [scoresV_apply, lane_apply]
  by_cases hp : p.val < 196
  · rw [if_pos hp, dif_pos hp, ValueIdx.select_one, eRow_apply]
    unfold Spec.score Spec.dec parOf attRow
    simp only [pay8_apply]
  · rw [if_neg hp, dif_neg hp, ValueIdx.select_zero, mask_bot]

/-- The weights' lanes: any row's exponentials over their sum. -/
theorem weights_row (b : Fin 16) (p : Fin 208) :
    k2_pay28 (F := Ideal) (expT x1 wh dab aw ab h) (sumV (expT x1 wh dab aw ab h)) (ix2 b p)
      = Spec.att (fun q => scoresV (F := Ideal) (k2_pay8 h wh dab) x1 aw ab (ix2 b q)) p := by
  rw [pay28_apply, sumV_apply]
  unfold expT Spec.att
  simp only [expV_apply]

/-- The attention weights of row `b`. -/
theorem alpha_row (b : Fin 16) (p : Fin 196) :
    k2_pay28 (F := Ideal) (expT x1 wh dab aw ab h) (sumV (expT x1 wh dab aw ab h)) (ix2 b ⟨p.val, by omega⟩)
      = Spec.att (Spec.score (parOf wh dab aw ab fb wz) (attRow x1 b) (fun k => h (ix2 b k))) p := by
  rw [weights_row]
  exact Spec.att_pad _ _ (fun q => scores_row x1 wh dab aw ab fb wz h b q) p

/-- The gates' pre-activations of row `b`. -/
theorem pre_row (hx0 : ∀ (b : Fin 16) (q : Fin 208) (j : Fin 2048), ¬ q.val < 196 → x0 (ix2 ⟨208 * b.val + q.val, by omega⟩ j) = 0)
    (xp : Vec Ideal S1x16x2048 .f32) (b : Fin 16) (n : Fin 2048) :
    k2_pay29 (F := Ideal) k2_pay1 (k2_pay6 h wh fb) (k2_pay7 h wh) (expT x1 wh dab aw ab h) (sumV (expT x1 wh dab aw ab h)) x0 xp wz (ix2 b n)
      = Spec.pre (parOf wh dab aw ab fb wz) (attRow x1 b) (pixRow x0 b) (fun n => xp (ix3 0 b n)) (fun k => h (ix2 b k)) n := by
  rw [pay29_apply, pay7_apply]
  unfold Spec.pre
  refine congrArg₂ (· + ·) rfl (Finset.sum_congr rfl fun j _ => ?_)
  rw [Spec.sum_diag (fun q => k2_pay28 (F := Ideal) (expT x1 wh dab aw ab h) (sumV (expT x1 wh dab aw ab h)) (ix2 b q)) (fun l => x0 (ix2 l j)) b
    (fun l => tileV (F := Ideal) _ (ix2 b l)) (fun l => tileV_apply _ b l) (fun q hq => hx0 b q j hq), pay6_apply]
  unfold Spec.gate Spec.ctx
  simp only [alpha_row x1 wh dab aw ab fb wz]
  rfl

end Step

end Cert.KernelIdeal.Whole

end
-- ==== Proof.Value.DecV.lean ====
/- The decode call's body at the extended reals: its loop by induction, and its two outputs read at an index. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Dec
public import proofs.«01_k».proof.Proof.Value.Trip
public import proofs.«01_k».proof.Proof.Value.TripV
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable {F : FTy → Type} [FloatOps F] [Named F]

local notation "𝕄" => MT nD τ sig Unit (Elt F) ℕ (UR sig nD τ) ℕ

theorem off1_eq (k : Fin k2_t1_loop.trips) : k2_off1 k = ![k.val, 0, 0] := by revert k; decide +kernel
theorem off2_eq (k : Fin k2_t1_loop.trips) : k2_off2 k = ![k.val, 0, 0] := by revert k; decide +kernel
theorem off3_eq (k : Fin k2_t1_loop.trips) : k2_off3 k = ![k.val, 0, 0] := by revert k; decide +kernel
theorem off4_eq (k : Fin k2_t1_loop.trips) : k2_off4 k = ![k.val, 0, 0] := by revert k; decide +kernel

/-- A load of a whole matrix. -/
theorem ld_full {α : EltTy → Type} {e : EltTy} {n m : ℕ} (x : (⟨2, ![n, m]⟩ : Shape).Idx → α e) (h : ∀ a, (![0, 0] : Fin 2 → ℕ) a + (![n, m] : Fin 2 → ℕ) a ≤ (⟨2, ![n, m]⟩ : Shape).size a) :
    View.ld x (Rect.unit (s := ⟨2, ![n, m]⟩) ![0, 0] ![n, m] h) = x := by
  funext i
  refine congrArg x (funext fun a => Fin.ext ?_)
  match a with
  | 0 => exact (Nat.zero_add _).trans (Nat.one_mul _)
  | 1 => exact (Nat.zero_add _).trans (Nat.one_mul _)

/-- Where a one-step slab's cells lie. -/
theorem emb_slab {T n m : ℕ} (k : Fin T) (off : Fin 3 → ℕ) (ho : off = ![k.val, 0, 0]) (h : ∀ a, off a + (![1, n, m] : Fin 3 → ℕ) a ≤ (⟨3, ![T, n, m]⟩ : Shape).size a)
    (x : (⟨3, ![1, n, m]⟩ : Shape).Idx) :
    (Rect.unit (s := ⟨3, ![T, n, m]⟩) off ![1, n, m] h).emb x = ix3 k (x 1) (x 2) := by
  subst ho
  have h0 : (x 0).val = 0 := by have : (x 0).val < 1 := (x 0).isLt; omega
  refine funext fun a => Fin.ext ?_
  match a with
  | 0 => show k.val + 1 * (x 0).val = k.val; omega
  | 1 => exact (Nat.zero_add _).trans (Nat.one_mul _)
  | 2 => exact (Nat.zero_add _).trans (Nat.one_mul _)

/-- The pieces a loop leaves, from what each trip puts in front. -/
theorem loop_pieces {α β γ : Type} (T : ℕ) (st : ℕ → α × List β × List γ) (f : ℕ → α) (Pb : β → Prop) (Pc : γ → Prop)
    (h0 : st 0 = (f 0, [], []))
    (hs : ∀ k, k < T → ∀ bs cs, st k = (f k, bs, cs) → ∃ b c, Pb b ∧ Pc c ∧ st (k + 1) = (f (k + 1), b :: bs, c :: cs)) :
    ∀ k, k ≤ T → ∃ bs cs, st k = (f k, bs, cs) ∧ (∀ b ∈ bs, Pb b) ∧ ∀ c ∈ cs, Pc c := by
  intro k
  induction k with
  | zero => intro _; exact ⟨[], [], h0, by simp, by simp⟩
  | succ k ih =>
    intro hk
    obtain ⟨bs, cs, e, hb, hc⟩ := ih (by omega)
    obtain ⟨b, c, pb, pc, e'⟩ := hs k (by omega) bs cs e
    exact ⟨b :: bs, c :: cs, e', by simpa using ⟨pb, hb⟩, by simpa using ⟨pc, hc⟩⟩

section Block

/-- The words' shares over the steps, for row `b`. -/
def words (x2 : Vec Ideal S21x16x2048 .f32) (b : Fin 16) (k : ℕ) (n : Fin 2048) : EReal := if h : k < 21 then x2 (ix3 ⟨k, h⟩ b n) else 0

/-- Row `b`'s state after `k` steps. -/
def rowRun (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16) (b : Fin 16) (k : ℕ) :
    (Fin 512 → EReal) × (Fin 512 → EReal) :=
  Spec.run (parOf x6 x7 x8 x9 x10 x11) (attRow x1 b) (pixRow x0 b) (words x2 b) (fun u => x3 (ix2 b u), fun u => x4 (ix2 b u)) k

/-- The sixteen rows' states after `k` steps, as the loop carries them. -/
def carried (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16) (k : ℕ) : FVec Ideal S16x512 .f32 × FVec Ideal S16x512 .f32 :=
  (fun j => (rowRun x0 x1 x2 x3 x4 x5 x6 x7 x8 x9 x10 x11 (j 0) k).1 (j 1), fun j => (rowRun x0 x1 x2 x3 x4 x5 x6 x7 x8 x9 x10 x11 (j 0) k).2 (j 1))

/-- The states written out, step by step. -/
def states (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16) (y : S21x16x512.Idx) : EReal := (rowRun x0 x1 x2 x3 x4 x5 x6 x7 x8 x9 x10 x11 (y 1) ((y 0).val + 1)).1 (y 2)

/-- The weights written out, step by step. -/
def weights (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16) (y : S21x16x196.Idx) : EReal :=
  Spec.att (Spec.score (parOf x6 x7 x8 x9 x10 x11) (attRow x1 (y 1)) (rowRun x0 x1 x2 x3 x4 x5 x6 x7 x8 x9 x10 x11 (y 1) (y 0).val).1) (y 2) * x5 (ix3 (y 0) (y 1) 0)

theorem pay33_apply (e : FVec Ideal S16x208 .f32) (s : FVec Ideal S16x1 .f32) (m : Vec Ideal S1x16x1 .f32) (x : S1x16x196.Idx) :
    k2_pay33 (F := Ideal) e s m x = k2_pay28 (F := Ideal) e s (ix2 (x 1) ⟨(x 2).val, by have : (x 2).val < 196 := (x 2).isLt; omega⟩) * m (ix3 0 (x 1) 0) := by
  unfold k2_pay33
  generalize k2_pay28 (F := Ideal) e s = a
  pointwise

theorem ld_words (x2 : Vec Ideal S21x16x2048 .f32) (k : Fin k2_t1_loop.trips) (b : Fin 16) :
    (fun n => (View.ld x2 (Rect.unit (s := S21x16x2048) (k2_off1 k) S1x16x2048.size (k2_off1_inb k))) (ix3 0 b n)) = words x2 b k.val := by
  funext n
  unfold words
  rw [dif_pos (show k.val < 21 from k.isLt)]
  exact congrArg x2 (emb_slab (T := 21) k _ (off1_eq k) _ (ix3 0 b n))

theorem carried_pre (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16) (hx0 : ∀ (b : Fin 16) (q : Fin 208) (j : Fin 2048), ¬ q.val < 196 → x0 (ix2 ⟨208 * b.val + q.val, by omega⟩ j) = 0) (k : Fin k2_t1_loop.trips) (b : Fin 16) :
    (fun n => k2_pay29 (F := Ideal) k2_pay1 (k2_pay6 (carried x0 x1 x2 x3 x4 x5 x6 x7 x8 x9 x10 x11 k.val).1 x6 x10) (k2_pay7 (carried x0 x1 x2 x3 x4 x5 x6 x7 x8 x9 x10 x11 k.val).1 x6) (expT x1 x6 x7 x8 x9 (carried x0 x1 x2 x3 x4 x5 x6 x7 x8 x9 x10 x11 k.val).1) (sumV (expT x1 x6 x7 x8 x9 (carried x0 x1 x2 x3 x4 x5 x6 x7 x8 x9 x10 x11 k.val).1)) x0 (View.ld x2 (Rect.unit (s := S21x16x2048) (k2_off1 k) S1x16x2048.size (k2_off1_inb k))) x11 (ix2 b n))
      = Spec.pre (parOf x6 x7 x8 x9 x10 x11) (attRow x1 b) (pixRow x0 b) (words x2 b k.val) (rowRun x0 x1 x2 x3 x4 x5 x6 x7 x8 x9 x10 x11 b k.val).1 := by
  funext n
  rw [pre_row x0 x1 x6 x7 x8 x9 x10 x11 _ hx0, ld_words]
  rfl

theorem carried_succ (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16) (hx0 : ∀ (b : Fin 16) (q : Fin 208) (j : Fin 2048), ¬ q.val < 196 → x0 (ix2 ⟨208 * b.val + q.val, by omega⟩ j) = 0) (k : Fin k2_t1_loop.trips) :
    (k2_pay31 (F := Ideal) k2_pay1 (carried x0 x1 x2 x3 x4 x5 x6 x7 x8 x9 x10 x11 k.val).2 (k2_pay6 (carried x0 x1 x2 x3 x4 x5 x6 x7 x8 x9 x10 x11 k.val).1 x6 x10) (k2_pay7 (carried x0 x1 x2 x3 x4 x5 x6 x7 x8 x9 x10 x11 k.val).1 x6) (expT x1 x6 x7 x8 x9 (carried x0 x1 x2 x3 x4 x5 x6 x7 x8 x9 x10 x11 k.val).1) (sumV (expT x1 x6 x7 x8 x9 (carried x0 x1 x2 x3 x4 x5 x6 x7 x8 x9 x10 x11 k.val).1)) x0 (View.ld x2 (Rect.unit (s := S21x16x2048) (k2_off1 k) S1x16x2048.size (k2_off1_inb k))) x11, k2_pay30 (F := Ideal) k2_pay1 (carried x0 x1 x2 x3 x4 x5 x6 x7 x8 x9 x10 x11 k.val).2 (k2_pay6 (carried x0 x1 x2 x3 x4 x5 x6 x7 x8 x9 x10 x11 k.val).1 x6 x10) (k2_pay7 (carried x0 x1 x2 x3 x4 x5 x6 x7 x8 x9 x10 x11 k.val).1 x6) (expT x1 x6 x7 x8 x9 (carried x0 x1 x2 x3 x4 x5 x6 x7 x8 x9 x10 x11 k.val).1) (sumV (expT x1 x6 x7 x8 x9 (carried x0 x1 x2 x3 x4 x5 x6 x7 x8 x9 x10 x11 k.val).1)) x0 (View.ld x2 (Rect.unit (s := S21x16x2048) (k2_off1 k) S1x16x2048.size (k2_off1_inb k))) x11) = carried x0 x1 x2 x3 x4 x5 x6 x7 x8 x9 x10 x11 (k.val + 1) := by
  refine Prod.ext ?_ ?_
  · funext j
    obtain ⟨b, u, rfl⟩ : ∃ b u, j = ix2 b u := ⟨_, _, eq_ix2 j⟩
    refine (pay31_apply _ _ _ _ _ _ _ _ b u).trans ?_
    rw [carried_pre x0 x1 x2 x3 x4 x5 x6 x7 x8 x9 x10 x11 hx0 k b]
    rfl
  · funext j
    obtain ⟨b, u, rfl⟩ : ∃ b u, j = ix2 b u := ⟨_, _, eq_ix2 j⟩
    refine (pay30_apply _ _ _ _ _ _ _ _ b u).trans ?_
    rw [carried_pre x0 x1 x2 x3 x4 x5 x6 x7 x8 x9 x10 x11 hx0 k b]
    rfl

theorem weights_step (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16) (k : Fin k2_t1_loop.trips) (x : S1x16x196.Idx) :
    k2_pay33 (F := Ideal) (expT x1 x6 x7 x8 x9 (carried x0 x1 x2 x3 x4 x5 x6 x7 x8 x9 x10 x11 k.val).1) (sumV (expT x1 x6 x7 x8 x9 (carried x0 x1 x2 x3 x4 x5 x6 x7 x8 x9 x10 x11 k.val).1)) (View.ld x5 (Rect.unit (s := S21x16x1) (k2_off2 k) S1x16x1.size (k2_off2_inb k))) x
      = weights x0 x1 x2 x3 x4 x5 x6 x7 x8 x9 x10 x11 (ix3 (n0 := 21) k (x 1) (x 2)) := by
  refine (pay33_apply _ _ _ x).trans ?_
  unfold weights
  exact congrArg₂ (· * ·) (alpha_row x1 x6 x7 x8 x9 x10 x11 (carried x0 x1 x2 x3 x4 x5 x6 x7 x8 x9 x10 x11 k.val).1 (x 1) (x 2))
    (congrArg x5 (emb_slab (T := 21) k _ (off2_eq k) (k2_off2_inb k) (ix3 0 (x 1) 0)))

theorem st_all (c : Dev nD) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole) (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16)
    (hx0 : ∀ (b : Fin 16) (q : Fin 208) (j : Fin 2048), ¬ q.val < 196 → x0 (ix2 ⟨208 * b.val + q.val, by omega⟩ j) = 0) :
    ∀ k, k ≤ 21 → ∃ bs cs, st_k2_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg6.unread x5) (harg7.unread x6) (harg8.unread x7) (harg9.unread x8) (harg10.unread x9) (harg11.unread x10) (harg12.unread x11) (k2_pay3 x3, k2_pay4 x4) k = (carried x0 x1 x2 x3 x4 x5 x6 x7 x8 x9 x10 x11 k, bs, cs)
      ∧ (∀ p ∈ bs, ∀ x : p.1.shape.Idx, p.2 x = states x0 x1 x2 x3 x4 x5 x6 x7 x8 x9 x10 x11 (p.1.emb x))
      ∧ (∀ p ∈ cs, ∀ x : p.1.shape.Idx, p.2 x = weights x0 x1 x2 x3 x4 x5 x6 x7 x8 x9 x10 x11 (p.1.emb x)) := by
  refine loop_pieces (β := View.Piece (Elt Ideal) S21x16x512 .f32) (γ := View.Piece (Elt Ideal) S21x16x196 .f32) 21 _ (carried x0 x1 x2 x3 x4 x5 x6 x7 x8 x9 x10 x11)
    (fun p => ∀ x : p.1.shape.Idx, p.2 x = states x0 x1 x2 x3 x4 x5 x6 x7 x8 x9 x10 x11 (p.1.emb x)) (fun p => ∀ x : p.1.shape.Idx, p.2 x = weights x0 x1 x2 x3 x4 x5 x6 x7 x8 x9 x10 x11 (p.1.emb x)) ?_ ?_
  · show ((k2_pay3 x3, k2_pay4 x4), _, _) = _
    refine congrArg (·, [], []) (Prod.ext ?_ ?_)
    · funext j
      pointwise [k2_pay3]
      exact congrArg x3 (eq_ix2 j)
    · funext j
      pointwise [k2_pay4]
      exact congrArg x4 (eq_ix2 j)
  · intro k hk bs cs e
    have hs := st_k2_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg6.unread x5) (harg7.unread x6) (harg8.unread x7) (harg9.unread x8) (harg10.unread x9) (harg11.unread x10) (harg12.unread x11) (k2_pay3 x3, k2_pay4 x4) ⟨k, hk⟩
    rw [trip_pieces, trip_state] at hs
    simp only [Memref.IsWhole.read_unread, e] at hs
    rw [ld_full x0, ld_full x6, ld_full x7, ld_full x8, ld_full x9, ld_full x10, ld_full x11] at hs
    rw [carried_succ x0 x1 x2 x3 x4 x5 x6 x7 x8 x9 x10 x11 hx0 ⟨k, hk⟩] at hs
    refine ⟨_, _, ?_, ?_, hs⟩
    · intro x
      have h1 := congrArg Prod.fst (carried_succ x0 x1 x2 x3 x4 x5 x6 x7 x8 x9 x10 x11 hx0 ⟨k, hk⟩)
      dsimp only at h1 ⊢
      rw [h1]
      refine Eq.trans ?_ (congrArg (states x0 x1 x2 x3 x4 x5 x6 x7 x8 x9 x10 x11) (emb_slab (T := 21) ⟨k, hk⟩ _ (off3_eq ⟨k, hk⟩) (k2_off3_inb ⟨k, hk⟩) x)).symm
      have h2 : ∀ z : FVec Ideal S16x512 .f32, shapeCast S1x16x512 z shapeCasts_S16x512_S1x16x512 x = z (ix2 (x 1) (x 2)) := by
        intro z
        pointwise
      exact (h2 _).trans rfl
    · intro x
      exact (weights_step x0 x1 x2 x3 x4 x5 x6 x7 x8 x9 x10 x11 ⟨k, hk⟩ x).trans (congrArg (weights x0 x1 x2 x3 x4 x5 x6 x7 x8 x9 x10 x11) (emb_slab (T := 21) ⟨k, hk⟩ _ (off4_eq ⟨k, hk⟩) (k2_off4_inb ⟨k, hk⟩) x)).symm

theorem run_pieces  (c : Dev nD) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole)
    (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16) :
    (kernelRun2_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1 = (st_k2_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg6.unread x5) (harg7.unread x6) (harg8.unread x7) (harg9.unread x8) (harg10.unread x9) (harg11.unread x10) (harg12.unread x11) (k2_pay3 x3, k2_pay4 x4) 21).2.1 ∧ (kernelRun2_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1 = (st_k2_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg6.unread x5) (harg7.unread x6) (harg8.unread x7) (harg9.unread x8) (harg10.unread x9) (harg11.unread x10) (harg12.unread x11) (k2_pay3 x3, k2_pay4 x4) 21).2.2 := by
  unfold kernelRun2_A
  have e4 : View.readAt (Elt Idealize.ShloMosaic.Ideal) arg4.view (Rect.unit (s := S16x512) ![0, 0] ![16, 512] inb_S16x512_S16x512_0_0).toLoadRect (harg4.unread x3) = x3 :=
    (congrArg (fun z => View.ld z (Rect.unit (s := S16x512) ![0, 0] ![16, 512] inb_S16x512_S16x512_0_0)) (harg4.read_unread x3)).trans (ld_full x3 _)
  have e5 : View.readAt (Elt Idealize.ShloMosaic.Ideal) arg5.view (Rect.unit (s := S16x512) ![0, 0] ![16, 512] inb_S16x512_S16x512_0_0).toLoadRect (harg5.unread x4) = x4 :=
    (congrArg (fun z => View.ld z (Rect.unit (s := S16x512) ![0, 0] ![16, 512] inb_S16x512_S16x512_0_0)) (harg5.read_unread x4)).trans (ld_full x4 _)
  have e21 : Scf.trips (0#32) (Scalar.addi 0#32 21#32) 1#32 = 21 := by decide
  dsimp only
  rw [e4, e5, e21]
  exact ⟨rfl, rfl⟩

/-- What the call's block of states holds: every row's state after each step. -/
theorem out_states  (c : Dev nD) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole)
    (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16) (hx0 : ∀ (b : Fin 16) (q : Fin 208) (j : Fin 2048), ¬ q.val < 196 → x0 (ix2 ⟨208 * b.val + q.val, by omega⟩ j) = 0) :
    out2_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = states x0 x1 x2 x3 x4 x5 x6 x7 x8 x9 x10 x11 := by
  obtain ⟨bs, cs, e, hb, hc⟩ := st_all c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 hx0 21 le_rfl
  funext y
  unfold out2_A_12
  refine View.read_writes_apply_of_pieces _ _ _ _ ?_ y (cover2_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y)
  rw [(run_pieces c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1, e]
  exact hb

/-- What the call's block of weights holds: every row's attention weights at each step, times the step's mask. -/
theorem out_weights  (c : Dev nD) (i : grid2.Coords) (arg1 : Memref sig .tc .vmem S3328x2048 .bf16) (harg1 : arg1.IsWhole) (arg2 : Memref sig .tc .vmem S3328x512 .bf16) (harg2 : arg2.IsWhole) (arg3 : Memref sig .tc .vmem S21x16x2048 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S21x16x1 .f32) (harg6 : arg6.IsWhole) (arg7 : Memref sig .tc .vmem S512x4608 .bf16) (harg7 : arg7.IsWhole) (arg8 : Memref sig .tc .vmem S1x512 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S21x16x512 .f32) (harg13 : arg13.IsWhole) (arg14 : Memref sig .tc .vmem S21x16x196 .f32) (harg14 : arg14.IsWhole)
    (x0 : Vec Ideal S3328x2048 .bf16) (x1 : Vec Ideal S3328x512 .bf16) (x2 : Vec Ideal S21x16x2048 .f32) (x3 : Vec Ideal S16x512 .f32) (x4 : Vec Ideal S16x512 .f32) (x5 : Vec Ideal S21x16x1 .f32) (x6 : Vec Ideal S512x4608 .bf16) (x7 : Vec Ideal S1x512 .f32) (x8 : Vec Ideal S1x512 .bf16) (x9 : Vec Ideal S1x1 .f32) (x10 : Vec Ideal S1x2048 .f32) (x11 : Vec Ideal S2048x2048 .bf16) (hx0 : ∀ (b : Fin 16) (q : Fin 208) (j : Fin 2048), ¬ q.val < 196 → x0 (ix2 ⟨208 * b.val + q.val, by omega⟩ j) = 0) :
    out2_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = weights x0 x1 x2 x3 x4 x5 x6 x7 x8 x9 x10 x11 := by
  obtain ⟨bs, cs, e, hb, hc⟩ := st_all c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 hx0 21 le_rfl
  funext y
  unfold out2_A_13
  refine View.read_writes_apply_of_pieces _ _ _ _ ?_ y (cover2_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y)
  rw [(run_pieces c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2, e]
  exact hc

end Block

end Cert.KernelIdeal.Whole

end
-- ==== Proof.Value.ArrDec.lean ====
/- The decode call's two arrays: every row's states, and every row's attention weights times the mask. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Run
public import proofs.«01_k».proof.Proof.Value.DecV
public import Idealize.ShloMosaic.Lib.Pipeline.ValueKit
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable (V : (c : Dev nD) → (b : Ref sig .tc) → Buf (Elt Ideal) ((c : Thread nD τ).loc b))

theorem pts2 (t : Fin cfg2.N) : t.val < 4 := lt_of_lt_of_eq t.isLt (by decide +kernel)

/-! ## The blocks read at an index -/

theorem blk2_0 (c : Dev nD) (t : Fin cfg2.N) (r : Fin 3328) (j : Fin 2048) :
    iblk2 V c 0 t (ix2 r j) = V c main_v13_1 (ix2 ⟨3328 * t.val + r.val, by have := pts2 t; omega⟩ j) := by
  have e : ∀ t : Fin cfg2.N, win2_0.index t = ![t.val, 0] := by decide +kernel
  unfold iblk2
  blk_simp
  refine congrArg (V c main_v13_1) (funext fun a => Fin.ext ?_)
  fin_cases a <;> blk_simp [e] <;> simp [ix2] <;> omega

theorem blk2_1 (c : Dev nD) (t : Fin cfg2.N) (r : Fin 3328) (j : Fin 512) :
    iblk2 V c 1 t (ix2 r j) = V c main_v13_0 (ix2 ⟨3328 * t.val + r.val, by have := pts2 t; omega⟩ j) := by
  have e : ∀ t : Fin cfg2.N, win2_1.index t = ![t.val, 0] := by decide +kernel
  unfold iblk2
  blk_simp
  refine congrArg (V c main_v13_0) (funext fun a => Fin.ext ?_)
  fin_cases a <;> blk_simp [e] <;> simp [ix2] <;> omega

theorem blk2_2 (c : Dev nD) (t : Fin cfg2.N) (k : Fin 21) (b : Fin 16) (n : Fin 2048) :
    iblk2 V c 2 t (ix3 k b n) = V c main_v9 (ix3 k ⟨16 * t.val + b.val, by have := pts2 t; omega⟩ n) := by
  have e : ∀ t : Fin cfg2.N, win2_2.index t = ![0, t.val, 0] := by decide +kernel
  unfold iblk2
  blk_simp
  refine congrArg (V c main_v9) (funext fun a => Fin.ext ?_)
  fin_cases a <;> blk_simp [e] <;> simp [ix3] <;> omega

theorem blk2_34 (c : Dev nD) (t : Fin cfg2.N) (b : Fin 16) (u : Fin 512) :
    iblk2 V c 3 t (ix2 b u) = V c main_v13_2 (ix2 ⟨16 * t.val + b.val, by have := pts2 t; omega⟩ u)
      ∧ iblk2 V c 4 t (ix2 b u) = V c main_v13_3 (ix2 ⟨16 * t.val + b.val, by have := pts2 t; omega⟩ u) := by
  have e : ∀ t : Fin cfg2.N, win2_3.index t = ![t.val, 0] ∧ win2_4.index t = ![t.val, 0] := by decide +kernel
  unfold iblk2
  constructor
  · blk_simp
    refine congrArg (V c main_v13_2) (funext fun a => Fin.ext ?_)
    fin_cases a <;> blk_simp [(e t).1] <;> simp [ix2] <;> omega
  · blk_simp
    refine congrArg (V c main_v13_3) (funext fun a => Fin.ext ?_)
    fin_cases a <;> blk_simp [(e t).2] <;> simp [ix2] <;> omega

theorem blk2_5 (c : Dev nD) (t : Fin cfg2.N) (k : Fin 21) (b : Fin 16) :
    iblk2 V c 5 t (ix3 k b 0) = V c main_v21 (ix3 k ⟨16 * t.val + b.val, by have := pts2 t; omega⟩ 0) := by
  have e : ∀ t : Fin cfg2.N, win2_5.index t = ![0, t.val, 0] := by decide +kernel
  unfold iblk2
  blk_simp
  refine congrArg (V c main_v21) (funext fun a => Fin.ext ?_)
  fin_cases a <;> blk_simp [e] <;> simp [ix3] <;> omega

theorem blk2_w (c : Dev nD) (t : Fin cfg2.N) :
    iblk2 V c 6 t = V c main_v23 ∧ iblk2 V c 7 t = V c main_v24 ∧ iblk2 V c 8 t = V c main_v26 ∧ iblk2 V c 9 t = V c main_v27
      ∧ iblk2 V c 10 t = V c main_v28 ∧ iblk2 V c 11 t = V c main_v30 := by
  have e : ∀ t : Fin cfg2.N, win2_6.index t = ![0, 0] ∧ win2_7.index t = ![0, 0] ∧ win2_8.index t = ![0, 0] ∧ win2_9.index t = ![0, 0]
      ∧ win2_10.index t = ![0, 0] ∧ win2_11.index t = ![0, 0] := by decide +kernel
  obtain ⟨e6, e7, e8, e9, e10, e11⟩ := e t
  unfold iblk2
  refine ⟨?_, ?_, ?_, ?_, ?_, ?_⟩ <;> funext y <;> blk_simp
  · exact congrArg (V c main_v23) (funext fun a => Fin.ext (by fin_cases a <;> blk_simp [e6] <;> simp))
  · exact congrArg (V c main_v24) (funext fun a => Fin.ext (by fin_cases a <;> blk_simp [e7] <;> simp))
  · exact congrArg (V c main_v26) (funext fun a => Fin.ext (by fin_cases a <;> blk_simp [e8] <;> simp))
  · exact congrArg (V c main_v27) (funext fun a => Fin.ext (by fin_cases a <;> blk_simp [e9] <;> simp))
  · exact congrArg (V c main_v28) (funext fun a => Fin.ext (by fin_cases a <;> blk_simp [e10] <;> simp))
  · exact congrArg (V c main_v30) (funext fun a => Fin.ext (by fin_cases a <;> blk_simp [e11] <;> simp))

/-! ## One batch row of the whole arrays -/

/-- The call's weights. -/
def parV (c : Dev nD) : Spec.Par := parOf (V c main_v23) (V c main_v24) (V c main_v26) (V c main_v27) (V c main_v28) (V c main_v30)

/-- Row `B`'s projected pixels. -/
def attV (c : Dev nD) (B : Fin 64) (p : Fin 196) (u : Fin 512) : EReal := V c main_v13_0 (ix2 (n0 := 13312) ⟨208 * B.val + p.val, by omega⟩ u)

/-- Row `B`'s pixels. -/
def pixV (c : Dev nD) (B : Fin 64) (p : Fin 196) (j : Fin 2048) : EReal := V c main_v13_1 (ix2 (n0 := 13312) ⟨208 * B.val + p.val, by omega⟩ j)

/-- Row `B`'s words' shares. -/
def wordV (c : Dev nD) (B : Fin 64) (k : ℕ) (n : Fin 2048) : EReal := if h : k < 21 then V c main_v9 (ix3 (n0 := 21) ⟨k, h⟩ B n) else 0

/-- Row `B`'s state after `k` steps. -/
def stateV (c : Dev nD) (B : Fin 64) (k : ℕ) : (Fin 512 → EReal) × (Fin 512 → EReal) :=
  Spec.run (parV V c) (attV V c B) (pixV V c B) (wordV V c B) (fun u => V c main_v13_2 (ix2 B u), fun u => V c main_v13_3 (ix2 B u)) k

theorem rowRun_block (c : Dev nD) (t : Fin cfg2.N) (b : Fin 16) (k : ℕ) :
    rowRun (iblk2 V c 0 t) (iblk2 V c 1 t) (iblk2 V c 2 t) (iblk2 V c 3 t) (iblk2 V c 4 t) (iblk2 V c 5 t) (iblk2 V c 6 t) (iblk2 V c 7 t)
      (iblk2 V c 8 t) (iblk2 V c 9 t) (iblk2 V c 10 t) (iblk2 V c 11 t) b k = stateV V c ⟨16 * t.val + b.val, by have := pts2 t; omega⟩ k := by
  obtain ⟨e6, e7, e8, e9, e10, e11⟩ := blk2_w V c t
  unfold rowRun stateV parV
  rw [e6, e7, e8, e9, e10, e11]
  congr 1
  · funext p u
    refine (blk2_1 V c t _ u).trans (congrArg (V c main_v13_0) ?_)
    refine congrArg (fun r => ix2 r u) (Fin.ext ?_)
    show 3328 * t.val + (208 * b.val + p.val) = 208 * (16 * t.val + b.val) + p.val
    omega
  · funext p u
    refine (blk2_0 V c t _ u).trans (congrArg (V c main_v13_1) ?_)
    refine congrArg (fun r => ix2 r u) (Fin.ext ?_)
    show 3328 * t.val + (208 * b.val + p.val) = 208 * (16 * t.val + b.val) + p.val
    omega
  · funext k n
    unfold words wordV
    split
    · exact blk2_2 V c t _ b n
    · rfl
  · exact Prod.ext (funext fun u => (blk2_34 V c t b u).1) (funext fun u => (blk2_34 V c t b u).2)

theorem att_block (c : Dev nD) (t : Fin cfg2.N) (b : Fin 16) :
    attRow (iblk2 V c 1 t) b = attV V c ⟨16 * t.val + b.val, by have := pts2 t; omega⟩ := by
  funext p u
  refine (blk2_1 V c t _ u).trans (congrArg (V c main_v13_0) ?_)
  refine congrArg (fun r => ix2 r u) (Fin.ext ?_)
  show 3328 * t.val + (208 * b.val + p.val) = 208 * (16 * t.val + b.val) + p.val
  omega

/-! ## The call's results -/

/-- The padding rows are zero. -/
def PadZero (c : Dev nD) : Prop :=
  ∀ (B : Fin 64) (q : Fin 208) (j : Fin 2048), ¬ q.val < 196 → V c main_v13_1 (ix2 (n0 := 13312) ⟨208 * B.val + q.val, by omega⟩ j) = (0 : EReal)

theorem pad_block (c : Dev nD) (hp : PadZero V c) (t : Fin cfg2.N) (b : Fin 16) (q : Fin 208) (j : Fin 2048) (hq : ¬ q.val < 196) :
    iblk2 V c 0 t (ix2 (n0 := 3328) ⟨208 * b.val + q.val, by omega⟩ j) = (0 : EReal) := by
  refine (blk2_0 V c t _ j).trans (Eq.trans (congrArg (V c main_v13_1) ?_) (hp ⟨16 * t.val + b.val, by have := pts2 t; omega⟩ q j hq))
  refine congrArg (fun r => ix2 r j) (Fin.ext ?_)
  show 3328 * t.val + (208 * b.val + q.val) = 208 * (16 * t.val + b.val) + q.val
  omega

theorem emb2_12 (t : Fin cfg2.N) (y : S21x16x512.Idx) :
    ((cfg2.win 12).blk t).view.emb y = ix3 (n0 := 21) (n1 := 64) (n2 := 512) (y 0) ⟨16 * t.val + (y 1).val, by have := pts2 t; have : (y 1).val < 16 := (y 1).isLt; omega⟩ (y 2) := by
  have e : ∀ t : Fin cfg2.N, win2_12.index t = ![0, t.val, 0] := by decide +kernel
  refine funext fun a => Fin.ext ?_
  fin_cases a <;> blk_simp [e] <;> simp [ix3] <;> omega

theorem emb2_13 (t : Fin cfg2.N) (y : S21x16x196.Idx) :
    ((cfg2.win 13).blk t).view.emb y = ix3 (n0 := 21) (n1 := 64) (n2 := 196) (y 0) ⟨16 * t.val + (y 1).val, by have := pts2 t; have : (y 1).val < 16 := (y 1).isLt; omega⟩ (y 2) := by
  have e : ∀ t : Fin cfg2.N, win2_13.index t = ![0, t.val, 0] := by decide +kernel
  refine funext fun a => Fin.ext ?_
  fin_cases a <;> blk_simp [e] <;> simp [ix3] <;> omega

/-- Every step's states. -/
def statesV (c : Dev nD) : Vec Ideal S21x64x512 .f32 := fun y => (stateV V c (y 1) ((y 0).val + 1)).1 (y 2)

/-- Every step's weights, masked. -/
def weightsV (c : Dev nD) : Vec Ideal S21x64x196 .f32 := fun y =>
  (Spec.att (Spec.score (parV V c) (attV V c (y 1)) (stateV V c (y 1) (y 0).val).1) (y 2) : EReal) * (V c main_v21 (ix3 (n0 := 21) (n1 := 64) (n2 := 1) (y 0) (y 1) 0) : EReal)

theorem arr2_12 (c : Dev nD) (hp : PadZero V c) : (dat2 V c).arrAt 12 cfg2.N = statesV V c := by
  refine (dat2 V c).arrAt_eq_of_covers 12 _ (by decide +kernel) fun t hf y => ?_
  blk_simp
  rw [after2_12, show ((win2_12.blk t).view.emb y) = _ from emb2_12 t y]
  unfold outsAt2
  dsimp only
  rw [out_states (hx0 := fun b q j hq => pad_block V c hp t b q j hq)]
  exact congrFun (congrArg Prod.fst (rowRun_block V c t (y 1) ((y 0).val + 1))) (y 2)

theorem arr2_13 (c : Dev nD) (hp : PadZero V c) : (dat2 V c).arrAt 13 cfg2.N = weightsV V c := by
  refine (dat2 V c).arrAt_eq_of_covers 13 _ (by decide +kernel) fun t hf y => ?_
  blk_simp
  rw [after2_13, show ((win2_13.blk t).view.emb y) = _ from emb2_13 t y]
  unfold outsAt2
  dsimp only
  rw [out_weights (hx0 := fun b q j hq => pad_block V c hp t b q j hq)]
  obtain ⟨e6, e7, e8, e9, e10, e11⟩ := blk2_w V c t
  obtain ⟨k, b, p, rfl⟩ : ∃ (k : Fin 21) (b : Fin 16) (p : Fin 196), y = ix3 k b p := ⟨_, _, _, eq_ix3 y⟩
  show Spec.att (Spec.score (parOf (iblk2 V c 6 t) (iblk2 V c 7 t) (iblk2 V c 8 t) (iblk2 V c 9 t) (iblk2 V c 10 t) (iblk2 V c 11 t)) (attRow (iblk2 V c 1 t) b)
    (rowRun (iblk2 V c 0 t) (iblk2 V c 1 t) (iblk2 V c 2 t) (iblk2 V c 3 t) (iblk2 V c 4 t) (iblk2 V c 5 t) (iblk2 V c 6 t) (iblk2 V c 7 t)
      (iblk2 V c 8 t) (iblk2 V c 9 t) (iblk2 V c 10 t) (iblk2 V c 11 t) b k.val).1) p * iblk2 V c 5 t (ix3 k b 0) = _
  rw [rowRun_block V c t b k.val, att_block V c t b, e6, e7, e8, e9, e10, e11, blk2_5 V c t k b]
  rfl

end Cert.KernelIdeal.Whole
end
-- ==== Proof.Value.EncV.lean ====
/- The encode call's four outputs at the extended reals, read at an index. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Run
public import proofs.«01_k».proof.Proof.Value.DecV
public import Idealize.ShloMosaic.Lib.Pipeline.ValueKit
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable (V : (c : Dev nD) → (b : Ref sig .tc) → Buf (Elt Ideal) ((c : Thread nD τ).loc b))

section Pieces

variable (x0 : Vec Ideal S8x196x2048 .f32) (x1 : Vec Ideal S2048x512 .f32) (x2 : Vec Ideal S1x512 .f32)

/-- Each row's pixels projected, and zero in the padding rows. -/
def projBlk : Vec Ideal S1664x512 .bf16 := fun y =>
  if h : (y 0).val % 208 < 196 then (∑ j, x0 (ix3 ⟨(y 0).val / 208, by have : (y 0).val < 1664 := (y 0).isLt; omega⟩ ⟨(y 0).val % 208, h⟩ j) * x1 (ix2 j (y 1))) + x2 (ix2 0 (y 1)) else (0 : EReal)

/-- Each row's pixels, and zero in the padding rows. -/
def pixBlk : Vec Ideal S1664x2048 .bf16 := fun y =>
  if h : (y 0).val % 208 < 196 then x0 (ix3 ⟨(y 0).val / 208, by have : (y 0).val < 1664 := (y 0).isLt; omega⟩ ⟨(y 0).val % 208, h⟩ (y 1)) else (0 : EReal)

/-- Each row's mean pixel, projected. -/
def meanBlk : Vec Ideal S8x512 .f32 := fun y =>
  ((∑ j, (∑ p : Fin 196, ((1 / 196 : ℝ) : EReal) * x0 (ix3 (y 0) p j)) * x1 (ix2 j (y 1))) + x2 (ix2 0 (y 1)) : EReal)

variable (arg1 : Memref sig .tc .vmem S8x196x2048 .f32) (harg1 : arg1.IsWhole) (arg2 : Memref sig .tc .vmem S2048x512 .f32) (harg2 : arg2.IsWhole)
  (arg3 : Memref sig .tc .vmem S1x512 .f32) (harg3 : arg3.IsWhole)

/-- Image `k` of the block, as the body loads it. -/
abbrev slab1 (k : ℕ) (inb : ∀ a, (![k, 0, 0] : Fin 3 → ℕ) a + (![1, 196, 2048] : Fin 3 → ℕ) a ≤ S8x196x2048.size a) : Vec Ideal S1x196x2048 .f32 :=
  View.readAt (Elt Idealize.ShloMosaic.Ideal) arg1.view (Rect.unit (s := S8x196x2048) ![k, 0, 0] ![1, 196, 2048] inb).toLoadRect (harg1.unread x0)

theorem slab1_apply (k : ℕ) (hk : k < 8) (inb) (p : Fin 196) (j : Fin 2048) : slab1 x0 arg1 harg1 k inb (ix3 0 p j) = x0 (ix3 ⟨k, hk⟩ p j) := by
  refine (congrFun (congrArg (fun z => View.ld z (Rect.unit (s := S8x196x2048) ![k, 0, 0] ![1, 196, 2048] inb)) (harg1.read_unread x0)) (ix3 0 p j)).trans ?_
  refine congrArg x0 (funext fun a => Fin.ext ?_)
  fin_cases a <;> simp [ix3, Rect.emb, Rect.unit]

/-- The projection's weights, as the body loads them. -/
abbrev wts1 (inb : ∀ a, (![0, 0] : Fin 2 → ℕ) a + (![2048, 512] : Fin 2 → ℕ) a ≤ S2048x512.size a) : Vec Ideal S2048x512 .f32 :=
  View.readAt (Elt Idealize.ShloMosaic.Ideal) arg2.view (Rect.unit (s := S2048x512) ![0, 0] ![2048, 512] inb).toLoadRect (harg2.unread x1)

/-- The projection's bias, as the body loads it. -/
abbrev bias1 (inb : ∀ a, (![0, 0] : Fin 2 → ℕ) a + (![1, 512] : Fin 2 → ℕ) a ≤ S1x512.size a) : Vec Ideal S1x512 .f32 :=
  View.readAt (Elt Idealize.ShloMosaic.Ideal) arg3.view (Rect.unit (s := S1x512) ![0, 0] ![1, 512] inb).toLoadRect (harg3.unread x2)

theorem wts1_eq (inb) : wts1 x1 arg2 harg2 inb = x1 :=
  (congrArg (fun z => View.ld z (Rect.unit (s := S2048x512) ![0, 0] ![2048, 512] inb)) (harg2.read_unread x1)).trans (ld_full x1 _)

theorem bias1_eq (inb) : bias1 x2 arg3 harg3 inb = x2 :=
  (congrArg (fun z => View.ld z (Rect.unit (s := S1x512) ![0, 0] ![1, 512] inb)) (harg3.read_unread x2)).trans (ld_full x2 _)

theorem proj_apply (v : Vec Ideal S1x196x2048 .f32) (p : Fin 196) (u : Fin 512) :
    k1_pay9 (F := Ideal) v x1 x2 (ix2 p u) = (∑ j, v (ix3 0 p j) * x1 (ix2 j u)) + x2 (ix2 0 u) := by
  pointwise [k1_pay9, k1_pay8]

/-- Image `k`'s projected pixels are the block's rows from `208 k`. -/
theorem proj_piece (k o : ℕ) (hk : k < 8) (ho : o = 208 * k) (inb) (inbw) (inbb) (inb') (v : Vec Ideal S196x512 .bf16)
    (hv : v = k1_pay9 (F := Ideal) (slab1 x0 arg1 harg1 k inb) (wts1 x1 arg2 harg2 inbw) (bias1 x2 arg3 harg3 inbb)) (x : S196x512.Idx) :
    v x = projBlk x0 x1 x2 ((Rect.unit (s := S1664x512) ![o, 0] ![196, 512] inb').emb x) := by
  subst hv ho
  obtain ⟨p, u, rfl⟩ : ∃ p u, x = ix2 p u := ⟨_, _, eq_ix2 x⟩
  have h0 : (((Rect.unit (s := S1664x512) ![208 * k, 0] ![196, 512] inb').emb (ix2 p u)) 0).val = 208 * k + p.val := by simp [ix2, Rect.emb, Rect.unit]
  have h1 : ((Rect.unit (s := S1664x512) ![208 * k, 0] ![196, 512] inb').emb (ix2 p u)) 1 = u := Fin.ext (by simp [ix2, Rect.emb, Rect.unit])
  have hm : (208 * k + p.val) % 208 = p.val := by omega
  have hd : (208 * k + p.val) / 208 = k := by omega
  rw [wts1_eq, bias1_eq, proj_apply]
  unfold projBlk
  rw [dif_pos (show _ % 208 < 196 by rw [h0, hm]; exact p.isLt), h1]
  congr 1
  refine Finset.sum_congr rfl fun j _ => ?_
  rw [slab1_apply x0 arg1 harg1 k hk]
  congr 2
  exact congrArg₂ (fun a b => ix3 a b j) (Fin.ext (hd.symm.trans (congrArg (· / 208) h0.symm))) (Fin.ext (hm.symm.trans (congrArg (· % 208) h0.symm)))

/-- The rows between are zero. -/
theorem proj_pad (k o : ℕ) (ho : o = 208 * k + 196) (inb') (v : Vec Ideal S12x512 .bf16) (hv : v = k1_pay1 (F := Ideal)) (x : S12x512.Idx) :
    v x = projBlk x0 x1 x2 ((Rect.unit (s := S1664x512) ![o, 0] ![12, 512] inb').emb x) := by
  subst hv ho
  have h0 : (((Rect.unit (s := S1664x512) ![208 * k + 196, 0] ![12, 512] inb').emb x) 0).val = 208 * k + 196 + (x 0).val := by simp [Rect.emb, Rect.unit]
  have hx : (x 0).val < 12 := (x 0).isLt
  unfold projBlk
  rw [dif_neg (by rw [h0]; omega)]
  pointwise [k1_pay1]

/-- Image `k`'s pixels are the block's rows from `208 k`. -/
theorem pix_piece (k o : ℕ) (hk : k < 8) (ho : o = 208 * k) (inb) (inb') (v : Vec Ideal S196x2048 .bf16)
    (hv : v = k1_pay11 (F := Ideal) (slab1 x0 arg1 harg1 k inb)) (x : S196x2048.Idx) :
    v x = pixBlk x0 ((Rect.unit (s := S1664x2048) ![o, 0] ![196, 2048] inb').emb x) := by
  subst hv ho
  obtain ⟨p, u, rfl⟩ : ∃ p u, x = ix2 p u := ⟨_, _, eq_ix2 x⟩
  have h0 : (((Rect.unit (s := S1664x2048) ![208 * k, 0] ![196, 2048] inb').emb (ix2 p u)) 0).val = 208 * k + p.val := by simp [ix2, Rect.emb, Rect.unit]
  have h1 : ((Rect.unit (s := S1664x2048) ![208 * k, 0] ![196, 2048] inb').emb (ix2 p u)) 1 = u := Fin.ext (by simp [ix2, Rect.emb, Rect.unit])
  have hm : (208 * k + p.val) % 208 = p.val := by omega
  have hd : (208 * k + p.val) / 208 = k := by omega
  have e : k1_pay11 (F := Ideal) (slab1 x0 arg1 harg1 k inb) (ix2 p u) = slab1 x0 arg1 harg1 k inb (ix3 0 p u) := by
    generalize slab1 x0 arg1 harg1 k inb = w
    pointwise [k1_pay11, k1_pay8]
  rw [e, slab1_apply x0 arg1 harg1 k hk]
  unfold pixBlk
  rw [dif_pos (show _ % 208 < 196 by rw [h0, hm]; exact p.isLt), h1]
  exact congrArg x0 (congrArg₂ (fun a b => ix3 a b u) (Fin.ext (hd.symm.trans (congrArg (· / 208) h0.symm))) (Fin.ext (hm.symm.trans (congrArg (· % 208) h0.symm))))

/-- The rows between are zero. -/
theorem pix_pad (k o : ℕ) (ho : o = 208 * k + 196) (inb') (v : Vec Ideal S12x2048 .bf16) (hv : v = k1_pay3 (F := Ideal)) (x : S12x2048.Idx) :
    v x = pixBlk x0 ((Rect.unit (s := S1664x2048) ![o, 0] ![12, 2048] inb').emb x) := by
  subst hv ho
  have h0 : (((Rect.unit (s := S1664x2048) ![208 * k + 196, 0] ![12, 2048] inb').emb x) 0).val = 208 * k + 196 + (x 0).val := by simp [Rect.emb, Rect.unit]
  have hx : (x 0).val < 12 := (x 0).isLt
  unfold pixBlk
  rw [dif_neg (by rw [h0]; omega)]
  pointwise [k1_pay3]

theorem slab_inb (b : Fin 8) : ∀ a, (![b.val, 0, 0] : Fin 3 → ℕ) a + (![1, 196, 2048] : Fin 3 → ℕ) a ≤ S8x196x2048.size a := by
  intro a
  fin_cases a
  · show b.val + 1 ≤ 8
    omega
  · show 0 + 196 ≤ 196
    omega
  · show 0 + 2048 ≤ 2048
    omega

/-- The images' mean pixels, one under another. -/
def meansT (s : Fin 8 → Vec Ideal S1x196x2048 .f32) : FVec Ideal S8x2048 .f32 :=
  concatenate S8x2048 0 (List.ofFn fun b : Fin 8 => (⟨S1x2048, k1_pay13 (F := Ideal) (s b)⟩ : (s : Shape) × (s.Idx → EReal)))
    concatenates_S1x2048_S1x2048_S1x2048_S1x2048_S1x2048_S1x2048_S1x2048_S1x2048_S8x2048_d0

theorem named196 : Named.named (F := Ideal) (φ := .f32) κ "inv196" 0x3BA72F05#32 = ((1 / 196 : ℝ) : EReal) :=
  IdealRules.named_const.ideal_named_scalar κ "inv196" _ _ rfl

theorem pay13_apply (v : Vec Ideal S1x196x2048 .f32) (j : Fin 2048) :
    k1_pay13 (F := Ideal) v (ix2 0 j) = ∑ p : Fin 196, ((1 / 196 : ℝ) : EReal) * v (ix3 0 p j) := by
  rw [← named196]
  pointwise [k1_pay13, k1_pay7, k1_pay8]

theorem meansT_apply (s : Fin 8 → Vec Ideal S1x196x2048 .f32) (b : Fin 8) (j : Fin 2048) :
    meansT s (ix2 b j) = ∑ p : Fin 196, ((1 / 196 : ℝ) : EReal) * s b (ix3 0 p j) := by
  rw [← pay13_apply]
  unfold meansT
  pointwise

/-- The mean pixels projected. -/
def headT (s : Fin 8 → Vec Ideal S1x196x2048 .f32) : FVec Ideal S8x512 .f32 :=
  addf (matmul (φ₂ := .f32) dot_S8x2048_S2048x512_S8x512_1_0_0_1_n_n none (meansT s) x1 (constant S8x512 .f32 0x00000000#32))
    (broadcastTo S8x512 (shapeCast S1x512 x2 shapeCasts_S1x512_S1x512) broadcasts_S1x512_S8x512)

theorem headT_eq (x : S8x512.Idx) : headT x1 x2 (fun b => slab1 x0 arg1 harg1 b.val (slab_inb b)) x = meanBlk x0 x1 x2 x := by
  obtain ⟨b, u, rfl⟩ : ∃ b u, x = ix2 b u := ⟨_, _, eq_ix2 x⟩
  have e : headT x1 x2 (fun b => slab1 x0 arg1 harg1 b.val (slab_inb b)) (ix2 b u)
      = (∑ j, meansT (fun b => slab1 x0 arg1 harg1 b.val (slab_inb b)) (ix2 b j) * x1 (ix2 j u)) + x2 (ix2 0 u) := by
    unfold headT
    generalize meansT (fun b => slab1 x0 arg1 harg1 b.val (slab_inb b)) = w
    pointwise
  rw [e]
  unfold meanBlk
  refine congrArg (· + x2 (ix2 0 u)) (Finset.sum_congr rfl fun j _ => congrArg (· * x1 (ix2 j u)) ?_)
  rw [meansT_apply]
  exact Finset.sum_congr rfl fun p _ => congrArg (((1 / 196 : ℝ) : EReal) * ·) (slab1_apply x0 arg1 harg1 b.val b.isLt _ p j)

/-- The one piece of a head's block. -/
theorem head_piece (inbw) (inbb) (inb') (v : Vec Ideal S8x512 .f32)
    (hv : v = headT (wts1 x1 arg2 harg2 inbw) (bias1 x2 arg3 harg3 inbb) (fun b => slab1 x0 arg1 harg1 b.val (slab_inb b))) (x : S8x512.Idx) :
    v x = meanBlk x0 x1 x2 ((Rect.unit (s := S8x512) ![0, 0] ![8, 512] inb').emb x) := by
  subst hv
  rw [wts1_eq, bias1_eq, headT_eq]
  refine congrArg (meanBlk x0 x1 x2) (funext fun a => Fin.ext ?_)
  fin_cases a <;> simp [Rect.emb, Rect.unit]

end Pieces

/-- The call's block of projected pixels. -/
theorem out_proj (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec Ideal S8x196x2048 .f32) (x1 : Vec Ideal S2048x512 .f32) (x2 : Vec Ideal S1x512 .f32) (x3 : Vec Ideal S2048x512 .f32) (x4 : Vec Ideal S1x512 .f32) (x5 : Vec Ideal S2048x512 .f32) (x6 : Vec Ideal S1x512 .f32) :
    out1_A_7 (F := Ideal) c i arg1 harg1 arg2 harg2 arg3 harg3 arg4 harg4 arg5 harg5 arg6 harg6 arg7 harg7 arg8 harg8 arg9 harg9 arg10 harg10 arg11 harg11 x0 x1 x2 x3 x4 x5 x6 = projBlk x0 x1 x2 := by
  funext y
  unfold out1_A_7
  refine View.read_writes_apply_of_pieces _ _ _ _ ?_ y (cover1_A_7 c i arg1 harg1 arg2 harg2 arg3 harg3 arg4 harg4 arg5 harg5 arg6 harg6 arg7 harg7 arg8 harg8 arg9 harg9 arg10 harg10 arg11 harg11 x0 x1 x2 x3 x4 x5 x6 y)
  unfold kernelRun1_A
  dsimp only
  simp only [List.mem_cons, forall_eq_or_imp]
  refine ⟨proj_pad x0 x1 x2 7 _ rfl _ _ rfl, proj_piece x0 x1 x2 arg1 harg1 arg2 harg2 arg3 harg3 7 _ (by omega) rfl inb_S8x196x2048_S1x196x2048_7_0_0 inb_S2048x512_S2048x512_0_0 inb_S1x512_S1x512_0_0 _ _ rfl, proj_pad x0 x1 x2 6 _ rfl _ _ rfl, proj_piece x0 x1 x2 arg1 harg1 arg2 harg2 arg3 harg3 6 _ (by omega) rfl inb_S8x196x2048_S1x196x2048_6_0_0 inb_S2048x512_S2048x512_0_0 inb_S1x512_S1x512_0_0 _ _ rfl, proj_pad x0 x1 x2 5 _ rfl _ _ rfl, proj_piece x0 x1 x2 arg1 harg1 arg2 harg2 arg3 harg3 5 _ (by omega) rfl inb_S8x196x2048_S1x196x2048_5_0_0 inb_S2048x512_S2048x512_0_0 inb_S1x512_S1x512_0_0 _ _ rfl, proj_pad x0 x1 x2 4 _ rfl _ _ rfl, proj_piece x0 x1 x2 arg1 harg1 arg2 harg2 arg3 harg3 4 _ (by omega) rfl inb_S8x196x2048_S1x196x2048_4_0_0 inb_S2048x512_S2048x512_0_0 inb_S1x512_S1x512_0_0 _ _ rfl, proj_pad x0 x1 x2 3 _ rfl _ _ rfl, proj_piece x0 x1 x2 arg1 harg1 arg2 harg2 arg3 harg3 3 _ (by omega) rfl inb_S8x196x2048_S1x196x2048_3_0_0 inb_S2048x512_S2048x512_0_0 inb_S1x512_S1x512_0_0 _ _ rfl, proj_pad x0 x1 x2 2 _ rfl _ _ rfl, proj_piece x0 x1 x2 arg1 harg1 arg2 harg2 arg3 harg3 2 _ (by omega) rfl inb_S8x196x2048_S1x196x2048_2_0_0 inb_S2048x512_S2048x512_0_0 inb_S1x512_S1x512_0_0 _ _ rfl, proj_pad x0 x1 x2 1 _ rfl _ _ rfl, proj_piece x0 x1 x2 arg1 harg1 arg2 harg2 arg3 harg3 1 _ (by omega) rfl inb_S8x196x2048_S1x196x2048_1_0_0 inb_S2048x512_S2048x512_0_0 inb_S1x512_S1x512_0_0 _ _ rfl, proj_pad x0 x1 x2 0 _ rfl _ _ rfl, proj_piece x0 x1 x2 arg1 harg1 arg2 harg2 arg3 harg3 0 _ (by omega) rfl inb_S8x196x2048_S1x196x2048_0_0_0 inb_S2048x512_S2048x512_0_0 inb_S1x512_S1x512_0_0 _ _ rfl, fun _ h => absurd h List.not_mem_nil⟩

/-- The call's block of pixels. -/
theorem out_pix (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec Ideal S8x196x2048 .f32) (x1 : Vec Ideal S2048x512 .f32) (x2 : Vec Ideal S1x512 .f32) (x3 : Vec Ideal S2048x512 .f32) (x4 : Vec Ideal S1x512 .f32) (x5 : Vec Ideal S2048x512 .f32) (x6 : Vec Ideal S1x512 .f32) :
    out1_A_8 (F := Ideal) c i arg1 harg1 arg2 harg2 arg3 harg3 arg4 harg4 arg5 harg5 arg6 harg6 arg7 harg7 arg8 harg8 arg9 harg9 arg10 harg10 arg11 harg11 x0 x1 x2 x3 x4 x5 x6 = pixBlk x0 := by
  funext y
  unfold out1_A_8
  refine View.read_writes_apply_of_pieces _ _ _ _ ?_ y (cover1_A_8 c i arg1 harg1 arg2 harg2 arg3 harg3 arg4 harg4 arg5 harg5 arg6 harg6 arg7 harg7 arg8 harg8 arg9 harg9 arg10 harg10 arg11 harg11 x0 x1 x2 x3 x4 x5 x6 y)
  unfold kernelRun1_A
  dsimp only
  simp only [List.mem_cons, forall_eq_or_imp]
  refine ⟨pix_pad x0 7 _ rfl _ _ rfl, pix_piece x0 arg1 harg1 7 _ (by omega) rfl inb_S8x196x2048_S1x196x2048_7_0_0 _ _ rfl, pix_pad x0 6 _ rfl _ _ rfl, pix_piece x0 arg1 harg1 6 _ (by omega) rfl inb_S8x196x2048_S1x196x2048_6_0_0 _ _ rfl, pix_pad x0 5 _ rfl _ _ rfl, pix_piece x0 arg1 harg1 5 _ (by omega) rfl inb_S8x196x2048_S1x196x2048_5_0_0 _ _ rfl, pix_pad x0 4 _ rfl _ _ rfl, pix_piece x0 arg1 harg1 4 _ (by omega) rfl inb_S8x196x2048_S1x196x2048_4_0_0 _ _ rfl, pix_pad x0 3 _ rfl _ _ rfl, pix_piece x0 arg1 harg1 3 _ (by omega) rfl inb_S8x196x2048_S1x196x2048_3_0_0 _ _ rfl, pix_pad x0 2 _ rfl _ _ rfl, pix_piece x0 arg1 harg1 2 _ (by omega) rfl inb_S8x196x2048_S1x196x2048_2_0_0 _ _ rfl, pix_pad x0 1 _ rfl _ _ rfl, pix_piece x0 arg1 harg1 1 _ (by omega) rfl inb_S8x196x2048_S1x196x2048_1_0_0 _ _ rfl, pix_pad x0 0 _ rfl _ _ rfl, pix_piece x0 arg1 harg1 0 _ (by omega) rfl inb_S8x196x2048_S1x196x2048_0_0_0 _ _ rfl, fun _ h => absurd h List.not_mem_nil⟩

/-- The call's block of first states. -/
theorem out_h0 (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec Ideal S8x196x2048 .f32) (x1 : Vec Ideal S2048x512 .f32) (x2 : Vec Ideal S1x512 .f32) (x3 : Vec Ideal S2048x512 .f32) (x4 : Vec Ideal S1x512 .f32) (x5 : Vec Ideal S2048x512 .f32) (x6 : Vec Ideal S1x512 .f32) :
    out1_A_9 (F := Ideal) c i arg1 harg1 arg2 harg2 arg3 harg3 arg4 harg4 arg5 harg5 arg6 harg6 arg7 harg7 arg8 harg8 arg9 harg9 arg10 harg10 arg11 harg11 x0 x1 x2 x3 x4 x5 x6 = meanBlk x0 x3 x4 := by
  funext y
  unfold out1_A_9
  refine View.read_writes_apply_of_pieces _ _ _ _ ?_ y (cover1_A_9 c i arg1 harg1 arg2 harg2 arg3 harg3 arg4 harg4 arg5 harg5 arg6 harg6 arg7 harg7 arg8 harg8 arg9 harg9 arg10 harg10 arg11 harg11 x0 x1 x2 x3 x4 x5 x6 y)
  unfold kernelRun1_A
  dsimp only
  simp only [List.mem_cons, forall_eq_or_imp]
  exact ⟨head_piece x0 x3 x4 arg1 harg1 arg4 harg4 arg5 harg5 _ _ _ _ rfl, fun _ h => absurd h List.not_mem_nil⟩

/-- The call's block of first cells. -/
theorem out_c0 (c : Dev nD) (i : grid1.Coords) (arg1 : Memref sig .tc .vmem S8x196x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S1664x512 .bf16) (harg8 : arg8.IsWhole) (arg9 : Memref sig .tc .vmem S1664x2048 .bf16) (harg9 : arg9.IsWhole) (arg10 : Memref sig .tc .vmem S8x512 .f32) (harg10 : arg10.IsWhole) (arg11 : Memref sig .tc .vmem S8x512 .f32) (harg11 : arg11.IsWhole)
    (x0 : Vec Ideal S8x196x2048 .f32) (x1 : Vec Ideal S2048x512 .f32) (x2 : Vec Ideal S1x512 .f32) (x3 : Vec Ideal S2048x512 .f32) (x4 : Vec Ideal S1x512 .f32) (x5 : Vec Ideal S2048x512 .f32) (x6 : Vec Ideal S1x512 .f32) :
    out1_A_10 (F := Ideal) c i arg1 harg1 arg2 harg2 arg3 harg3 arg4 harg4 arg5 harg5 arg6 harg6 arg7 harg7 arg8 harg8 arg9 harg9 arg10 harg10 arg11 harg11 x0 x1 x2 x3 x4 x5 x6 = meanBlk x0 x5 x6 := by
  funext y
  unfold out1_A_10
  refine View.read_writes_apply_of_pieces _ _ _ _ ?_ y (cover1_A_10 c i arg1 harg1 arg2 harg2 arg3 harg3 arg4 harg4 arg5 harg5 arg6 harg6 arg7 harg7 arg8 harg8 arg9 harg9 arg10 harg10 arg11 harg11 x0 x1 x2 x3 x4 x5 x6 y)
  unfold kernelRun1_A
  dsimp only
  simp only [List.mem_cons, forall_eq_or_imp]
  exact ⟨head_piece x0 x5 x6 arg1 harg1 arg6 harg6 arg7 harg7 _ _ _ _ rfl, fun _ h => absurd h List.not_mem_nil⟩

end Cert.KernelIdeal.Whole
end
-- ==== Proof.Value.ArrEnc.lean ====
/- The encode call's four arrays: the projected pixels, the pixels, and the two projections of the mean pixel. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Run
public import proofs.«01_k».proof.Proof.Value.DecV
public import proofs.«01_k».proof.Proof.Value.EncV
public import Idealize.ShloMosaic.Lib.Pipeline.ValueKit
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable (V : (c : Dev nD) → (b : Ref sig .tc) → Buf (Elt Ideal) ((c : Thread nD τ).loc b))

theorem pts1 (t : Fin cfg1.N) : t.val < 8 := lt_of_lt_of_eq t.isLt (by decide +kernel)

theorem blk1_0 (c : Dev nD) (t : Fin cfg1.N) (b : Fin 8) (p : Fin 196) (j : Fin 2048) :
    iblk1 V c 0 t (ix3 b p j) = V c main_arg0 (ix3 ⟨8 * t.val + b.val, by have := pts1 t; omega⟩ p j) := by
  have e : ∀ t : Fin cfg1.N, win1_0.index t = ![t.val, 0, 0] := by decide +kernel
  unfold iblk1
  blk_simp
  refine congrArg (V c main_arg0) (funext fun a => Fin.ext ?_)
  fin_cases a <;> blk_simp [e] <;> simp [ix3] <;> omega

theorem blk1_w (c : Dev nD) (t : Fin cfg1.N) :
    iblk1 V c 1 t = V c main_arg4 ∧ iblk1 V c 2 t = V c main_v10 ∧ iblk1 V c 3 t = V c main_arg10 ∧ iblk1 V c 4 t = V c main_v11
      ∧ iblk1 V c 5 t = V c main_arg12 ∧ iblk1 V c 6 t = V c main_v12 := by
  have e : ∀ t : Fin cfg1.N, win1_1.index t = ![0, 0] ∧ win1_2.index t = ![0, 0] ∧ win1_3.index t = ![0, 0] ∧ win1_4.index t = ![0, 0]
      ∧ win1_5.index t = ![0, 0] ∧ win1_6.index t = ![0, 0] := by decide +kernel
  obtain ⟨e6, e7, e8, e9, e10, e11⟩ := e t
  unfold iblk1
  refine ⟨?_, ?_, ?_, ?_, ?_, ?_⟩ <;> funext y <;> blk_simp
  · exact congrArg (V c main_arg4) (funext fun a => Fin.ext (by fin_cases a <;> blk_simp [e6] <;> simp))
  · exact congrArg (V c main_v10) (funext fun a => Fin.ext (by fin_cases a <;> blk_simp [e7] <;> simp))
  · exact congrArg (V c main_arg10) (funext fun a => Fin.ext (by fin_cases a <;> blk_simp [e8] <;> simp))
  · exact congrArg (V c main_v11) (funext fun a => Fin.ext (by fin_cases a <;> blk_simp [e9] <;> simp))
  · exact congrArg (V c main_arg12) (funext fun a => Fin.ext (by fin_cases a <;> blk_simp [e10] <;> simp))
  · exact congrArg (V c main_v12) (funext fun a => Fin.ext (by fin_cases a <;> blk_simp [e11] <;> simp))

/-! ## The whole arrays -/

/-- The projected pixels, 208 rows to an image. -/
def projArr (x0 : Vec Ideal S64x196x2048 .f32) (x1 : Vec Ideal S2048x512 .f32) (x2 : Vec Ideal S1x512 .f32) : Vec Ideal S13312x512 .bf16 := fun y =>
  if h : (y 0).val % 208 < 196 then (∑ j, x0 (ix3 ⟨(y 0).val / 208, by have : (y 0).val < 13312 := (y 0).isLt; omega⟩ ⟨(y 0).val % 208, h⟩ j) * x1 (ix2 j (y 1))) + x2 (ix2 0 (y 1)) else (0 : EReal)

/-- The pixels, 208 rows to an image. -/
def pixArr (x0 : Vec Ideal S64x196x2048 .f32) : Vec Ideal S13312x2048 .bf16 := fun y =>
  if h : (y 0).val % 208 < 196 then x0 (ix3 ⟨(y 0).val / 208, by have : (y 0).val < 13312 := (y 0).isLt; omega⟩ ⟨(y 0).val % 208, h⟩ (y 1)) else (0 : EReal)

/-- The mean pixels projected. -/
def meanArr (x0 : Vec Ideal S64x196x2048 .f32) (x1 : Vec Ideal S2048x512 .f32) (x2 : Vec Ideal S1x512 .f32) : Vec Ideal S64x512 .f32 := fun y =>
  ((∑ j, (∑ p : Fin 196, ((1 / 196 : ℝ) : EReal) * x0 (ix3 (y 0) p j)) * x1 (ix2 j (y 1))) + x2 (ix2 0 (y 1)) : EReal)

theorem emb1_7 (t : Fin cfg1.N) (r : Fin 1664) (u : Fin 512) :
    ((cfg1.win 7).blk t).view.emb (ix2 r u) = ix2 (n0 := 13312) (n1 := 512) ⟨1664 * t.val + r.val, by have := pts1 t; omega⟩ u := by
  have e : ∀ t : Fin cfg1.N, win1_7.index t = ![t.val, 0] := by decide +kernel
  refine funext fun a => Fin.ext ?_
  fin_cases a <;> blk_simp [e] <;> simp [ix2] <;> omega

theorem emb1_8 (t : Fin cfg1.N) (r : Fin 1664) (u : Fin 2048) :
    ((cfg1.win 8).blk t).view.emb (ix2 r u) = ix2 (n0 := 13312) (n1 := 2048) ⟨1664 * t.val + r.val, by have := pts1 t; omega⟩ u := by
  have e : ∀ t : Fin cfg1.N, win1_8.index t = ![t.val, 0] := by decide +kernel
  refine funext fun a => Fin.ext ?_
  fin_cases a <;> blk_simp [e] <;> simp [ix2] <;> omega

theorem emb1_9 (t : Fin cfg1.N) (b : Fin 8) (u : Fin 512) :
    ((cfg1.win 9).blk t).view.emb (ix2 b u) = ix2 (n0 := 64) (n1 := 512) ⟨8 * t.val + b.val, by have := pts1 t; omega⟩ u
      ∧ ((cfg1.win 10).blk t).view.emb (ix2 b u) = ix2 (n0 := 64) (n1 := 512) ⟨8 * t.val + b.val, by have := pts1 t; omega⟩ u := by
  have e : ∀ t : Fin cfg1.N, win1_9.index t = ![t.val, 0] ∧ win1_10.index t = ![t.val, 0] := by decide +kernel
  constructor
  · refine funext fun a => Fin.ext ?_
    fin_cases a <;> blk_simp [(e t).1] <;> simp [ix2] <;> omega
  · refine funext fun a => Fin.ext ?_
    fin_cases a <;> blk_simp [(e t).2] <;> simp [ix2] <;> omega

theorem proj_block (x0 : Vec Ideal S64x196x2048 .f32) (z0 : Vec Ideal S8x196x2048 .f32) (x1 : Vec Ideal S2048x512 .f32) (x2 : Vec Ideal S1x512 .f32) (t : ℕ) (ht : t < 8)
    (hz : ∀ (b : Fin 8) (p : Fin 196) (j : Fin 2048), z0 (ix3 b p j) = x0 (ix3 ⟨8 * t + b.val, by omega⟩ p j)) (r : Fin 1664) (u : Fin 512) :
    projBlk z0 x1 x2 (ix2 r u) = projArr x0 x1 x2 (ix2 (n0 := 13312) ⟨1664 * t + r.val, by omega⟩ u) := by
  unfold projBlk projArr
  have hm : (1664 * t + r.val) % 208 = r.val % 208 := by omega
  have hd : (1664 * t + r.val) / 208 = 8 * t + r.val / 208 := by omega
  show dite (r.val % 208 < 196) _ _ = dite ((1664 * t + r.val) % 208 < 196) _ _
  by_cases h : r.val % 208 < 196
  · refine (dif_pos h).trans (Eq.trans ?_ (dif_pos (hm.trans_lt h)).symm)
    refine congrArg (· + x2 (ix2 0 u)) (Finset.sum_congr rfl fun j _ => congrArg (· * x1 (ix2 j u)) ((hz _ _ j).trans (congrArg x0 ?_)))
    exact congrArg₂ (fun a b => ix3 a b j) (Fin.ext hd.symm) (Fin.ext hm.symm)
  · refine (dif_neg h).trans (Eq.symm (dif_neg ?_))
    exact fun h' => h (hm.symm.trans_lt h')

theorem pix_block (x0 : Vec Ideal S64x196x2048 .f32) (z0 : Vec Ideal S8x196x2048 .f32) (t : ℕ) (ht : t < 8)
    (hz : ∀ (b : Fin 8) (p : Fin 196) (j : Fin 2048), z0 (ix3 b p j) = x0 (ix3 ⟨8 * t + b.val, by omega⟩ p j)) (r : Fin 1664) (u : Fin 2048) :
    pixBlk z0 (ix2 r u) = pixArr x0 (ix2 (n0 := 13312) ⟨1664 * t + r.val, by omega⟩ u) := by
  unfold pixBlk pixArr
  have hm : (1664 * t + r.val) % 208 = r.val % 208 := by omega
  have hd : (1664 * t + r.val) / 208 = 8 * t + r.val / 208 := by omega
  show dite (r.val % 208 < 196) _ _ = dite ((1664 * t + r.val) % 208 < 196) _ _
  by_cases h : r.val % 208 < 196
  · refine (dif_pos h).trans (Eq.trans ?_ (dif_pos (hm.trans_lt h)).symm)
    exact (hz _ _ u).trans (congrArg x0 (congrArg₂ (fun a b => ix3 a b u) (Fin.ext hd.symm) (Fin.ext hm.symm)))
  · refine (dif_neg h).trans (Eq.symm (dif_neg ?_))
    exact fun h' => h (hm.symm.trans_lt h')

theorem mean_block (x0 : Vec Ideal S64x196x2048 .f32) (z0 : Vec Ideal S8x196x2048 .f32) (x1 : Vec Ideal S2048x512 .f32) (x2 : Vec Ideal S1x512 .f32) (t : ℕ) (ht : t < 8)
    (hz : ∀ (b : Fin 8) (p : Fin 196) (j : Fin 2048), z0 (ix3 b p j) = x0 (ix3 ⟨8 * t + b.val, by omega⟩ p j)) (b : Fin 8) (u : Fin 512) :
    meanBlk z0 x1 x2 (ix2 b u) = meanArr x0 x1 x2 (ix2 (n0 := 64) ⟨8 * t + b.val, by omega⟩ u) := by
  unfold meanBlk meanArr
  exact congrArg (· + x2 (ix2 0 u)) (Finset.sum_congr rfl fun j _ => congrArg (· * x1 (ix2 j u))
    (Finset.sum_congr rfl fun p _ => congrArg (((1 / 196 : ℝ) : EReal) * ·) (hz b p j)))

theorem arr1_7 (c : Dev nD) : (dat1 V c).arrAt 7 cfg1.N = projArr (V c main_arg0) (V c main_arg4) (V c main_v10) := by
  refine (dat1 V c).arrAt_eq_of_covers 7 _ (by decide +kernel) fun t hf y => ?_
  obtain ⟨r, u, rfl⟩ : ∃ (r : Fin 1664) (u : Fin 512), y = ix2 r u := ⟨_, _, eq_ix2 y⟩
  blk_simp
  rw [after1_7, show (win1_7.blk t).view.emb _ = _ from emb1_7 t r u]
  unfold outsAt1
  dsimp only
  obtain ⟨e1, e2, e3, e4, e5, e6⟩ := blk1_w V c t
  rw [out_proj, e1, e2]
  exact proj_block (V c main_arg0) _ _ _ t.val (pts1 t) (blk1_0 V c t) r u

theorem arr1_8 (c : Dev nD) : (dat1 V c).arrAt 8 cfg1.N = pixArr (V c main_arg0) := by
  refine (dat1 V c).arrAt_eq_of_covers 8 _ (by decide +kernel) fun t hf y => ?_
  obtain ⟨r, u, rfl⟩ : ∃ (r : Fin 1664) (u : Fin 2048), y = ix2 r u := ⟨_, _, eq_ix2 y⟩
  blk_simp
  rw [after1_8, show (win1_8.blk t).view.emb _ = _ from emb1_8 t r u]
  unfold outsAt1
  dsimp only
  rw [out_pix]
  exact pix_block (V c main_arg0) _ t.val (pts1 t) (blk1_0 V c t) r u

theorem arr1_9 (c : Dev nD) : (dat1 V c).arrAt 9 cfg1.N = meanArr (V c main_arg0) (V c main_arg10) (V c main_v11) := by
  refine (dat1 V c).arrAt_eq_of_covers 9 _ (by decide +kernel) fun t hf y => ?_
  obtain ⟨b, u, rfl⟩ : ∃ (b : Fin 8) (u : Fin 512), y = ix2 b u := ⟨_, _, eq_ix2 y⟩
  blk_simp
  rw [after1_9, show (win1_9.blk t).view.emb _ = _ from (emb1_9 t b u).1]
  unfold outsAt1
  dsimp only
  obtain ⟨e1, e2, e3, e4, e5, e6⟩ := blk1_w V c t
  rw [out_h0, e3, e4]
  exact mean_block (V c main_arg0) _ _ _ t.val (pts1 t) (blk1_0 V c t) b u

theorem arr1_10 (c : Dev nD) : (dat1 V c).arrAt 10 cfg1.N = meanArr (V c main_arg0) (V c main_arg12) (V c main_v12) := by
  refine (dat1 V c).arrAt_eq_of_covers 10 _ (by decide +kernel) fun t hf y => ?_
  obtain ⟨b, u, rfl⟩ : ∃ (b : Fin 8) (u : Fin 512), y = ix2 b u := ⟨_, _, eq_ix2 y⟩
  blk_simp
  rw [after1_10, show (win1_10.blk t).view.emb _ = _ from (emb1_9 t b u).2]
  unfold outsAt1
  dsimp only
  obtain ⟨e1, e2, e3, e4, e5, e6⟩ := blk1_w V c t
  rw [out_c0, e5, e6]
  exact mean_block (V c main_arg0) _ _ _ t.val (pts1 t) (blk1_0 V c t) b u

end Cert.KernelIdeal.Whole
end
-- ==== Proof.Value.ArrFc.lean ====
/- The prediction call's array; its last block of columns is cut short, and the cut columns do not reach it. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Run
public import proofs.«01_k».proof.Proof.Value.DecV
public import proofs.«01_k».proof.Proof.Value.EncV
public import Idealize.ShloMosaic.Lib.Pipeline.ValueKit
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable (V : (c : Dev nD) → (b : Ref sig .tc) → Buf (Elt Ideal) ((c : Thread nD τ).loc b))

/-! ## The body's block at an index -/

theorem out3_apply (x0 : Vec Ideal S336x512 .f32) (x1 : Vec Ideal S512x1280 .f32) (x2 : Vec Ideal S1x1280 .f32) (x3 : Vec Ideal S336x1 .f32) (r : Fin 336) (n : Fin 1280) :
    out3_4 (F := Ideal) x0 x1 x2 x3 (ix2 r n) = ((∑ k, x0 (ix2 r k) * x1 (ix2 k n)) + x2 (ix2 0 n)) * x3 (ix2 r 0) := by
  have e0 : View.ld x0 r3_0 = x0 := ld_full x0 _
  have e1 : View.ld x1 r3_1 = x1 := ld_full x1 _
  have e2 : View.ld x2 r3_2 = x2 := ld_full x2 _
  have e3 : View.ld x3 r3_3 = x3 := ld_full x3 _
  unfold out3_4
  rw [e0, e1, e2, e3]
  have h : ∀ p : Vec Ideal S336x1280 .f32, View.canon [(⟨r3_4, p⟩ : View.Piece (Elt Idealize.ShloMosaic.Ideal) S336x1280 .f32)] = p := fun p =>
    View.canon_cons_unit_lit (S := S336x1280) (off := ![0, 0]) inb_S336x1280_S336x1280_0_0 p [] (by intro a; fin_cases a <;> rfl)
  rw [h]
  pointwise [k3_pay1]

/-! ## The clipped blocks -/

/-- The columns moved at a point. -/
def ext3 (t : Fin cfg3.N) : ℕ := (win3_4.xblock (grid3.coords t)).size 1

theorem ext3_facts : ∀ t : Fin cfg3.N, (win3_1.xblock (grid3.coords t)).size 0 = 512 ∧ (win3_1.xblock (grid3.coords t)).size 1 = ext3 t
    ∧ (win3_2.xblock (grid3.coords t)).size 0 = 1 ∧ (win3_2.xblock (grid3.coords t)).size 1 = ext3 t
    ∧ (win3_4.xblock (grid3.coords t)).size 0 = 336 ∧ ext3 t ≤ 1280 ∧ 1280 * (t.val / 4) + ext3 t ≤ 10000 := by
  decide +kernel

theorem pts3 (t : Fin cfg3.N) : t.val < 32 := lt_of_lt_of_eq t.isLt (by decide +kernel)

/-- A moved column of the weights' block. -/
def at3_1 (t : Fin cfg3.N) (k : Fin 512) (n : ℕ) (hn : n < ext3 t) : (win3_1.xblock (grid3.coords t)).Idx := fun a =>
  match a with
  | ⟨0, _⟩ => ⟨k.val, lt_of_lt_of_eq k.isLt (ext3_facts t).1.symm⟩
  | ⟨1, _⟩ => ⟨n, lt_of_lt_of_eq hn (ext3_facts t).2.1.symm⟩

/-- A moved column of the bias row's block. -/
def at3_2 (t : Fin cfg3.N) (n : ℕ) (hn : n < ext3 t) : (win3_2.xblock (grid3.coords t)).Idx := fun a =>
  match a with
  | ⟨0, _⟩ => ⟨0, lt_of_lt_of_eq Nat.one_pos (ext3_facts t).2.2.1.symm⟩
  | ⟨1, _⟩ => ⟨n, lt_of_lt_of_eq hn (ext3_facts t).2.2.2.1.symm⟩

theorem xinj3_1 (t : Fin cfg3.N) (k : Fin 512) (n : ℕ) (hn : n < ext3 t) :
    win3_1.xinj (grid3.coords t) (at3_1 t k n hn) = ix2 (n0 := 512) (n1 := 1280) k ⟨n, hn.trans_le (ext3_facts t).2.2.2.2.2.1⟩ := by
  funext a; apply Fin.ext; fin_cases a <;> rfl

theorem xinj3_2 (t : Fin cfg3.N) (n : ℕ) (hn : n < ext3 t) :
    win3_2.xinj (grid3.coords t) (at3_2 t n hn) = ix2 (n0 := 1) (n1 := 1280) 0 ⟨n, hn.trans_le (ext3_facts t).2.2.2.2.2.1⟩ := by
  funext a; apply Fin.ext; fin_cases a <;> rfl

theorem xinj3_4 (t : Fin cfg3.N) (y : (win3_4.xblock (grid3.coords t)).Idx) :
    win3_4.xinj (grid3.coords t) y = ix2 (n0 := 336) (n1 := 1280) ⟨(y 0).val, lt_of_lt_of_eq (y 0).isLt (ext3_facts t).2.2.2.2.1⟩
      ⟨(y 1).val, lt_of_lt_of_le (y 1).isLt (ext3_facts t).2.2.2.2.2.1⟩ := by
  funext a; apply Fin.ext; fin_cases a <;> rfl

/-- The columns moved out depend only on the columns moved in. -/
theorem colsOnly : ColsOnly (F := Ideal) := by
  intro t x0 x1 x1' x2 x2' x3 h1 h2
  funext y
  show out3_4 x0 x1 x2 x3 (win3_4.xinj (grid3.coords t) y) = out3_4 x0 x1' x2' x3 (win3_4.xinj (grid3.coords t) y)
  rw [xinj3_4, out3_apply, out3_apply]
  have hn : (y 1).val < ext3 t := (y 1).isLt
  have k1 : ∀ k : Fin 512, x1 (ix2 k ⟨(y 1).val, hn.trans_le (ext3_facts t).2.2.2.2.2.1⟩) = x1' (ix2 k ⟨(y 1).val, hn.trans_le (ext3_facts t).2.2.2.2.2.1⟩) := fun k => by
    have := congrFun h1 (at3_1 t k _ hn)
    rw [← xinj3_1 t k _ hn]
    exact this
  have k2 : x2 (ix2 0 ⟨(y 1).val, hn.trans_le (ext3_facts t).2.2.2.2.2.1⟩) = x2' (ix2 0 ⟨(y 1).val, hn.trans_le (ext3_facts t).2.2.2.2.2.1⟩) := by
    have := congrFun h2 (at3_2 t _ hn)
    rw [← xinj3_2 t _ hn]
    exact this
  rw [k2]
  exact congrArg (fun z => (z + _) * _) (Finset.sum_congr rfl fun k _ => congrArg (_ * ·) (k1 k))

/-! ## The blocks of the arrays -/

theorem blk3_0 (c : Dev nD) (t : Fin cfg3.N) (r : Fin 336) (k : Fin 512) :
    iblk3 V c 0 t (ix2 r k) = V c main_v32 (ix2 (n0 := 1344) ⟨336 * (t.val % 4) + r.val, by omega⟩ k)
      ∧ iblk3 V c 3 t (ix2 r 0) = V c main_v34 (ix2 (n0 := 1344) ⟨336 * (t.val % 4) + r.val, by omega⟩ 0) := by
  have e : ∀ t : Fin cfg3.N, win3_0.index t = ![t.val % 4, 0] ∧ win3_3.index t = ![t.val % 4, 0] := by decide +kernel
  unfold iblk3
  constructor
  · blk_simp
    refine congrArg (V c main_v32) (funext fun a => Fin.ext ?_)
    fin_cases a <;> blk_simp [(e t).1] <;> simp [ix2] <;> omega
  · blk_simp
    refine congrArg (V c main_v34) (funext fun a => Fin.ext ?_)
    fin_cases a <;> blk_simp [(e t).2] <;> simp [ix2] <;> omega

theorem blk3_1 (c : Dev nD) (t : Fin cfg3.N) (k : Fin 512) (n : ℕ) (hn : n < ext3 t) :
    wblk V c t (junk _) (ix2 k ⟨n, hn.trans_le (ext3_facts t).2.2.2.2.2.1⟩)
        = V c main_arg20 (ix2 (n1 := 10000) k ⟨1280 * (t.val / 4) + n, by have := (ext3_facts t).2.2.2.2.2.2; omega⟩)
      ∧ bblk V c t (junk _) (ix2 0 ⟨n, hn.trans_le (ext3_facts t).2.2.2.2.2.1⟩)
        = V c main_v33 (ix2 (n1 := 10000) 0 ⟨1280 * (t.val / 4) + n, by have := (ext3_facts t).2.2.2.2.2.2; omega⟩) := by
  have e : ∀ t : Fin cfg3.N, win3_1.index t = ![0, t.val / 4] ∧ win3_2.index t = ![0, t.val / 4] := by decide +kernel
  constructor
  · rw [← xinj3_1 t k n hn]
    refine (congrFun ((cfg3.win 1).cut_fill (cfg3.grid.coords t) (junk _) (iblk3 V c 1 t)) (at3_1 t k n hn)).trans ?_
    unfold iblk3
    blk_simp
    refine congrArg (V c main_arg20) (funext fun a => Fin.ext ?_)
    fin_cases a <;> blk_simp [(e t).1] <;> simp [ix2, at3_1] <;> omega
  · rw [← xinj3_2 t n hn]
    refine (congrFun ((cfg3.win 2).cut_fill (cfg3.grid.coords t) (junk _) (iblk3 V c 2 t)) (at3_2 t n hn)).trans ?_
    unfold iblk3
    blk_simp
    refine congrArg (V c main_v33) (funext fun a => Fin.ext ?_)
    fin_cases a <;> blk_simp [(e t).2] <;> simp [ix2, at3_2] <;> omega

/-- Every row times the weights, the bias added, masked. -/
def fcArr (x0 : Vec Ideal S1344x512 .f32) (x1 : Vec Ideal S512x10000 .f32) (x2 : Vec Ideal S1x10000 .f32) (x3 : Vec Ideal S1344x1 .f32) : Vec Ideal S1344x10000 .f32 := fun y =>
  (((∑ k, x0 (ix2 (y 0) k) * x1 (ix2 k (y 1))) + x2 (ix2 0 (y 1))) * x3 (ix2 (y 0) 0) : EReal)

theorem emb3_4 (t : Fin cfg3.N) (y : (win3_4.xblock (grid3.coords t)).Idx) :
    ((cfg3.win 4).blk t).view.emb y = ix2 (n0 := 1344) (n1 := 10000)
      ⟨336 * (t.val % 4) + (y 0).val, by have h : (y 0).val < 336 := lt_of_lt_of_eq (y 0).isLt (ext3_facts t).2.2.2.2.1; omega⟩
      ⟨1280 * (t.val / 4) + (y 1).val, by have h : (y 1).val < ext3 t := (y 1).isLt; have := (ext3_facts t).2.2.2.2.2.2; omega⟩ := by
  have e : ∀ t : Fin cfg3.N, win3_4.index t = ![t.val % 4, t.val / 4] := by decide +kernel
  refine funext fun a => Fin.ext ?_
  fin_cases a <;> blk_simp [e] <;> simp [ix2] <;> omega

theorem arr3_4 (c : Dev nD) : (dat3 V c).arrAt 4 cfg3.N = fcArr (V c main_v32) (V c main_arg20) (V c main_v33) (V c main_v34) := by
  refine (dat3 V c).arrAt_eq_of_covers 4 _ (by decide +kernel) fun t hf y => ?_
  rw [show ((cfg3.win 4).blk t).view.emb y = _ from emb3_4 t y]
  refine (cast_eq _ _).trans ?_
  rw [after3_4]
  have hn : (y 1).val < ext3 t := (y 1).isLt
  have h0 : (y 0).val < 336 := lt_of_lt_of_eq (y 0).isLt (ext3_facts t).2.2.2.2.1
  rw [show (cfg3.win 4).xinj (cfg3.grid.coords t) y = _ from xinj3_4 t y, out3_apply]
  unfold fcArr
  refine congrArg₂ (· * ·) (congrArg₂ (· + ·) (Finset.sum_congr rfl fun k _ => congrArg₂ (· * ·) ?_ ?_) ?_) ?_
  · exact (blk3_0 V c t ⟨(y 0).val, h0⟩ k).1
  · exact (blk3_1 V c t k _ hn).1
  · exact (blk3_1 V c t 0 _ hn).2
  · exact (blk3_0 V c t ⟨(y 0).val, h0⟩ 0).2

end Cert.KernelIdeal.Whole
end
-- ==== Proof.Value.ArrEmb.lean ====
/- The embedding call's array: each word's share of the gates. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Run
public import proofs.«01_k».proof.Proof.Value.DecV
public import proofs.«01_k».proof.Proof.Value.EncV
public import Idealize.ShloMosaic.Lib.Pipeline.ValueKit
public import Idealize.ShloMosaic.Lib.Pipeline.Covers
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable (V : (c : Dev nD) → (b : Ref sig .tc) → Buf (Elt Ideal) ((c : Thread nD τ).loc b))

/-- Every row's word looked up and projected, the bias added. -/
def embArr (tb : S1344.Idx → BitVec 32) (x0 : Vec Ideal S10000x512 .f32) (x1 : Vec Ideal S512x2048 .f32) (x2 : Vec Ideal S1x2048 .f32) : Vec Ideal S1344x2048 .f32 := fun y =>
  ((∑ k, x0 (ix2 ⟨(tb (ix1 (y 0))).toNat % 10000, Nat.mod_lt _ (by decide)⟩ k) * x1 (ix2 k (y 1))) + x2 (ix2 0 (y 1)) : EReal)

theorem pts0 (t : Fin (cfgT V).N) : t.val < 8 := t.isLt

theorem blk0_w (c : Dev nD) (t : Fin (cfgT V).N) :
    iblk0 V c 0 t = V c main_arg3 ∧ iblk0 V c 1 t = V c main_v5 ∧ iblk0 V c 2 t = V c main_v7 := by
  have e0 : ∀ t, ((cfgT V).win 0).index t = ![0, 0] := fun t => rfl
  have e1 : ∀ t, ((cfgT V).win 1).index t = ![0, 0] := fun t => rfl
  have e2 : ∀ t, ((cfgT V).win 2).index t = ![0, 0] := fun t => rfl
  unfold iblk0
  refine ⟨?_, ?_, ?_⟩ <;> funext y <;> blk_simp
  · exact congrArg (V c main_arg3) (funext fun a => Fin.ext (by fin_cases a <;> blk_simp [e0] <;> simp [e0]))
  · exact congrArg (V c main_v5) (funext fun a => Fin.ext (by fin_cases a <;> blk_simp [e1] <;> simp [e1]))
  · exact congrArg (V c main_v7) (funext fun a => Fin.ext (by fin_cases a <;> blk_simp [e2] <;> simp [e2]))

theorem pay0_apply (x : Vec Ideal S168x512 .f32) (x1 : Vec Ideal S512x2048 .f32) (x2 : Vec Ideal S1x2048 .f32) (r : Fin 168) (n : Fin 2048) :
    k0_pay1 (F := Ideal) x x1 x2 (ix2 r n) = (∑ k, x (ix2 r k) * x1 (ix2 k n)) + x2 (ix2 0 n) := by
  pointwise [k0_pay1]

theorem coord0 : ∀ t : Fin grid0.N, (grid0.coords t 0).val = t.val := by decide +kernel

theorem cov0_3 : ((cfgT V).win 3).Covers :=
  ((cfgT V).win 3).covers_of_indexMap_surj rfl (fun a => match a with | ⟨0, _⟩ => by show 0 < 168; omega | ⟨1, _⟩ => by show 0 < 2048; omega) fun β => by
    have h0 : (β ⟨0, Nat.zero_lt_two⟩).val < 8 := (β ⟨0, Nat.zero_lt_two⟩).isLt.trans_eq (show (1344 + 168 - 1) / 168 = 8 by norm_num)
    have h1 : (β ⟨1, Nat.one_lt_two⟩).val < 1 := (β ⟨1, Nat.one_lt_two⟩).isLt.trans_eq (show (2048 + 2048 - 1) / 2048 = 1 by norm_num)
    refine ⟨fun a => match a with | ⟨0, _⟩ => ⟨(β ⟨0, Nat.zero_lt_two⟩).val, h0⟩, fun a => ?_⟩
    match a with
    | ⟨0, _⟩ =>
      show (BitVec.ofNat 32 (β ⟨0, Nat.zero_lt_two⟩).val).toNat = (β ⟨0, Nat.zero_lt_two⟩).val
      rw [BitVec.toNat_ofNat]; omega
    | ⟨1, _⟩ =>
      show 0 = (β ⟨1, Nat.one_lt_two⟩).val
      omega

theorem idx0_3 : ∀ t : Fin grid0.N, cc0_transform_3 (grid0.coords t) = ![t.val, 0] := by decide +kernel

theorem emb0_3 (t : Fin (cfgT V).N) (r : Fin 168) (n : Fin 2048) :
    (((cfgT V).win 3).blk t).view.emb (ix2 r n) = ix2 (n0 := 1344) (n1 := 2048) ⟨168 * t.val + r.val, by have := pts0 V t; omega⟩ n := by
  have e : ((cfgT V).win 3).index t = ![t.val, 0] := idx0_3 t
  refine funext fun a => Fin.ext ?_
  fin_cases a <;> blk_simp [e] <;> simp [ix2, e] <;> omega

theorem arr0_3 (c : Dev nD) : (dat0 V c).arrAt 3 (cfgT V).N = embArr (V 0 main_v4) (V c main_arg3) (V c main_v5) (V c main_v7) := by
  refine (dat0 V c).arrAt_eq_of_covers 3 _ (cov0_3 V) fun t hf y => ?_
  obtain ⟨r, n, rfl⟩ : ∃ (r : Fin 168) (n : Fin 2048), y = ix2 r n := ⟨_, _, eq_ix2 y⟩
  blk_simp
  have ht := pts0 V t
  rw [show (((cfgT V).win 3).blk t).view.emb (ix2 r n) = _ from emb0_3 V t r n, show (dat0 V c).after 3 t = _ from after0_3 V c t]
  unfold out0
  obtain ⟨h0, h1, h2⟩ := blk0_w V c t
  rw [h0, h1, h2, pay0_apply]
  have hw (k : Fin 512) : (⟨(168 * (grid0.coords t 0).val + (ix2 (n0 := 168) (n1 := 512) r k 0).val) % 1344, Nat.mod_lt _ (by decide)⟩ : Fin 1344) = ⟨168 * t.val + r.val, by have := r.isLt; omega⟩ :=
    Fin.ext (by have := r.isLt; show (168 * (grid0.coords t 0).val + r.val) % 1344 = 168 * t.val + r.val; rw [coord0]; omega)
  unfold rows0 word0
  dsimp only
  unfold embArr
  refine congrArg₂ (· + ·) (Finset.sum_congr rfl fun k _ => congrArg₂ (· * ·) ?_ rfl) rfl
  exact congrArg (fun q : Fin 1344 => V c main_arg3 (ix2 ⟨(V 0 main_v4 (ix1 q)).toNat % 10000, Nat.mod_lt _ (by decide)⟩ k)) (hw k)

end Cert.KernelIdeal.Whole
end
-- ==== Proof.Model.lean ====
/- What both programs compute, as functions of the twenty-two arguments. -/
module

public import proofs.«01_k».proof.Proof.Spec
public import Idealize.ShloMosaic.Lib.ValueIdx
public import Idealize.ShloMosaic.Lib.Pointwise

@[expose] public section

noncomputable section

namespace Cert.Model

open Idealize.ShloMosaic

/-- The arguments, in order. -/
structure Inp where
  a0 : Vec Ideal ⟨3, ![64, 196, 2048]⟩ .f32
  a1 : Vec Ideal ⟨2, ![64, 22]⟩ .i32
  a2 : Vec Ideal ⟨1, ![64]⟩ .i32
  a3 : Vec Ideal ⟨2, ![10000, 512]⟩ .f32
  a4 : Vec Ideal ⟨2, ![2048, 512]⟩ .f32
  a5 : Vec Ideal ⟨1, ![512]⟩ .f32
  a6 : Vec Ideal ⟨2, ![512, 512]⟩ .f32
  a7 : Vec Ideal ⟨1, ![512]⟩ .f32
  a8 : Vec Ideal ⟨2, ![512, 1]⟩ .f32
  a9 : Vec Ideal ⟨1, ![1]⟩ .f32
  a10 : Vec Ideal ⟨2, ![2048, 512]⟩ .f32
  a11 : Vec Ideal ⟨1, ![512]⟩ .f32
  a12 : Vec Ideal ⟨2, ![2048, 512]⟩ .f32
  a13 : Vec Ideal ⟨1, ![512]⟩ .f32
  a14 : Vec Ideal ⟨2, ![512, 2048]⟩ .f32
  a15 : Vec Ideal ⟨1, ![2048]⟩ .f32
  a16 : Vec Ideal ⟨2, ![2560, 2048]⟩ .f32
  a17 : Vec Ideal ⟨2, ![512, 2048]⟩ .f32
  a18 : Vec Ideal ⟨1, ![2048]⟩ .f32
  a19 : Vec Ideal ⟨1, ![2048]⟩ .f32
  a20 : Vec Ideal ⟨2, ![512, 10000]⟩ .f32
  a21 : Vec Ideal ⟨1, ![10000]⟩ .f32

variable (I : Inp)

/-- The weights a step uses. -/
def par : Spec.Par where
  daW k u := I.a6 (ix2 k u)
  dab u := I.a7 (ix1 u)
  aw u := I.a8 (ix2 u 0)
  ab := I.a9 (ix1 0)
  fW k j := I.a14 (ix2 k j)
  fb j := I.a15 (ix1 j)
  wz j n := I.a16 (ix2 ⟨512 + j.val, by omega⟩ n)
  wh k n := I.a17 (ix2 k n)

/-- Row `b`'s pixels, their projection, and the projection of their mean. -/
def pix (b : Fin 64) (p : Fin 196) (j : Fin 2048) : EReal := I.a0 (ix3 b p j)
def proj (b : Fin 64) (p : Fin 196) (u : Fin 512) : EReal := (∑ j, I.a0 (ix3 b p j) * I.a4 (ix2 j u)) + I.a5 (ix1 u)
def mean (b : Fin 64) (W : Vec Ideal ⟨2, ![2048, 512]⟩ .f32) (B : Vec Ideal ⟨1, ![512]⟩ .f32) (u : Fin 512) : EReal :=
  (∑ j, Ideal.div (∑ p, I.a0 (ix3 b p j)) ((196 : ℝ) : EReal) * W (ix2 j u)) + B (ix1 u)

/-- The row of the embedding table that row `b`'s word `k` names. -/
def word (k : Fin 21) (b : Fin 64) : Fin 10000 := ⟨(I.a1 (ix2 b ⟨k.val, by omega⟩)).toNat % 10000, Nat.mod_lt _ (by decide)⟩

/-- That word's share of the gates, with both biases. -/
def share (b : Fin 64) (k : ℕ) (n : Fin 2048) : EReal :=
  if h : k < 21 then (∑ d : Fin 512, I.a3 (ix2 (word I ⟨k, h⟩ b) d) * I.a16 (ix2 ⟨d.val, by omega⟩ n)) + (I.a18 (ix1 n) + I.a19 (ix1 n)) else 0

/-- Row `b`'s state and cell after `k` steps. -/
def state (b : Fin 64) (k : ℕ) : (Fin 512 → EReal) × (Fin 512 → EReal) :=
  Spec.run (par I) (proj I b) (pix I b) (share I b) (mean I b I.a10 I.a11, mean I b I.a12 I.a13) k

/-- Whether row `b` still decodes at step `k`. -/
def act (k : Fin 21) (b : Fin 64) : BitVec 1 := IntOp.cmpi CmpIPredicate.sgt (IntOp.subi (I.a2 (ix1 b)) 1#32) (BitVec.ofNat 32 k.val)

/-- The predictions and the attention weights. -/
def preds : Vec Ideal ⟨3, ![64, 21, 10000]⟩ .f32 := fun y =>
  Scalar.select (act I (y 1) (y 0)) ((∑ u, (state I (y 0) ((y 1 : Fin 21).val + 1)).1 u * I.a20 (ix2 u (y 2))) + I.a21 (ix1 (y 2))) (0 : EReal)
def alphas : Vec Ideal ⟨3, ![64, 21, 196]⟩ .f32 := fun y =>
  Scalar.select (act I (y 1) (y 0)) (Spec.att (Spec.score (par I) (proj I (y 0)) (state I (y 0) (y 1 : Fin 21).val).1) (y 2)) (0 : EReal)

end Cert.Model
end
-- ==== Proof.Value.Host1.lean ====
/- What each stretch of host operations of the kernel leaves in its buffers, read at an index. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Run
public import proofs.«01_k».proof.Proof.Value.ArrDec
public import proofs.«01_k».proof.Proof.Value.ArrEnc
public import proofs.«01_k».proof.Proof.Value.ArrFc
public import proofs.«01_k».proof.Proof.Value.ArrEmb
public import proofs.«01_k».proof.Proof.Ideal.Frame
public import proofs.«01_k».proof.Proof.Model
public import Idealize.ShloMosaic.Lib.StableHlo.RunRead
public import Idealize.ShloMosaic.Lib.StableHlo.ReadAt
public import Idealize.ShloMosaic.Lib.Pipeline.ValueKit
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable (m : (ℓ : Loc nD τ sig) → Buf (Elt Ideal) ℓ) (c : Dev nD)

/-- The arguments, as a memory holds them. -/
def kin : Model.Inp where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)
  a21 := m ((c : Thread nD τ).loc main_arg21)

theorem W2_arg (r : Ref sig .tc) (hr : r ∈ argRefs) : W2 m c (Proc.devRef .tc r) = m ((c : Thread nD τ).loc r) :=
  (W2_of m c r (args_in r hr).1).trans (W1_of m c r (args_off r hr).1)
theorem W4_arg (r : Ref sig .tc) (hr : r ∈ argRefs) : W4 m c (Proc.devRef .tc r) = m ((c : Thread nD τ).loc r) :=
  (W4_of m c r (args_in r hr).2.1).trans ((W3_of m c r (args_off r hr).2.1).trans (W2_arg m c r hr))
theorem W6_arg (r : Ref sig .tc) (hr : r ∈ argRefs) : W6 m c (Proc.devRef .tc r) = m ((c : Thread nD τ).loc r) :=
  (W6_of m c r (args_in r hr).2.2.1).trans ((W5_of m c r (args_off r hr).2.2.1).trans (W4_arg m c r hr))

/-! ## What a host stretch leaves in a buffer, by what it entered with -/

variable (X : Valuation τ sig (Elt Ideal))

theorem o2_v23 (k : Fin 512) (q : Fin 4608) : (StableHlo.after hostOps2 X (Proc.devRef .tc main_v23) : Vec Ideal S512x4608 .bf16) (ix2 k q)
    = if h : q.val < 512 then (X (Proc.devRef .tc main_arg6) : Vec Ideal S512x512 .f32) (ix2 k ⟨q.val, h⟩)
      else if h : q.val < 2560 then (X (Proc.devRef .tc main_arg14) : Vec Ideal S512x2048 .f32) (ix2 k ⟨q.val - 512, by omega⟩)
      else (X (Proc.devRef .tc main_arg17) : Vec Ideal S512x2048 .f32) (ix2 k ⟨q.val - 2560, by omega⟩) := by
  simp only [hostOps2]
  after_reads_simp
  pointwise
  after_reads_simp
  have hq := q.isLt
  by_cases h1 : q.val < 512
  · simp only [dif_pos h1]
  · simp only [dif_neg h1]
    by_cases h2 : q.val < 2560
    · rw [dif_pos (show q.val - 512 < 2048 by omega), dif_pos h2]
    · rw [dif_neg (show ¬ q.val - 512 < 2048 by omega), dif_neg h2]
      exact congrArg (fun a : Fin 2048 => (X (Proc.devRef .tc main_arg17) : Vec Ideal S512x2048 .f32) (ix2 k a)) (Fin.ext (by show q.val - 512 - 2048 = q.val - 2560; omega))
theorem o2_v24 (u : Fin 512) : (StableHlo.after hostOps2 X (Proc.devRef .tc main_v24) : Vec Ideal S1x512 .f32) (ix2 0 u)
    = (X (Proc.devRef .tc main_arg7) : Vec Ideal S512 .f32) (ix1 u) := by
  simp only [hostOps2]
  after_reads_simp
  pointwise
theorem o2_v26 (u : Fin 512) : (StableHlo.after hostOps2 X (Proc.devRef .tc main_v26) : Vec Ideal S1x512 .bf16) (ix2 0 u)
    = (X (Proc.devRef .tc main_arg8) : Vec Ideal S512x1 .f32) (ix2 u 0) := by
  simp only [hostOps2]
  after_reads_simp
  pointwise
theorem o2_v27  : (StableHlo.after hostOps2 X (Proc.devRef .tc main_v27) : Vec Ideal S1x1 .f32) (ix2 0 0)
    = (X (Proc.devRef .tc main_arg9) : Vec Ideal S1 .f32) (ix1 0) := by
  simp only [hostOps2]
  after_reads_simp
  pointwise
theorem o2_v28 (u : Fin 2048) : (StableHlo.after hostOps2 X (Proc.devRef .tc main_v28) : Vec Ideal S1x2048 .f32) (ix2 0 u)
    = (X (Proc.devRef .tc main_arg15) : Vec Ideal S2048 .f32) (ix1 u) := by
  simp only [hostOps2]
  after_reads_simp
  pointwise
theorem o2_v30 (j n : Fin 2048) : (StableHlo.after hostOps2 X (Proc.devRef .tc main_v30) : Vec Ideal S2048x2048 .bf16) (ix2 j n)
    = (X (Proc.devRef .tc main_arg16) : Vec Ideal S2560x2048 .f32) (ix2 ⟨512 + j.val, by omega⟩ n) := by
  simp only [hostOps2]
  after_reads_simp
  pointwise
theorem o2_v21 (k : Fin 21) (b : Fin 64) : (StableHlo.after hostOps2 X (Proc.devRef .tc main_v21) : Vec Ideal S21x64x1 .f32) (ix3 k b 0)
    = FloatOps.uitofp (F := Ideal) .f32 (IntOp.cmpi CmpIPredicate.slt (BitVec.ofNat 32 k.val) ((X (Proc.devRef .tc main_v1) : Vec Ideal S64 .i32) (ix1 b))) := by
  simp only [hostOps2]
  after_reads_simp
  pointwise
theorem o0_v1 (b : Fin 64) : (StableHlo.after hostOps0 X (Proc.devRef .tc main_v1) : Vec Ideal S64 .i32) (ix1 b)
    = IntOp.subi ((X (Proc.devRef .tc main_arg2) : Vec Ideal S64 .i32) (ix1 b)) 1#32 := by
  simp only [hostOps0]
  after_reads_simp
  pointwise
theorem o0_v4 (k : Fin 21) (b : Fin 64) : (StableHlo.after hostOps0 X (Proc.devRef .tc main_v4) : Vec Ideal S1344 .i32) (ix1 ⟨64 * k.val + b.val, by omega⟩)
    = (X (Proc.devRef .tc main_arg1) : Vec Ideal S64x22 .i32) (ix2 b ⟨k.val, by omega⟩) := by
  simp only [hostOps0]
  after_reads_simp
  pointwise
theorem o0_v5 (k : Fin 512) (n : Fin 2048) : (StableHlo.after hostOps0 X (Proc.devRef .tc main_v5) : Vec Ideal S512x2048 .f32) (ix2 k n)
    = (X (Proc.devRef .tc main_arg16) : Vec Ideal S2560x2048 .f32) (ix2 ⟨k.val, by omega⟩ n) := by
  simp only [hostOps0]
  after_reads_simp
  pointwise
theorem o0_v7 (n : Fin 2048) : (StableHlo.after hostOps0 X (Proc.devRef .tc main_v7) : Vec Ideal S1x2048 .f32) (ix2 0 n)
    = HAdd.hAdd (α := EReal) (β := EReal) (γ := EReal) (X (Proc.devRef .tc main_arg18) (ix1 n)) (X (Proc.devRef .tc main_arg19) (ix1 n)) := by
  simp only [hostOps0]
  after_reads_simp
  pointwise
theorem o1_v9 (k : Fin 21) (b : Fin 64) (n : Fin 2048) : (StableHlo.after hostOps1 X (Proc.devRef .tc main_v9) : Vec Ideal S21x64x2048 .f32) (ix3 k b n)
    = (X (Proc.devRef .tc main_v8) : Vec Ideal S1344x2048 .f32) (ix2 ⟨64 * k.val + b.val, by omega⟩ n) := by
  simp only [hostOps1]
  after_reads_simp
  pointwise
  simp only [Nat.mul_comm]
theorem o1_v10 (u : Fin 512) : (StableHlo.after hostOps1 X (Proc.devRef .tc main_v10) : Vec Ideal S1x512 .f32) (ix2 0 u)
    = (X (Proc.devRef .tc main_arg5) : Vec Ideal S512 .f32) (ix1 u) := by
  simp only [hostOps1]
  after_reads_simp
  pointwise
theorem o1_v11 (u : Fin 512) : (StableHlo.after hostOps1 X (Proc.devRef .tc main_v11) : Vec Ideal S1x512 .f32) (ix2 0 u)
    = (X (Proc.devRef .tc main_arg11) : Vec Ideal S512 .f32) (ix1 u) := by
  simp only [hostOps1]
  after_reads_simp
  pointwise
theorem o1_v12 (u : Fin 512) : (StableHlo.after hostOps1 X (Proc.devRef .tc main_v12) : Vec Ideal S1x512 .f32) (ix2 0 u)
    = (X (Proc.devRef .tc main_arg13) : Vec Ideal S512 .f32) (ix1 u) := by
  simp only [hostOps1]
  after_reads_simp
  pointwise
theorem o3_v32 (k : Fin 21) (b : Fin 64) (u : Fin 512) : (StableHlo.after hostOps3 X (Proc.devRef .tc main_v32) : Vec Ideal S1344x512 .f32) (ix2 ⟨64 * k.val + b.val, by omega⟩ u)
    = (X (Proc.devRef .tc main_v31_0) : Vec Ideal S21x64x512 .f32) (ix3 k b u) := by
  simp only [hostOps3]
  after_reads_simp
  pointwise
theorem o3_v33 (v : Fin 10000) : (StableHlo.after hostOps3 X (Proc.devRef .tc main_v33) : Vec Ideal S1x10000 .f32) (ix2 0 v)
    = (X (Proc.devRef .tc main_arg21) : Vec Ideal S10000 .f32) (ix1 v) := by
  simp only [hostOps3]
  after_reads_simp
  pointwise
theorem o3_v34 (k : Fin 21) (b : Fin 64) : (StableHlo.after hostOps3 X (Proc.devRef .tc main_v34) : Vec Ideal S1344x1 .f32) (ix2 ⟨64 * k.val + b.val, by omega⟩ 0)
    = (X (Proc.devRef .tc main_v21) : Vec Ideal S21x64x1 .f32) (ix3 k b 0) := by
  simp only [hostOps3]
  after_reads_simp
  pointwise
theorem o4_v37 (b : Fin 64) (k : Fin 21) (v : Fin 10000) : (StableHlo.after hostOps4 X (Proc.devRef .tc main_v37) : Vec Ideal S64x21x10000 .f32) (ix3 b k v)
    = (X (Proc.devRef .tc main_v35) : Vec Ideal S1344x10000 .f32) (ix2 ⟨64 * k.val + b.val, by omega⟩ v) := by
  simp only [hostOps4]
  after_reads_simp
  pointwise
  simp only [Nat.mul_comm]
theorem o4_v38 (b : Fin 64) (k : Fin 21) (p : Fin 196) : (StableHlo.after hostOps4 X (Proc.devRef .tc main_v38) : Vec Ideal S64x21x196 .f32) (ix3 b k p)
    = (X (Proc.devRef .tc main_v31_1) : Vec Ideal S21x64x196 .f32) (ix3 k b p) := by
  simp only [hostOps4]
  after_reads_simp
  pointwise

end Cert.KernelIdeal.Whole
end
-- ==== Proof.Value.Host2.lean ====
/- What the decode call is entered with, by the arguments. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Run
public import proofs.«01_k».proof.Proof.Value.Host1
public import proofs.«01_k».proof.Proof.Value.ArrDec
public import proofs.«01_k».proof.Proof.Value.ArrEnc
public import proofs.«01_k».proof.Proof.Value.ArrFc
public import proofs.«01_k».proof.Proof.Value.ArrEmb
public import proofs.«01_k».proof.Proof.Ideal.Frame
public import proofs.«01_k».proof.Proof.Model
public import Idealize.ShloMosaic.Lib.StableHlo.RunRead
public import Idealize.ShloMosaic.Lib.StableHlo.ReadAt
public import Idealize.ShloMosaic.Lib.Pipeline.ValueKit
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable (m : (ℓ : Loc nD τ sig) → Buf (Elt Ideal) ℓ) (c : Dev nD)

theorem dev_zero : c = 0 := Fin.ext (by have : c.val < 1 := c.isLt; show c.val = 0; omega)

/-! ## The first call's array: each word's share of the gates -/

theorem W2_v8 : W2 m c (Proc.devRef .tc main_v8) = embArr (W1 m 0 (Proc.devRef .tc main_v4)) (W1 m c (Proc.devRef .tc main_arg3)) (W1 m c (Proc.devRef .tc main_v5)) (W1 m c (Proc.devRef .tc main_v7)) :=
  (Pipeline.withArrays_arr spec0 (launch0 (F := Ideal)).win.arr_inj c (W1 m c) _ 3).trans (arr0_3 (atTc (W1 m)) c)

theorem W5_v9 : W5 m c (Proc.devRef .tc main_v9) = W3 m c (Proc.devRef .tc main_v9) :=
  (W5_of m c main_v9 (by decide +kernel)).trans (W4_of m c main_v9 (by decide +kernel))

theorem embArr_at (tb : S1344.Idx → BitVec 32) (x0 : Vec Ideal S10000x512 .f32) (x1 : Vec Ideal S512x2048 .f32) (x2 : Vec Ideal S1x2048 .f32) (r : Fin 1344) (n : Fin 2048) :
    embArr tb x0 x1 x2 (ix2 r n) = (∑ k, x0 (ix2 ⟨(tb (ix1 r)).toNat % 10000, Nat.mod_lt _ (by decide)⟩ k) * x1 (ix2 k n)) + x2 (ix2 0 n) := rfl

theorem word_eq (B : Fin 64) : wordV (atTc (W5 m)) c B = Model.share (kin m c) B := by
  obtain rfl := dev_zero c
  funext k n
  unfold wordV Model.share
  by_cases h : k < 21
  · refine (dif_pos h).trans (Eq.trans ?_ (dif_pos h).symm)
    show (W5 m 0 (Proc.devRef .tc main_v9) : Vec Ideal S21x64x2048 .f32) (ix3 ⟨k, h⟩ B n) = _
    rw [W5_v9]
    refine (o1_v9 (W2 m 0) ⟨k, h⟩ B n).trans ?_
    rw [W2_v8]
    refine (embArr_at _ _ _ _ _ n).trans ?_
    rw [show (W1 m 0 (Proc.devRef .tc main_v7) : Vec Ideal S1x2048 .f32) (ix2 0 n) = _ from o0_v7 (W0 m 0) n]
    refine congrArg (· + _) (Finset.sum_congr rfl fun d _ => ?_)
    have hw := o0_v4 (W0 m 0) ⟨k, h⟩ B
    refine congrArg₂ (HMul.hMul (α := EReal) (β := EReal) (γ := EReal)) ?_ (o0_v5 (W0 m 0) d n)
    rw [W1_of m 0 main_arg3 (by decide +kernel)]
    refine congrArg (fun q : Fin 10000 => m (((0 : Dev nD) : Thread nD τ).loc main_arg3) (ix2 q d)) (Fin.ext ?_)
    exact congrArg (fun w : BitVec 32 => w.toNat % 10000) hw
  · rw [dif_neg h, dif_neg h]

/-! ## The second call's arrays: the pixels, their projection, the first state -/

theorem W4_v13_0 : W4 m c (Proc.devRef .tc main_v13_0) = projArr (W3 m c (Proc.devRef .tc main_arg0)) (W3 m c (Proc.devRef .tc main_arg4)) (W3 m c (Proc.devRef .tc main_v10)) :=
  (Pipeline.withArrays_arr spec1 (launch1 (F := Ideal)).win.arr_inj c (W3 m c) _ 7).trans (arr1_7 (atTc (W3 m)) c)
theorem W4_v13_1 : W4 m c (Proc.devRef .tc main_v13_1) = pixArr (W3 m c (Proc.devRef .tc main_arg0)) :=
  (Pipeline.withArrays_arr spec1 (launch1 (F := Ideal)).win.arr_inj c (W3 m c) _ 8).trans (arr1_8 (atTc (W3 m)) c)
theorem W4_v13_2 : W4 m c (Proc.devRef .tc main_v13_2) = meanArr (W3 m c (Proc.devRef .tc main_arg0)) (W3 m c (Proc.devRef .tc main_arg10)) (W3 m c (Proc.devRef .tc main_v11)) :=
  (Pipeline.withArrays_arr spec1 (launch1 (F := Ideal)).win.arr_inj c (W3 m c) _ 9).trans (arr1_9 (atTc (W3 m)) c)
theorem W4_v13_3 : W4 m c (Proc.devRef .tc main_v13_3) = meanArr (W3 m c (Proc.devRef .tc main_arg0)) (W3 m c (Proc.devRef .tc main_arg12)) (W3 m c (Proc.devRef .tc main_v12)) :=
  (Pipeline.withArrays_arr spec1 (launch1 (F := Ideal)).win.arr_inj c (W3 m c) _ 10).trans (arr1_10 (atTc (W3 m)) c)

theorem W3_arg (r : Ref sig .tc) (hr : r ∈ argRefs) : W3 m c (Proc.devRef .tc r) = m ((c : Thread nD τ).loc r) :=
  (W3_of m c r (args_off r hr).2.1).trans (W2_arg m c r hr)

theorem pixArr_at (x0 : Vec Ideal S64x196x2048 .f32) (B : Fin 64) (q : Fin 208) (j : Fin 2048) :
    pixArr x0 (ix2 ⟨208 * B.val + q.val, by omega⟩ j) = if h : q.val < 196 then x0 (ix3 B ⟨q.val, h⟩ j) else (0 : EReal) := by
  have e1 : (208 * B.val + q.val) % 208 = q.val := by omega
  have e2 : (208 * B.val + q.val) / 208 = B.val := by omega
  unfold pixArr
  show (if h : (208 * B.val + q.val) % 208 < 196 then x0 (ix3 ⟨(208 * B.val + q.val) / 208, by omega⟩ ⟨(208 * B.val + q.val) % 208, h⟩ j) else (0 : EReal)) = _
  simp only [e1, e2]

theorem projArr_at (x0 : Vec Ideal S64x196x2048 .f32) (x1 : Vec Ideal S2048x512 .f32) (x2 : Vec Ideal S1x512 .f32) (B : Fin 64) (p : Fin 196) (u : Fin 512) :
    projArr x0 x1 x2 (ix2 ⟨208 * B.val + p.val, by omega⟩ u) = (∑ j, x0 (ix3 B p j) * x1 (ix2 j u)) + x2 (ix2 0 u) := by
  have e1 : (208 * B.val + p.val) % 208 = p.val := by omega
  have e2 : (208 * B.val + p.val) / 208 = B.val := by omega
  have hp : p.val < 196 := p.isLt
  unfold projArr
  show (if h : (208 * B.val + p.val) % 208 < 196 then (∑ j, x0 (ix3 ⟨(208 * B.val + p.val) / 208, by omega⟩ ⟨(208 * B.val + p.val) % 208, h⟩ j) * x1 (ix2 j u)) + x2 (ix2 0 u) else (0 : EReal)) = _
  simp only [e1, e2, dif_pos hp]

theorem W5_v13 (r : Ref sig .tc) (hr : r ∈ [main_v13_0, main_v13_1, main_v13_2, main_v13_3]) : W5 m c (Proc.devRef .tc r) = W4 m c (Proc.devRef .tc r) :=
  W5_of m c r ((ListAll.forall_mem_of_all_decide (p := fun r => r ∉ hostOps2_W) (by decide +kernel)) r hr)

theorem pad_zero : PadZero (atTc (W5 m)) c := fun B q j hq => by
  show W5 m c (Proc.devRef .tc main_v13_1) _ = _
  rw [W5_v13 m c main_v13_1 (by decide +kernel), W4_v13_1]
  exact (pixArr_at _ B q j).trans (dif_neg hq)

theorem pix_eq (B : Fin 64) : pixV (atTc (W5 m)) c B = Model.pix (kin m c) B := by
  funext p j
  unfold pixV
  show W5 m c (Proc.devRef .tc main_v13_1) _ = _
  rw [W5_v13 m c main_v13_1 (by decide +kernel), W4_v13_1, W3_arg m c main_arg0 (by decide +kernel)]
  exact (pixArr_at _ B ⟨p.val, by omega⟩ j).trans (dif_pos p.isLt)

theorem att_eq (B : Fin 64) : attV (atTc (W5 m)) c B = Model.proj (kin m c) B := by
  funext p u
  unfold attV
  show W5 m c (Proc.devRef .tc main_v13_0) _ = _
  rw [W5_v13 m c main_v13_0 (by decide +kernel), W4_v13_0, W3_arg m c main_arg0 (by decide +kernel), W3_arg m c main_arg4 (by decide +kernel)]
  refine (projArr_at _ _ _ B p u).trans ?_
  rw [show (W3 m c (Proc.devRef .tc main_v10) : Vec Ideal S1x512 .f32) (ix2 0 u) = _ from o1_v10 (W2 m c) u, W2_arg m c main_arg5 (by decide +kernel)]
  rfl

theorem meanArr_at (x0 : Vec Ideal S64x196x2048 .f32) (x1 : Vec Ideal S2048x512 .f32) (x2 : Vec Ideal S1x512 .f32) (B : Fin 64) (u : Fin 512) :
    meanArr x0 x1 x2 (ix2 B u) = (∑ j, Ideal.div (∑ p, x0 (ix3 B p j)) ((196 : ℝ) : EReal) * x1 (ix2 j u)) + x2 (ix2 0 u) := by
  unfold meanArr
  show (∑ j, (∑ p : Fin 196, ((1 / 196 : ℝ) : EReal) * x0 (ix3 B p j)) * x1 (ix2 j u)) + x2 (ix2 0 u) = _
  refine congrArg (fun s : EReal => s + x2 (ix2 0 u)) (Finset.sum_congr rfl fun j _ => congrArg (fun s : EReal => s * x1 (ix2 j u)) ?_)
  rw [Spec.div_196, Spec.mul_sum_of_nonneg _ (by norm_num)]

theorem h_eq (B : Fin 64) (u : Fin 512) : (W5 m c (Proc.devRef .tc main_v13_2) : Vec Ideal S64x512 .f32) (ix2 B u) = Model.mean (kin m c) B (kin m c).a10 (kin m c).a11 u := by
  rw [W5_v13 m c main_v13_2 (by decide +kernel), W4_v13_2, W3_arg m c main_arg0 (by decide +kernel), W3_arg m c main_arg10 (by decide +kernel)]
  refine (meanArr_at _ _ _ B u).trans ?_
  rw [show (W3 m c (Proc.devRef .tc main_v11) : Vec Ideal S1x512 .f32) (ix2 0 u) = _ from o1_v11 (W2 m c) u, W2_arg m c main_arg11 (by decide +kernel)]
  rfl

theorem c_eq (B : Fin 64) (u : Fin 512) : (W5 m c (Proc.devRef .tc main_v13_3) : Vec Ideal S64x512 .f32) (ix2 B u) = Model.mean (kin m c) B (kin m c).a12 (kin m c).a13 u := by
  rw [W5_v13 m c main_v13_3 (by decide +kernel), W4_v13_3, W3_arg m c main_arg0 (by decide +kernel), W3_arg m c main_arg12 (by decide +kernel)]
  refine (meanArr_at _ _ _ B u).trans ?_
  rw [show (W3 m c (Proc.devRef .tc main_v12) : Vec Ideal S1x512 .f32) (ix2 0 u) = _ from o1_v12 (W2 m c) u, W2_arg m c main_arg13 (by decide +kernel)]
  rfl

/-! ## The weights and the mask -/

theorem par_eq : parV (atTc (W5 m)) c = Model.par (kin m c) := by
  have e6 := W4_arg m c main_arg6 (by decide +kernel)
  have e14 := W4_arg m c main_arg14 (by decide +kernel)
  have e17 := W4_arg m c main_arg17 (by decide +kernel)
  unfold parV parOf Model.par
  refine Spec.Par.mk.injEq .. |>.mpr ⟨?_, ?_, ?_, ?_, ?_, ?_, ?_, ?_⟩
  · funext k u
    refine (o2_v23 (W4 m c) k ⟨u.val, by omega⟩).trans ((dif_pos u.isLt).trans ?_)
    rw [e6]; rfl
  · funext u
    refine (o2_v24 (W4 m c) u).trans ?_
    rw [W4_arg m c main_arg7 (by decide +kernel)]; rfl
  · funext u
    refine (o2_v26 (W4 m c) u).trans ?_
    rw [W4_arg m c main_arg8 (by decide +kernel)]; rfl
  · refine (o2_v27 (W4 m c)).trans ?_
    rw [W4_arg m c main_arg9 (by decide +kernel)]; rfl
  · funext k j
    refine (o2_v23 (W4 m c) k ⟨512 + j.val, by omega⟩).trans ((dif_neg (by show ¬ 512 + j.val < 512; omega)).trans ((dif_pos (by show 512 + j.val < 2560; omega)).trans ?_))
    rw [e14]
    exact congrArg (fun q : Fin 2048 => (kin m c).a14 (ix2 k q)) (Fin.ext (by show 512 + j.val - 512 = j.val; omega))
  · funext u
    refine (o2_v28 (W4 m c) u).trans ?_
    rw [W4_arg m c main_arg15 (by decide +kernel)]; rfl
  · funext j n
    refine (o2_v30 (W4 m c) j n).trans ?_
    rw [W4_arg m c main_arg16 (by decide +kernel)]; rfl
  · funext k n
    refine (o2_v23 (W4 m c) k ⟨2560 + n.val, by omega⟩).trans ((dif_neg (by show ¬ 2560 + n.val < 512; omega)).trans ((dif_neg (by show ¬ 2560 + n.val < 2560; omega)).trans ?_))
    rw [e17]
    exact congrArg (fun q : Fin 2048 => (kin m c).a17 (ix2 k q)) (Fin.ext (by show 2560 + n.val - 2560 = n.val; omega))

/-- Row `B`'s state after `k` steps is the model's. -/
theorem state_eq (B : Fin 64) (k : ℕ) : stateV (atTc (W5 m)) c B k = Model.state (kin m c) B k := by
  unfold stateV Model.state
  rw [par_eq, att_eq, pix_eq, word_eq]
  exact congrArg (fun s => Spec.run (Model.par (kin m c)) (Model.proj (kin m c) B) (Model.pix (kin m c) B) (Model.share (kin m c) B) s k)
    (Prod.ext (funext (h_eq m c B)) (funext (c_eq m c B)))

/-- The decode lengths are in place from the first stretch on. -/
theorem W4_v1 : W4 m c (Proc.devRef .tc main_v1) = W1 m c (Proc.devRef .tc main_v1) :=
  (W4_of m c main_v1 (by decide +kernel)).trans ((W3_of m c main_v1 (by decide +kernel)).trans (W2_of m c main_v1 (by decide +kernel)))

theorem mask_eq (k : Fin 21) (B : Fin 64) : (W5 m c (Proc.devRef .tc main_v21) : Vec Ideal S21x64x1 .f32) (ix3 k B 0) = (((Model.act (kin m c) k B).toNat : ℝ) : EReal) := by
  refine (o2_v21 (W4 m c) k B).trans ?_
  rw [W4_v1, show (W1 m c (Proc.devRef .tc main_v1) : Vec Ideal S64 .i32) (ix1 B) = _ from o0_v1 (W0 m c) B]
  rfl

/-- Times a bit's value is selecting by it. -/
theorem mul_bit (x : EReal) (w : BitVec 1) : x * ((w.toNat : ℝ) : EReal) = Scalar.select w x (0 : EReal) := by
  rcases (by have := w.isLt; omega : w.toNat = 0 ∨ w.toNat = 1) with h | h
  · obtain rfl : w = 0#1 := BitVec.eq_of_toNat_eq h
    rw [ValueIdx.select_zero]; simp
  · obtain rfl : w = 1#1 := BitVec.eq_of_toNat_eq h
    rw [ValueIdx.select_one]; simp

end Cert.KernelIdeal.Whole
end
-- ==== Proof.Value.Host3.lean ====
/- The kernel's results by the arguments. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Ideal.Run
public import proofs.«01_k».proof.Proof.Value.Host2
public import proofs.«01_k».proof.Proof.Value.ArrDec
public import proofs.«01_k».proof.Proof.Value.ArrEnc
public import proofs.«01_k».proof.Proof.Value.ArrFc
public import proofs.«01_k».proof.Proof.Value.ArrEmb
public import proofs.«01_k».proof.Proof.Ideal.Frame
public import proofs.«01_k».proof.Proof.Model
public import Idealize.ShloMosaic.Lib.StableHlo.RunRead
public import Idealize.ShloMosaic.Lib.StableHlo.ReadAt
public import Idealize.ShloMosaic.Lib.Pipeline.ValueKit
public import proofs.«01_k».proof.Proof.Spec
public import Idealize.ShloMosaic.Lib.ValueIdx
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts

variable (m : (ℓ : Loc nD τ sig) → Buf (Elt Ideal) ℓ) (c : Dev nD)

theorem W6_v31_0 : W6 m c (Proc.devRef .tc main_v31_0) = statesV (atTc (W5 m)) c :=
  (Pipeline.withArrays_arr spec2 (launch2 (F := Ideal)).win.arr_inj c (W5 m c) _ 12).trans (arr2_12 (atTc (W5 m)) c (pad_zero m c))
theorem W6_v31_1 : W6 m c (Proc.devRef .tc main_v31_1) = weightsV (atTc (W5 m)) c :=
  (Pipeline.withArrays_arr spec2 (launch2 (F := Ideal)).win.arr_inj c (W5 m c) _ 13).trans (arr2_13 (atTc (W5 m)) c (pad_zero m c))

theorem states_at (k : Fin 21) (B : Fin 64) (u : Fin 512) : statesV (atTc (W5 m)) c (ix3 k B u) = (Model.state (kin m c) B (k.val + 1)).1 u :=
  congrArg (fun s : (Fin 512 → EReal) × (Fin 512 → EReal) => s.1 u) (state_eq m c B (k.val + 1))

theorem weights_at (k : Fin 21) (B : Fin 64) (p : Fin 196) : weightsV (atTc (W5 m)) c (ix3 k B p) = Model.alphas (kin m c) (ix3 B k p) := by
  show HMul.hMul (α := EReal) (β := EReal) (γ := EReal) (Spec.att (Spec.score (parV (atTc (W5 m)) c) (attV (atTc (W5 m)) c B) (stateV (atTc (W5 m)) c B k.val).1) p)
    ((W5 m c (Proc.devRef .tc main_v21) : Vec Ideal S21x64x1 .f32) (ix3 k B 0)) = _
  rw [mask_eq, mul_bit, par_eq, att_eq, state_eq]
  rfl

theorem fcArr_at (x0 : Vec Ideal S1344x512 .f32) (x1 : Vec Ideal S512x10000 .f32) (x2 : Vec Ideal S1x10000 .f32) (x3 : Vec Ideal S1344x1 .f32) (r : Fin 1344) (v : Fin 10000) :
    fcArr x0 x1 x2 x3 (ix2 r v) = ((∑ k, x0 (ix2 r k) * x1 (ix2 k v)) + x2 (ix2 0 v)) * x3 (ix2 r 0) := rfl

variable (A : Arrs3 (F := Ideal) c) (hA : Named3 m false c A)
include hA

theorem W8_v35 : W8 m c A (Proc.devRef .tc main_v35) = fcArr (W7 m c (Proc.devRef .tc main_v32)) (W7 m c (Proc.devRef .tc main_arg20)) (W7 m c (Proc.devRef .tc main_v33)) (W7 m c (Proc.devRef .tc main_v34)) :=
  (Pipeline.withArrays_arr spec3 (launch3 (F := Ideal)).win.arr_inj c (W7 m c) A 4).trans ((hA 4 rfl).trans (arr3_4 (atTc (W7 m)) c))

/-- The first result. -/
theorem W9_v37 : (W9 m c A (Proc.devRef .tc main_v37) : Vec Ideal S64x21x10000 .f32) = Model.preds (kin m c) := by
  funext y
  obtain ⟨B, k, v, rfl⟩ : ∃ (B : Fin 64) (k : Fin 21) (v : Fin 10000), y = ix3 B k v := ⟨_, _, _, eq_ix3 y⟩
  refine (o4_v37 (W8 m c A) B k v).trans ?_
  rw [W8_v35 m c A hA]
  refine (fcArr_at _ _ _ _ _ v).trans ?_
  rw [show (W7 m c (Proc.devRef .tc main_v34) : Vec Ideal S1344x1 .f32) (ix2 ⟨64 * k.val + B.val, by omega⟩ 0) = _ from o3_v34 (W6 m c) k B,
    show (W7 m c (Proc.devRef .tc main_v33) : Vec Ideal S1x10000 .f32) (ix2 0 v) = _ from o3_v33 (W6 m c) v,
    W6_of m c main_v21 (by decide +kernel), mask_eq, mul_bit, W6_arg m c main_arg21 (by decide +kernel), W7_arg m c main_arg20 (by decide +kernel)]
  refine congrArg (fun s : EReal => Scalar.select (Model.act (kin m c) k B) (s + (kin m c).a21 (ix1 v)) (0 : EReal)) (Finset.sum_congr rfl fun u _ => ?_)
  refine congrArg (fun s : EReal => s * (kin m c).a20 (ix2 u v)) ?_
  refine (o3_v32 (W6 m c) k B u).trans ?_
  rw [W6_v31_0]
  exact states_at m c k B u

/-- The fourth. -/
theorem W9_v38 : (W9 m c A (Proc.devRef .tc main_v38) : Vec Ideal S64x21x196 .f32) = Model.alphas (kin m c) := by
  funext y
  obtain ⟨B, k, p, rfl⟩ : ∃ (B : Fin 64) (k : Fin 21) (p : Fin 196), y = ix3 B k p := ⟨_, _, _, eq_ix3 y⟩
  refine (o4_v38 (W8 m c A) B k p).trans ?_
  rw [W8_of m false c A hA main_v31_1 (by decide +kernel), W7_of m c main_v31_1 (by decide +kernel), W6_v31_1]
  exact weights_at m c k B p

/-- The third: the decode lengths. -/
theorem W9_v1 : (W9 m c A (Proc.devRef .tc main_v1) : Vec Ideal S64 .i32) = fun y => IntOp.subi ((kin m c).a2 y) 1#32 := by
  rw [W9_of m c A main_v1 (by decide +kernel), W8_of m false c A hA main_v1 (by decide +kernel), W7_of m c main_v1 (by decide +kernel), W6_of m c main_v1 (by decide +kernel),
    W5_of m c main_v1 (by decide +kernel), W4_v1]
  funext y
  obtain ⟨b, rfl⟩ : ∃ b : Fin 64, y = ix1 b := ⟨_, eq_ix1 y⟩
  exact o0_v1 (W0 m c) b

omit hA in
/-- The kernel's run, its four results by the arguments. -/
theorem results (ρ : Dev nD → PrngReg) (h : Cert.Pre_KernelIdeal m) :
    θ_run defs (onTc (τ := τ) (main (F := Ideal))) ⟨m, fun _ => 0, ρ⟩ (fun r => ∀ c : Dev nD,
      (r.2.mem ((c : Thread nD τ).loc main_v37) = Model.preds (kin m c)
        ∧ r.2.mem ((c : Thread nD τ).loc main_v1) = (fun y => IntOp.subi ((kin m c).a2 y) 1#32)
        ∧ r.2.mem ((c : Thread nD τ).loc main_v38) = Model.alphas (kin m c))
      ∧ ∀ a ∈ argRefs, r.2.mem ((c : Thread nD τ).loc a) = m ((c : Thread nD τ).loc a)) :=
  (θ_run defs _ _).mono (fun r h c => by
    obtain ⟨A, hA, hm⟩ := h.1 c
    exact ⟨⟨(hm _ (mem_bufs main_v37 (by decide +kernel))).trans (W9_v37 m c A hA), (hm _ (mem_bufs main_v1 (by decide +kernel))).trans (W9_v1 m c A hA),
      (hm _ (mem_bufs main_v38 (by decide +kernel))).trans (W9_v38 m c A hA)⟩,
      fun a ha => (hm _ (mem_bufs a (args_uc a ha))).trans (W9_arg m false c A hA a ha)⟩)
    (run m ρ false (rows_of m h) (fun c => body_named3 _ colsOnly c))

end Cert.KernelIdeal.Whole
end
-- ==== Proof.Value.RefStep.lean ====
/- One trip of the reference's loop, read at an index. -/
module

public import proofs.«01_k».proof.Proof.Ref
public import proofs.«01_k».proof.Proof.Spec
public import Idealize.ShloMosaic.Lib.ValueIdx
public import Idealize.ShloMosaic.Lib.Pointwise
public import Idealize.ShloMosaic.Lib.DynamicIndex
public import Idealize.ShloMosaic.Lib.WordCmp
public import Idealize.ShloMosaic.Lib.Ring
public import Idealize.ShloMosaic.Lib.Tactic
public import Idealize.ShloMosaic.Lib.Tactic.CleanTypes
public import Idealize.ShloMosaic.Lib.Affine

@[expose] public section

set_option maxRecDepth 16384

noncomputable section

namespace Cert.ReferenceIdeal.Whole

open Idealize.ShloMosaic Idealize.ShloMosaic.StableHlo Idealize.SL.Sem
open Cert.ReferenceIdeal Cert.ReferenceIdeal.Gen Cert.ReferenceIdeal.Value

variable (V : Valuation τ sig (Elt Ideal))

/-! ## The carried buffers -/

abbrev embB : Vec Ideal S21x64x512 .f32 := V (Proc.devRef .tc main_v29_0)
abbrev timeB : Vec Ideal S21 .i32 := V (Proc.devRef .tc main_v29_1)
abbrev lenB : Vec Ideal S64 .i32 := V (Proc.devRef .tc main_v29_2)
abbrev daWB : Vec Ideal S512x512 .f32 := V (Proc.devRef .tc main_v29_3)
abbrev dabB : Vec Ideal S512 .f32 := V (Proc.devRef .tc main_v29_4)
abbrev attB : Vec Ideal S64x196x512 .f32 := V (Proc.devRef .tc main_v29_5)
abbrev awB : Vec Ideal S512x1 .f32 := V (Proc.devRef .tc main_v29_6)
abbrev abB : Vec Ideal S1 .f32 := V (Proc.devRef .tc main_v29_7)
abbrev pixB : Vec Ideal S64x196x2048 .f32 := V (Proc.devRef .tc main_v29_8)
abbrev fWB : Vec Ideal S512x2048 .f32 := V (Proc.devRef .tc main_v29_9)
abbrev fbB : Vec Ideal S2048 .f32 := V (Proc.devRef .tc main_v29_10)
abbrev wihB : Vec Ideal S2560x2048 .f32 := V (Proc.devRef .tc main_v29_11)
abbrev bihB : Vec Ideal S2048 .f32 := V (Proc.devRef .tc main_v29_12)
abbrev whhB : Vec Ideal S512x2048 .f32 := V (Proc.devRef .tc main_v29_13)
abbrev bhhB : Vec Ideal S2048 .f32 := V (Proc.devRef .tc main_v29_14)
abbrev fcWB : Vec Ideal S512x10000 .f32 := V (Proc.devRef .tc main_v29_15)
abbrev fcbB : Vec Ideal S10000 .f32 := V (Proc.devRef .tc main_v29_16)
abbrev ctrB : Vec Ideal S_ .i32 := V (Proc.devRef .tc main_v29_17)
abbrev hB : Vec Ideal S64x512 .f32 := V (Proc.devRef .tc main_v29_18)
abbrev cB : Vec Ideal S64x512 .f32 := V (Proc.devRef .tc main_v29_19)
abbrev predB : Vec Ideal S21x64x10000 .f32 := V (Proc.devRef .tc main_v29_20)
abbrev alphaB : Vec Ideal S21x64x196 .f32 := V (Proc.devRef .tc main_v29_21)

/-- The weights a step uses, as the carried buffers hold them. -/
def parR : Spec.Par where
  daW k u := daWB V (ix2 k u)
  dab u := dabB V (ix1 u)
  aw u := awB V (ix2 u 0)
  ab := abB V (ix1 0)
  fW k j := fWB V (ix2 k j)
  fb j := fbB V (ix1 j)
  wz j n := wihB V (ix2 ⟨512 + j.val, by omega⟩ n)
  wh k n := whhB V (ix2 k n)

def attR (b : Fin 64) (p : Fin 196) (u : Fin 512) : EReal := attB V (ix3 b p u)
def pixR (b : Fin 64) (p : Fin 196) (j : Fin 2048) : EReal := pixB V (ix3 b p j)
def stR (b : Fin 64) : (Fin 512 → EReal) × (Fin 512 → EReal) := (fun u => hB V (ix2 b u), fun u => cB V (ix2 b u))
/-- The embedded word's share of the gates at step `k`, with both biases. -/
def xpR (k : Fin 21) (b : Fin 64) (n : Fin 2048) : EReal :=
  (∑ d : Fin 512, embB V (ix3 k b d) * wihB V (ix2 ⟨d.val, by omega⟩ n)) + (bihB V (ix1 n) + bhhB V (ix1 n))

theorem v49_at (b : Fin 64) (p : Fin 196) :
    (res_main_while0b_v49 V : Vec Ideal S64x196 .f32) (ix2 b p) = Spec.score (parR V) (attR V b) (stR V b).1 p := by
  unfold Spec.score Spec.dec parR attR stR
  pointwise [res_main_while0b_v49]
  refine congrArg (· + _) (Finset.sum_congr rfl fun x _ => mul_comm _ _)

theorem fold_top {n : ℕ} (e : Fin n → EReal) : Finset.univ.fold max ⊥ e = Spec.top e := rfl

theorem v56_at (b : Fin 64) (p : Fin 196) :
    (res_main_while0b_v56 V : Vec Ideal S64x196 .f32) (ix2 b p)
      = Ideal.exp (Spec.score (parR V) (attR V b) (stR V b).1 p - Spec.top (Spec.score (parR V) (attR V b) (stR V b).1)) := by
  unfold res_main_while0b_v56
  clean_types
  pointwise [v49_at]
  exact congrArg (fun m => Ideal.exp (_ - m)) (max_eq_right bot_le)

theorem v60_at (b : Fin 64) (p : Fin 196) :
    (res_main_while0b_v60 V : Vec Ideal S64x196 .f32) (ix2 b p) = Spec.att (Spec.score (parR V) (attR V b) (stR V b).1) p := by
  unfold Spec.att
  unfold res_main_while0b_v60
  clean_types
  pointwise [v56_at]

theorem start_at (k : Fin 21) : ((BitVec.ofNat 32 k.val : BitVec 32)).toInt = k.val := by
  rw [BitVec.toInt_eq_toNat_cond, BitVec.toNat_ofNat]; omega

/-- One step's layer cut out of the stack of layers. -/
theorem layer_slice {α : Type} {n m : ℕ} (x : (⟨3, ![21, n, m]⟩ : Shape).Idx → α) (start : Fin 3 → Int) (k : Fin 21)
    (h : (⟨3, ![21, n, m]⟩ : Shape).Slices (fun _ => 0) ⟨3, ![1, n, m]⟩) (h0 : start 0 = k.val) (h1 : start 1 = 0) (h2 : start 2 = 0) :
    Host.dynamicSlice ⟨3, ![1, n, m]⟩ x start h = fun j => x (ix3 k (j 1) (j 2)) := by
  funext j
  rw [Host.dynamicSlice_apply]
  refine congrArg x (funext fun a => Fin.ext ?_)
  have hk := k.isLt
  have hj : (j 0).val < 1 := (j 0).isLt
  have c0 := Host.clampedStart_of_le (s := ⟨3, ![21, n, m]⟩) (t := ⟨3, ![1, n, m]⟩) h.1 start 0 k.val h0 (by show k.val + 1 ≤ 21; omega)
  have c1 := Host.clampedStart_of_le (s := ⟨3, ![21, n, m]⟩) (t := ⟨3, ![1, n, m]⟩) h.1 start 1 0 h1 (by show 0 + n ≤ n; omega)
  have c2 := Host.clampedStart_of_le (s := ⟨3, ![21, n, m]⟩) (t := ⟨3, ![1, n, m]⟩) h.1 start 2 0 h2 (by show 0 + m ≤ m; omega)
  match a with
  | ⟨0, _⟩ => exact (congrArg (· + (j 0).val) c0).trans (by show k.val + (j 0).val = k.val; omega)
  | ⟨1, _⟩ => exact (congrArg (· + (j 1).val) c1).trans (Nat.zero_add _)
  | ⟨2, _⟩ => exact (congrArg (· + (j 2).val) c2).trans (Nat.zero_add _)

/-- One step's layer written into the stack of layers. -/
theorem layer_update {α : Type} {n m : ℕ} (x : (⟨3, ![21, n, m]⟩ : Shape).Idx → α) (upd : (⟨3, ![1, n, m]⟩ : Shape).Idx → α) (start : Fin 3 → Int) (k : Fin 21)
    (h : (⟨3, ![21, n, m]⟩ : Shape).Slices (fun _ => 0) ⟨3, ![1, n, m]⟩) (h0 : start 0 = k.val) (h1 : start 1 = 0) (h2 : start 2 = 0)
    (t : Fin 21) (b : Fin n) (v : Fin m) :
    Host.dynamicUpdateSlice x upd start h (ix3 t b v) = if t = k then upd (ix3 0 b v) else x (ix3 t b v) := by
  rw [Host.dynamicUpdateSlice_apply]
  have hk := k.isLt
  have hb := b.isLt
  have hv := v.isLt
  have c0 := Host.clampedStart_of_le (s := ⟨3, ![21, n, m]⟩) (t := ⟨3, ![1, n, m]⟩) h.1 start 0 k.val h0 (by show k.val + 1 ≤ 21; omega)
  have c1 := Host.clampedStart_of_le (s := ⟨3, ![21, n, m]⟩) (t := ⟨3, ![1, n, m]⟩) h.1 start 1 0 h1 (by show 0 + n ≤ n; omega)
  have c2 := Host.clampedStart_of_le (s := ⟨3, ![21, n, m]⟩) (t := ⟨3, ![1, n, m]⟩) h.1 start 2 0 h2 (by show 0 + m ≤ m; omega)
  by_cases e : t = k
  · subst e
    rw [if_pos rfl]
    refine (dif_pos fun a => ?_).trans ?_
    · match a with
      | ⟨0, _⟩ =>
        show Host.clampedStart ⟨3, ![21, n, m]⟩ ⟨3, ![1, n, m]⟩ h.1 start 0 ≤ t.val ∧ t.val < Host.clampedStart ⟨3, ![21, n, m]⟩ ⟨3, ![1, n, m]⟩ h.1 start 0 + 1
        rw [c0]; omega
      | ⟨1, _⟩ =>
        show Host.clampedStart ⟨3, ![21, n, m]⟩ ⟨3, ![1, n, m]⟩ h.1 start 1 ≤ b.val ∧ b.val < Host.clampedStart ⟨3, ![21, n, m]⟩ ⟨3, ![1, n, m]⟩ h.1 start 1 + n
        rw [c1]; omega
      | ⟨2, _⟩ =>
        show Host.clampedStart ⟨3, ![21, n, m]⟩ ⟨3, ![1, n, m]⟩ h.1 start 2 ≤ v.val ∧ v.val < Host.clampedStart ⟨3, ![21, n, m]⟩ ⟨3, ![1, n, m]⟩ h.1 start 2 + m
        rw [c2]; omega
    · refine congrArg upd (funext fun a => Fin.ext ?_)
      match a with
      | ⟨0, _⟩ =>
        show t.val - Host.clampedStart ⟨3, ![21, n, m]⟩ ⟨3, ![1, n, m]⟩ h.1 start 0 = 0
        rw [c0]; omega
      | ⟨1, _⟩ =>
        show b.val - Host.clampedStart ⟨3, ![21, n, m]⟩ ⟨3, ![1, n, m]⟩ h.1 start 1 = b.val
        rw [c1]; omega
      | ⟨2, _⟩ =>
        show v.val - Host.clampedStart ⟨3, ![21, n, m]⟩ ⟨3, ![1, n, m]⟩ h.1 start 2 = v.val
        rw [c2]; omega
  · rw [if_neg e]
    refine dif_neg fun hin => e (Fin.ext ?_)
    have hh : Host.clampedStart ⟨3, ![21, n, m]⟩ ⟨3, ![1, n, m]⟩ h.1 start 0 ≤ t.val ∧ t.val < Host.clampedStart ⟨3, ![21, n, m]⟩ ⟨3, ![1, n, m]⟩ h.1 start 0 + 1 := hin 0
    rw [c0] at hh; omega

/-- One step's entry cut out of a row of entries. -/
theorem entry_slice {α : Type} (x : (⟨1, ![21]⟩ : Shape).Idx → α) (start : Fin 1 → Int) (k : Fin 21)
    (h : (⟨1, ![21]⟩ : Shape).Slices (fun _ => 0) ⟨1, ![1]⟩) (h0 : start 0 = k.val) :
    Host.dynamicSlice ⟨1, ![1]⟩ x start h = fun _ => x (ix1 k) := by
  funext j
  rw [Host.dynamicSlice_apply]
  refine congrArg x (funext fun a => Fin.ext ?_)
  have hk := k.isLt
  have hj : (j 0).val < 1 := (j 0).isLt
  have c0 := Host.clampedStart_of_le (s := ⟨1, ![21]⟩) (t := ⟨1, ![1]⟩) h.1 start 0 k.val h0 (by show k.val + 1 ≤ 21; omega)
  match a with
  | ⟨0, _⟩ => exact (congrArg (· + (j 0).val) c0).trans (by show k.val + (j 0).val = k.val; omega)

theorem v82_at (b : Fin 64) (n : Fin 2048) (k : Fin 21) (hc : ctrB V = fun _ => BitVec.ofNat 32 k.val) :
    (res_main_while0b_v82 V : Vec Ideal S64x2048 .f32) (ix2 b n)
      = Spec.pre (parR V) (attR V b) (pixR V b) (xpR V k b) (stR V b).1 n := by
  unfold res_main_while0b_v82
  clean_types
  rw [layer_slice _ _ k _ ((congrArg BitVec.toInt (congrFun hc _)).trans (start_at k)) rfl rfl]
  pointwise [v60_at]
  unfold Spec.pre xpR Spec.gate Spec.ctx Ideal.logistic
  generalize Spec.att (Spec.score (parR V) (attR V b) (stR V b).1) = a
  have e : ∀ x : Fin 2048, (∑ p, pixB V (ix3 b p x) * a p) = ∑ p, a p * pixR V b p x :=
    fun x => Finset.sum_congr rfl fun p _ => mul_comm _ _
  simp only [e]
  unfold parR
  dsimp only [stR]
  abel

theorem v102_at (b : Fin 64) (u : Fin 512) (k : Fin 21) (hc : ctrB V = fun _ => BitVec.ofNat 32 k.val) :
    (res_main_while0b_v102 V : Vec Ideal S64x512 .f32) (ix2 b u)
      = Spec.cell (Spec.pre (parR V) (attR V b) (pixR V b) (xpR V k b) (stR V b).1) (stR V b).2 u := by
  have e := fun n => v82_at V b n k hc
  unfold res_main_while0b_v102
  clean_types
  pointwise [e]
  unfold Spec.cell Spec.at4
  simp only [Nat.zero_add]
  rfl

theorem v110_at (b : Fin 64) (u : Fin 512) (k : Fin 21) (hc : ctrB V = fun _ => BitVec.ofNat 32 k.val) :
    (res_main_while0b_v110 V : Vec Ideal S64x512 .f32) (ix2 b u)
      = Spec.hid (Spec.pre (parR V) (attR V b) (pixR V b) (xpR V k b) (stR V b).1) (stR V b).2 u := by
  have e := fun n => v82_at V b n k hc
  have e' := fun n => v102_at V b n k hc
  unfold res_main_while0b_v110
  clean_types
  pointwise [e, e']
  rfl

/-- Whether row `b` still decodes at step `k`. -/
def actR (k : Fin 21) (b : Fin 64) : BitVec 1 := IntOp.cmpi CmpIPredicate.sgt (lenB V (ix1 b)) (timeB V (ix1 k))

theorem v36_at (b : Fin 64) (k : Fin 21) (hc : ctrB V = fun _ => BitVec.ofNat 32 k.val) :
    (res_main_while0b_v36 V : Vec Ideal S64x1 .i1) (ix2 b 0) = actR V k b := by
  unfold res_main_while0b_v36
  clean_types
  rw [entry_slice _ _ k _ ((congrArg BitVec.toInt (congrFun hc _)).trans (start_at k))]
  pointwise
  rfl

theorem step18_at (b : Fin 64) (u : Fin 512) (k : Fin 21) (hc : ctrB V = fun _ => BitVec.ofNat 32 k.val) :
    (step_main_v29_18 V : Vec Ideal S64x512 .f32) (ix2 b u)
      = Scalar.select (actR V k b) (Spec.hid (Spec.pre (parR V) (attR V b) (pixR V b) (xpR V k b) (stR V b).1) (stR V b).2 u) ((stR V b).1 u) := by
  have e := fun n => v110_at V b n k hc
  have e' := v36_at V b k hc
  unfold step_main_v29_18
  clean_types
  rw [id_eq]
  pointwise [e, e']
  rfl

theorem step19_at (b : Fin 64) (u : Fin 512) (k : Fin 21) (hc : ctrB V = fun _ => BitVec.ofNat 32 k.val) :
    (step_main_v29_19 V : Vec Ideal S64x512 .f32) (ix2 b u)
      = Scalar.select (actR V k b) (Spec.cell (Spec.pre (parR V) (attR V b) (pixR V b) (xpR V k b) (stR V b).1) (stR V b).2 u) ((stR V b).2 u) := by
  have e := fun n => v102_at V b n k hc
  have e' := v36_at V b k hc
  unfold step_main_v29_19
  clean_types
  rw [id_eq]
  pointwise [e, e']
  rfl

theorem step20_at (b : Fin 64) (t : Fin 21) (v : Fin 10000) (k : Fin 21) (hc : ctrB V = fun _ => BitVec.ofNat 32 k.val) :
    (step_main_v29_20 V : Vec Ideal S21x64x10000 .f32) (ix3 t b v)
      = if t = k then Scalar.select (actR V k b) ((∑ u, Spec.hid (Spec.pre (parR V) (attR V b) (pixR V b) (xpR V k b) (stR V b).1) (stR V b).2 u * fcWB V (ix2 u v)) + fcbB V (ix1 v)) 0
        else predB V (ix3 t b v) := by
  have e := fun n => v110_at V b n k hc
  have e' := v36_at V b k hc
  unfold step_main_v29_20
  clean_types
  rw [id_eq, id_eq]
  refine (layer_update _ _ _ k _ ((congrArg BitVec.toInt (congrFun hc _)).trans (start_at k)) rfl rfl t b v).trans ?_
  refine if_congr Iff.rfl ?_ rfl
  pointwise [e, e']

theorem step21_at (b : Fin 64) (t : Fin 21) (p : Fin 196) (k : Fin 21) (hc : ctrB V = fun _ => BitVec.ofNat 32 k.val) :
    (step_main_v29_21 V : Vec Ideal S21x64x196 .f32) (ix3 t b p)
      = if t = k then Scalar.select (actR V k b) (Spec.att (Spec.score (parR V) (attR V b) (stR V b).1) p) 0
        else alphaB V (ix3 t b p) := by
  have e := fun n => v60_at V b n
  have e' := v36_at V b k hc
  unfold step_main_v29_21
  clean_types
  rw [id_eq, id_eq]
  refine (layer_update _ _ _ k _ ((congrArg BitVec.toInt (congrFun hc _)).trans (start_at k)) rfl rfl t b p).trans ?_
  refine if_congr Iff.rfl ?_ rfl
  pointwise [e, e']

end Cert.ReferenceIdeal.Whole
end
-- ==== Proof.Value.RefEntry.lean ====
/- What the reference's loop is entered with, by the arguments. -/
module

public import proofs.«01_k».proof.Proof.Ref
public import proofs.«01_k».proof.Proof.Model
public import proofs.«01_k».proof.Proof.Words
public import Idealize.ShloMosaic.Lib.StableHlo.RunRead
public import Idealize.ShloMosaic.Lib.StableHlo.ReadAt
public import proofs.«01_k».proof.Proof.Value.RefStep
public import Idealize.ShloMosaic.Lib.ValueIdx
public import Idealize.ShloMosaic.Lib.Pointwise
public import Idealize.ShloMosaic.Lib.DynamicIndex
public import Idealize.ShloMosaic.Lib.WordCmp
public import Idealize.ShloMosaic.Lib.Ring
public import Idealize.ShloMosaic.Lib.Tactic

@[expose] public section

set_option maxRecDepth 16384

noncomputable section

namespace Cert.ReferenceIdeal.Whole

open Idealize.ShloMosaic Idealize.ShloMosaic.StableHlo Idealize.SL.Sem
open Cert.ReferenceIdeal Cert.ReferenceIdeal.Gen Cert.ReferenceIdeal.Value

/-- The gather reads a whole row of the table, the one its word names, clamped. -/
theorem rows_at (x : Vec Ideal S10000x512 .f32) (idx : IVec S64x21x1 32) (b : Fin 64) (t : Fin 21) (d : Fin 512) :
    Host.gather gather_S10000x512_S64x21x1_S64x21x512_2_0_n_n_0_2_1512 x idx (ix3 b t d)
      = x (ix2 ⟨min (idx (ix3 b t 0)).toInt.toNat 9999, by omega⟩ d) := by
  unfold Host.gather
  refine congrArg x (funext fun a => Fin.ext ?_)
  match a with
  | ⟨0, _⟩ =>
    show GatherDims.start _ (ix3 b t d) idx 0 + GatherDims.batchCoord _ (ix3 b t d) 0 + GatherDims.offCoord _ (ix3 b t d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x512_S64x21x1_S64x21x512_2_0_n_n_0_2_1512.startIndexMap from List.mem_singleton.mpr rfl)]
    have hsi : gather_S10000x512_S64x21x1_S64x21x512_2_0_n_n_0_2_1512.siIdx (ix3 b t d) ⟨List.idxOf (0 : Fin 2) gather_S10000x512_S64x21x1_S64x21x512_2_0_n_n_0_2_1512.startIndexMap,
        List.idxOf_lt_length_iff.2 (List.mem_singleton.mpr rfl)⟩ = ix3 b t 0 := by
      funext b; refine Fin.ext ?_
      match b with
      | ⟨0, _⟩ => rfl
      | ⟨1, _⟩ => rfl
      | ⟨2, _⟩ => rfl
    rw [hsi]
    rfl
  | ⟨1, _⟩ =>
    show GatherDims.start _ (ix3 b t d) idx 1 + GatherDims.batchCoord _ (ix3 b t d) 1 + GatherDims.offCoord _ (ix3 b t d) 1 = d.val
    rw [GatherDims.batchCoord_eq_zero _ _ _ List.not_mem_nil]
    unfold GatherDims.start
    rw [dif_neg (show (1 : Fin 2) ∉ gather_S10000x512_S64x21x1_S64x21x512_2_0_n_n_0_2_1512.startIndexMap from fun h => absurd (List.mem_singleton.mp h) (by decide))]
    rw [Nat.zero_add]
    rfl

/-- The arguments, as a memory holds them. -/
def inp (m : (ℓ : Loc nD τ sig) → Buf (Elt Ideal) ℓ) (c : Dev nD) : Model.Inp where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)
  a20 := m ((c.tc : Thread nD τ).loc main_arg20)
  a21 := m ((c.tc : Thread nD τ).loc main_arg21)

variable (m : (ℓ : Loc nD τ sig) → Buf (Elt Ideal) ℓ) (c : Dev nD)

/-- The loop's entry. -/
def V0 : Valuation τ sig (Elt Ideal) := entryContents preI m c

theorem entry_par : parR (V0 m c) = Model.par (inp m c) := by
  unfold V0 parR daWB dabB awB abB fWB fbB wihB whhB
  simp only [entryContents, afterL_cons, afterL_nil]
  after_reads_simp
  rfl

theorem entry_pix (b : Fin 64) : pixR (V0 m c) b = Model.pix (inp m c) b := by
  unfold V0 pixR pixB
  simp only [entryContents, afterL_cons, afterL_nil]
  after_reads_simp
  rfl

theorem entry_att (b : Fin 64) : attR (V0 m c) b = Model.proj (inp m c) b := by
  funext p u
  unfold V0 attR attB
  simp only [entryContents, afterL_cons, afterL_nil]
  after_reads_simp
  rw [id_eq]
  pointwise
  rfl

/-- The mean's projections read the number of pixels as the real number it encodes. -/
theorem pixels_eq : Ideal.ofBits .f32 0x43440000#32 = ((196 : ℝ) : EReal) := by
  simp [Ideal.ofBits, Ideal.ieee, -EReal.coe_mul]; norm_num

theorem entry_h (b : Fin 64) (u : Fin 512) : hB (V0 m c) (ix2 b u) = Model.mean (inp m c) b (inp m c).a10 (inp m c).a11 u := by
  unfold V0 hB
  simp only [entryContents, afterL_cons, afterL_nil]
  after_reads_simp
  rw [id_eq]
  pointwise [pixels_eq]
  rfl

theorem entry_c (b : Fin 64) (u : Fin 512) : cB (V0 m c) (ix2 b u) = Model.mean (inp m c) b (inp m c).a12 (inp m c).a13 u := by
  unfold V0 cB
  simp only [entryContents, afterL_cons, afterL_nil]
  after_reads_simp
  rw [id_eq]
  pointwise [pixels_eq]
  rfl

theorem entry_act (k : Fin 21) (b : Fin 64) : actR (V0 m c) k b = Model.act (inp m c) k b := by
  unfold V0 actR lenB timeB
  simp only [entryContents, afterL_cons, afterL_nil]
  after_reads_simp
  rw [id_eq, id_eq]
  pointwise
  rfl

theorem entry_emb (hw : ∀ b t, ((inp m c).a1 (ix2 b t)).toNat < 10000) (k : Fin 21) (b : Fin 64) (d : Fin 512) :
    embB (V0 m c) (ix3 k b d) = (inp m c).a3 (ix2 (Model.word (inp m c) k b) d) := by
  unfold V0 embB
  simp only [entryContents, afterL_cons, afterL_nil]
  after_reads_simp
  rw [id_eq]
  pointwise
  refine (rows_at _ _ b k d).trans (congrArg (fun q => (inp m c).a3 (ix2 q d)) (Fin.ext ?_))
  pointwise
  have h : (launchContents m c (Proc.devRef .tc main_arg1) (ix2 b ⟨k.val, by omega⟩) : BitVec 32).toNat < 10000 := hw b ⟨k.val, by omega⟩
  rw [show (Model.word (inp m c) k b).val = (launchContents m c (Proc.devRef .tc main_arg1) (ix2 b ⟨k.val, by omega⟩) : BitVec 32).toNat % 10000 from rfl]
  generalize (launchContents m c (Proc.devRef .tc main_arg1) (ix2 b ⟨k.val, by omega⟩) : BitVec 32) = w at h ⊢
  rw [show IntOp.cmpi CmpIPredicate.slt w 0#32 = 0#1 from ?_, ValueIdx.select_zero, BitVec.toInt_eq_toNat_cond]
  · omega
  · show BitVec.ofBool (BitVec.slt w 0#32) = 0#1
    rw [show BitVec.slt w 0#32 = false from ?_]; rfl
    simp only [BitVec.slt, BitVec.toInt, BitVec.toNat_ofNat, decide_eq_false_iff_not]
    omega

/-- The embedded word's share of the gates, as the loop enters. -/
theorem entry_share (hw : ∀ b t, ((inp m c).a1 (ix2 b t)).toNat < 10000) (k : Fin 21) (b : Fin 64) :
    xpR (V0 m c) k b = Model.share (inp m c) b k.val := by
  funext n
  unfold xpR Model.share
  rw [dif_pos k.isLt]
  simp only [entry_emb m c hw]
  unfold V0 wihB bihB bhhB
  simp only [entryContents, afterL_cons, afterL_nil]
  after_reads_simp
  rfl

theorem entry_fcW : fcWB (V0 m c) = (inp m c).a20 := by
  unfold V0 fcWB
  simp only [entryContents, afterL_cons, afterL_nil]
  after_reads_simp
  rfl

theorem entry_fcb : fcbB (V0 m c) = (inp m c).a21 := by
  unfold V0 fcbB
  simp only [entryContents, afterL_cons, afterL_nil]
  after_reads_simp
  rfl

theorem entry_ctr : ctrB (V0 m c) = fun _ => 0#32 := ctr_entry m c

end Cert.ReferenceIdeal.Whole
end
-- ==== Proof.Value.RefRun.lean ====
/- The reference's loop by induction over its trips, and its results by the arguments. -/
module

public import proofs.«01_k».proof.Proof.Ref
public import proofs.«01_k».proof.Proof.Value.RefEntry
public import Idealize.ShloMosaic.Lib.ValueIdx
public import Idealize.ShloMosaic.Lib.Pointwise
public import Idealize.ShloMosaic.Lib.DynamicIndex
public import Idealize.ShloMosaic.Lib.WordCmp
public import Idealize.ShloMosaic.Lib.Ring
public import Idealize.ShloMosaic.Lib.Tactic

@[expose] public section

set_option maxRecDepth 16384

noncomputable section

namespace Cert.ReferenceIdeal.Whole

open Idealize.ShloMosaic Idealize.ShloMosaic.StableHlo Idealize.SL.Sem
open Cert.ReferenceIdeal Cert.ReferenceIdeal.Gen Cert.ReferenceIdeal.Value

/-! ## The words that tell which rows still decode -/

theorem bit_cases (x : BitVec 1) : x = 0#1 ∨ x = 1#1 := by
  rcases (by have := x.isLt; omega : x.toNat = 0 ∨ x.toNat = 1) with h | h
  · exact .inl (BitVec.eq_of_toNat_eq h)
  · exact .inr (BitVec.eq_of_toNat_eq h)

/-- A row that decodes at a step decoded at every earlier one. -/
theorem act_earlier (I : Model.Inp) (b : Fin 64) (k t : Fin 21) (ht : t.val ≤ k.val) (h : Model.act I k b = 1#1) : Model.act I t b = 1#1 := by
  unfold Model.act at h ⊢
  generalize IntOp.subi (I.a2 (ix1 b)) 1#32 = w at h ⊢
  have e : ∀ q : Fin 21, (IntOp.cmpi CmpIPredicate.sgt w (BitVec.ofNat 32 q.val) = 1#1) ↔ (q.val : Int) < w.toInt := by
    intro q
    show BitVec.ofBool (BitVec.slt (BitVec.ofNat 32 q.val) w) = 1#1 ↔ _
    rw [Words.bit_eq_one]
    simp only [BitVec.slt, decide_eq_true_eq]
    rw [start_at]
  rw [e] at h ⊢
  omega

/-! ## One trip -/

variable (V : Valuation τ sig (Elt Ideal))

theorem step_consts : parR (STEP V) = parR V ∧ attR (STEP V) = attR V ∧ pixR (STEP V) = pixR V ∧ xpR (STEP V) = xpR V
    ∧ actR (STEP V) = actR V ∧ fcWB (STEP V) = fcWB V ∧ fcbB (STEP V) = fcbB V := by
  refine ⟨?_, ?_, ?_, ?_, ?_, STEP_main_v29_15 V, STEP_main_v29_16 V⟩
  · unfold parR daWB dabB awB abB fWB fbB wihB whhB
    rw [STEP_main_v29_3, STEP_main_v29_4, STEP_main_v29_6, STEP_main_v29_7, STEP_main_v29_9, STEP_main_v29_10, STEP_main_v29_11, STEP_main_v29_13]
  · unfold attR attB; rw [STEP_main_v29_5]
  · unfold pixR pixB; rw [STEP_main_v29_8]
  · unfold xpR embB wihB bihB bhhB; rw [STEP_main_v29_0, STEP_main_v29_11, STEP_main_v29_12, STEP_main_v29_14]
  · unfold actR lenB timeB; rw [STEP_main_v29_1, STEP_main_v29_2]

/-- What holds as trip `k` begins. -/
structure Inv (I : Model.Inp) (k : ℕ) : Prop where
  par : parR V = Model.par I
  att : ∀ b, attR V b = Model.proj I b
  pix : ∀ b, pixR V b = Model.pix I b
  share : ∀ (q : Fin 21) b, xpR V q b = Model.share I b q.val
  act : ∀ q b, actR V q b = Model.act I q b
  fcW : fcWB V = I.a20
  fcb : fcbB V = I.a21
  ctr : ctrB V = fun _ => BitVec.ofNat 32 k
  state : ∀ b, (∀ t : Fin 21, t.val < k → Model.act I t b = 1#1) → stR V b = Model.state I b k
  preds : ∀ (t : Fin 21) b v, t.val < k → predB V (ix3 t b v) = Model.preds I (ix3 b t v)
  alphas : ∀ (t : Fin 21) b p, t.val < k → alphaB V (ix3 t b p) = Model.alphas I (ix3 b t p)

theorem inv_step (I : Model.Inp) (k : Fin 21) (h : Inv V I k.val) : Inv (STEP V) I (k.val + 1) := by
  obtain ⟨c1, c2, c3, c4, c5, c6, c7⟩ := step_consts V
  have hst : ∀ b, Model.act I k b = 1#1 → stR V b = Model.state I b k.val := fun b hb => h.state b fun t ht => act_earlier I b k t ht.le hb
  refine ⟨c1.trans h.par, fun b => (congrFun c2 b).trans (h.att b), fun b => (congrFun c3 b).trans (h.pix b), fun q b => (congrFun (congrFun c4 q) b).trans (h.share q b),
    fun q b => (congrFun (congrFun c5 q) b).trans (h.act q b), c6.trans h.fcW, c7.trans h.fcb, ?_, ?_, ?_, ?_⟩
  · refine (STEP_main_v29_17 V).trans ?_
    have e := h.ctr
    unfold step_main_v29_17
    funext j
    show ctrB V j + 1#32 = _
    rw [e]
    refine BitVec.eq_of_toNat_eq ?_
    simp only [BitVec.toNat_add, BitVec.toNat_ofNat]
    omega
  · intro b hb
    have hk : Model.act I k b = 1#1 := hb k (Nat.lt_succ_self _)
    have e := hst b hk
    have p1 : ∀ u, hB (STEP V) (ix2 b u) = (Model.state I b (k.val + 1)).1 u := by
      intro u
      rw [show hB (STEP V) = step_main_v29_18 V from STEP_main_v29_18 V, step18_at V b u k h.ctr, h.act, hk, ValueIdx.select_one, h.par, h.att, h.pix, h.share, e]
      rfl
    have p2 : ∀ u, cB (STEP V) (ix2 b u) = (Model.state I b (k.val + 1)).2 u := by
      intro u
      rw [show cB (STEP V) = step_main_v29_19 V from STEP_main_v29_19 V, step19_at V b u k h.ctr, h.act, hk, ValueIdx.select_one, h.par, h.att, h.pix, h.share, e]
      rfl
    exact Prod.ext (funext p1) (funext p2)
  · intro t b v ht
    rw [show predB (STEP V) = step_main_v29_20 V from STEP_main_v29_20 V, step20_at V b t v k h.ctr]
    by_cases e : t = k
    · rw [if_pos e, h.act, e]
      unfold Model.preds
      show _ = Scalar.select (Model.act I k b) _ _
      rcases bit_cases (Model.act I k b) with hk | hk
      · rw [hk, ValueIdx.select_zero, ValueIdx.select_zero]
      · rw [hk, ValueIdx.select_one, ValueIdx.select_one, h.par, h.att, h.pix, h.share, hst b hk, h.fcW, h.fcb]
        rfl
    · rw [if_neg e]
      exact h.preds t b v (by have : t.val ≠ k.val := fun q => e (Fin.ext q); omega)
  · intro t b p ht
    rw [show alphaB (STEP V) = step_main_v29_21 V from STEP_main_v29_21 V, step21_at V b t p k h.ctr]
    by_cases e : t = k
    · rw [if_pos e, h.act, e]
      unfold Model.alphas
      show _ = Scalar.select (Model.act I k b) _ _
      rcases bit_cases (Model.act I k b) with hk | hk
      · rw [hk, ValueIdx.select_zero, ValueIdx.select_zero]
      · rw [hk, ValueIdx.select_one, ValueIdx.select_one, h.par, h.att, hst b hk]
        rfl
    · rw [if_neg e]
      exact h.alphas t b p (by have : t.val ≠ k.val := fun q => e (Fin.ext q); omega)

/-! ## All trips, and the results -/

variable (m : (ℓ : Loc nD τ sig) → Buf (Elt Ideal) ℓ) (c : Dev nD)

theorem inv_entry (hw : ∀ b t, ((inp m c).a1 (ix2 b t)).toNat < 10000) : Inv (V0 m c) (inp m c) 0 :=
  ⟨entry_par m c, entry_att m c, entry_pix m c, entry_share m c hw, entry_act m c, entry_fcW m c, entry_fcb m c, entry_ctr m c,
    fun b _ => Prod.ext (funext (entry_h m c b)) (funext (entry_c m c b)), fun t _ _ h => absurd h (Nat.not_lt_zero _), fun t _ _ h => absurd h (Nat.not_lt_zero _)⟩

theorem inv_all (hw : ∀ b t, ((inp m c).a1 (ix2 b t)).toNat < 10000) : ∀ k, k ≤ 21 → Inv (STEP^[k] (V0 m c)) (inp m c) k
  | 0, _ => inv_entry m c hw
  | k + 1, hk => by
    rw [Function.iterate_succ_apply']
    exact inv_step _ _ ⟨k, hk⟩ (inv_all hw k (Nat.le_of_succ_le hk))

/-- The buffers the reference's results are read from, at the end. -/
theorem final_preds (hw : ∀ b t, ((inp m c).a1 (ix2 b t)).toNat < 10000) :
    (finalContents condOps preI bodyI postI 21 m c (Proc.devRef .tc main_v30) : Vec Ideal S64x21x10000 .f32) = Model.preds (inp m c) := by
  have hI := inv_all m c hw 21 le_rfl
  have e : (atK m 21 c (Proc.devRef .tc main_v29_20) : Vec Ideal S21x64x10000 .f32) = predB (STEP^[21] (V0 m c)) :=
    atK_agree m c 21 main_v29_20 (by decide)
  unfold finalContents
  simp only [afterL_cons, afterL_nil]
  after_reads_simp
  refine (congrArg (fun X => transpose S64x21x10000 [1, 0, 2] X transposes_S21x64x10000_S64x21x10000_1_0_2) e).trans ?_
  funext y
  obtain ⟨b, t, v, rfl⟩ : ∃ b t v, y = ix3 b t v := ⟨_, _, _, eq_ix3 y⟩
  pointwise
  exact hI.preds t b v t.isLt

theorem final_alphas (hw : ∀ b t, ((inp m c).a1 (ix2 b t)).toNat < 10000) :
    (finalContents condOps preI bodyI postI 21 m c (Proc.devRef .tc main_v31) : Vec Ideal S64x21x196 .f32) = Model.alphas (inp m c) := by
  have hI := inv_all m c hw 21 le_rfl
  have e : (atK m 21 c (Proc.devRef .tc main_v29_21) : Vec Ideal S21x64x196 .f32) = alphaB (STEP^[21] (V0 m c)) :=
    atK_agree m c 21 main_v29_21 (by decide)
  unfold finalContents
  simp only [afterL_cons, afterL_nil]
  after_reads_simp
  refine (congrArg (fun X => transpose S64x21x196 [1, 0, 2] X transposes_S21x64x196_S64x21x196_1_0_2) e).trans ?_
  funext y
  obtain ⟨b, t, p, rfl⟩ : ∃ b t p, y = ix3 b t p := ⟨_, _, _, eq_ix3 y⟩
  pointwise
  exact hI.alphas t b p t.isLt

/-- The decode lengths, computed before the loop and kept by it. -/
theorem final_lens : (finalContents condOps preI bodyI postI 21 m c (Proc.devRef .tc main_v1) : Vec Ideal S64 .i32) = fun y => IntOp.subi ((inp m c).a2 y) 1#32 := by
  show after hostOps0_1 (after condOps (atK m 21 c)) (Proc.devRef .tc main_v1) = _
  rw [after_of_writes_sub hostOps0_1 _ hostOps0_1_writes (by decide +kernel), after_of_writes_sub condOps _ condOps_writes (by decide +kernel), trips_keep m c main_v1 (by decide +kernel)]
  simp only [entryContents, afterL_cons, afterL_nil]
  after_reads_simp
  funext y
  obtain ⟨b, rfl⟩ : ∃ b : Fin 64, y = ix1 b := ⟨_, eq_ix1 y⟩
  pointwise
  rfl

/-- The reference's run, its four results by the arguments. -/
theorem results (ρ : Dev nD → PrngReg) (hw : ∀ c b t, ((inp m c).a1 (ix2 b t)).toNat < 10000) :
    θ_run defs (onTc (τ := τ) (main (F := Ideal))) ⟨m, fun _ => 0, ρ⟩ (fun r => ∀ c : Dev nD,
      (r.2.mem ((c.tc : Thread nD τ).loc main_v30) = Model.preds (inp m c)
        ∧ r.2.mem ((c.tc : Thread nD τ).loc main_v1) = (fun y => IntOp.subi ((inp m c).a2 y) 1#32)
        ∧ r.2.mem ((c.tc : Thread nD τ).loc main_v31) = Model.alphas (inp m c))
      ∧ ∀ a ∈ argRefs, r.2.mem ((c.tc : Thread nD τ).loc a) = m ((c.tc : Thread nD τ).loc a)) :=
  (θ_run defs _ _).mono (fun r h c =>
    ⟨⟨(h c main_v30 (by decide +kernel)).trans (final_preds m c (hw c)), (h c main_v1 (by decide +kernel)).trans (final_lens m c), (h c main_v31 (by decide +kernel)).trans (final_alphas m c (hw c))⟩,
      fun a ha => by
        obtain ⟨ht, h0, h1, hs⟩ := args_off a ha
        exact (h c a hs).trans (final_keeps m c a ht h0 h1)⟩) (run_fold m ρ)

end Cert.ReferenceIdeal.Whole
end
-- ==== Proof.Value.Algebraic.lean ====
/- The two programs' results are equal: each is the model's, at the same arguments. -/
module

public import proofs.«01_k».proof.Defs
public import proofs.«01_k».proof.Proof.Value.Host3
public import proofs.«01_k».proof.Proof.Value.RefRun
public import proofs.«01_k».proof.Proof.Gen.Pre_captions_in_range

@[expose] public section

noncomputable section

namespace Cert.Both

open Idealize.ShloMosaic Idealize.SL.Sem

/-- From memories agreeing on the arguments, with every caption word a row of the table, the results agree. -/
theorem algebraic : Cert.algebraic_KernelIdeal_ReferenceIdeal := fun m ρ m' ρ' hpre hag => by
  have hin : ∀ c, ReferenceIdeal.Whole.inp m' c = KernelIdeal.Whole.kin m c := fun c => by
    obtain ⟨h0, h1, h2, h3, h4, h5, h6, h7, h8, h9, h10, h11, h12, h13, h14, h15, h16, h17, h18, h19, h20, h21⟩ := hag c
    unfold ReferenceIdeal.Whole.inp KernelIdeal.Whole.kin
    exact Model.Inp.mk.injEq .. |>.mpr ⟨h0, h1, h2, h3, h4, h5, h6, h7, h8, h9, h10, h11, h12, h13, h14, h15, h16, h17, h18, h19, h20, h21⟩
  have hw : ∀ c b t, ((ReferenceIdeal.Whole.inp m' c).a1 (ix2 b t)).toNat < 10000 := fun c b t => by
    rw [hin c]
    exact Words.lt_of_pre _ (congrFun (hpre c) (ix2 b t))
  refine ⟨fun c => Model.preds (KernelIdeal.Whole.kin m c), fun c => (KernelIdeal.Whole.kin m c).a1, fun c => fun y => IntOp.subi ((KernelIdeal.Whole.kin m c).a2 y) 1#32,
    fun c => Model.alphas (KernelIdeal.Whole.kin m c), (θ_run _ _ _).mono (fun r h c => ?_) (KernelIdeal.Whole.results m ρ hpre), (θ_run _ _ _).mono (fun r h c => ?_) (ReferenceIdeal.Whole.results m' ρ' hw)⟩
  · obtain ⟨⟨r0, r2, r3⟩, ha⟩ := h c
    have k := ha
    simp only [List.forall_mem_cons, List.not_mem_nil, false_imp_iff, implies_true, and_true] at k
    exact ⟨r0, k.2.1, r2, r3, k⟩
  · obtain ⟨⟨r0, r2, r3⟩, ha⟩ := h c
    have k := ha
    simp only [List.forall_mem_cons, List.not_mem_nil, false_imp_iff, implies_true, and_true] at k
    rw [hin c] at r0 r2 r3
    exact ⟨r0, k.2.1.trans (hag c).2.1, r2, r3, k⟩

end Cert.Both
end
-- ==== Proof.lean ====
/-
  The claim: the two kernels' frames, the reference's, the idealisation's two named constants, and that the idealised kernel
  and the reference compute the same results.
-/
module

public import proofs.«01_k».proof.Defs
public import proofs.«01_k».proof.Proof.Ideal.Frame
public import proofs.«01_k».proof.Proof.Bits.Frame
public import proofs.«01_k».proof.Proof.Ref
public import proofs.«01_k».proof.Proof.Value.Algebraic

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_captions_in_range.Gen.facts,
    Cert.Kernel.Whole.frame, Cert.KernelIdeal.Whole.frame, Cert.ReferenceIdeal.Whole.frame, fun m ρ _ => Cert.ReferenceIdeal.Whole.frame m ρ trivial,
    ⟨IdealRules.named_const.statement Cert.KernelIdeal.κ "inv196" .f32 0x3BA72F05#32 ((1 / 196 : ℝ) : EReal) rfl,
      IdealRules.named_const.statement Cert.KernelIdeal.κ "mask" .f32 0xF149F2CA#32 ⊥ rfl⟩,
    Cert.Both.algebraic⟩

end Cert.Proof

end
